-- ==== Defs.lean ====
def Pre_Moe (m : (ℓ : Loc Cert.Moe.nD Cert.Moe.τ Cert.Moe.sig) → Buf (Elt Bits) ℓ) : Prop :=
  True

def Pre_MoeIdeal (m : (ℓ : Loc Cert.MoeIdeal.nD Cert.MoeIdeal.τ Cert.MoeIdeal.sig) → Buf (Elt Ideal) ℓ) : Prop :=
  True

def Pre_MoeIdeal_gates_weights [hPre_gates_weights : Cert.Pre_gates_weights.Facts] (m : (ℓ : Loc Cert.MoeIdeal.nD Cert.MoeIdeal.τ Cert.MoeIdeal.sig) → Buf (Elt Ideal) ℓ) : Prop :=
  ∀ c : Dev Cert.MoeIdeal.nD,
    (Cert.Pre_gates_weights.fn (F := Ideal) (m ((c.tc : Thread Cert.MoeIdeal.nD Cert.MoeIdeal.τ).loc Cert.MoeIdeal.main_arg0)) (m ((c.tc : Thread Cert.MoeIdeal.nD Cert.MoeIdeal.τ).loc Cert.MoeIdeal.main_arg1)) (m ((c.tc : Thread Cert.MoeIdeal.nD Cert.MoeIdeal.τ).loc Cert.MoeIdeal.main_arg2)) (m ((c.tc : Thread Cert.MoeIdeal.nD Cert.MoeIdeal.τ).loc Cert.MoeIdeal.main_arg3)) (m ((c.tc : Thread Cert.MoeIdeal.nD Cert.MoeIdeal.τ).loc Cert.MoeIdeal.main_arg4)) (m ((c.tc : Thread Cert.MoeIdeal.nD Cert.MoeIdeal.τ).loc Cert.MoeIdeal.main_arg5)) (m ((c.tc : Thread Cert.MoeIdeal.nD Cert.MoeIdeal.τ).loc Cert.MoeIdeal.main_arg6))).1 = (fun _ => 1#1)
    ∧ (Cert.Pre_gates_weights.fn (F := Ideal) (m ((c.tc : Thread Cert.MoeIdeal.nD Cert.MoeIdeal.τ).loc Cert.MoeIdeal.main_arg0)) (m ((c.tc : Thread Cert.MoeIdeal.nD Cert.MoeIdeal.τ).loc Cert.MoeIdeal.main_arg1)) (m ((c.tc : Thread Cert.MoeIdeal.nD Cert.MoeIdeal.τ).loc Cert.MoeIdeal.main_arg2)) (m ((c.tc : Thread Cert.MoeIdeal.nD Cert.MoeIdeal.τ).loc Cert.MoeIdeal.main_arg3)) (m ((c.tc : Thread Cert.MoeIdeal.nD Cert.MoeIdeal.τ).loc Cert.MoeIdeal.main_arg4)) (m ((c.tc : Thread Cert.MoeIdeal.nD Cert.MoeIdeal.τ).loc Cert.MoeIdeal.main_arg5)) (m ((c.tc : Thread Cert.MoeIdeal.nD Cert.MoeIdeal.τ).loc Cert.MoeIdeal.main_arg6))).2 = (fun _ => 1#1)

def Pre_MoeReferenceIdeal (m : (ℓ : Loc Cert.MoeReferenceIdeal.nD Cert.MoeReferenceIdeal.τ Cert.MoeReferenceIdeal.sig) → Buf (Elt Ideal) ℓ) : Prop :=
  True

def Pre_MoeReferenceIdeal_gates_weights [hPre_gates_weights : Cert.Pre_gates_weights.Facts] (m : (ℓ : Loc Cert.MoeReferenceIdeal.nD Cert.MoeReferenceIdeal.τ Cert.MoeReferenceIdeal.sig) → Buf (Elt Ideal) ℓ) : Prop :=
  ∀ c : Dev Cert.MoeReferenceIdeal.nD,
    (Cert.Pre_gates_weights.fn (F := Ideal) (m ((c.tc : Thread Cert.MoeReferenceIdeal.nD Cert.MoeReferenceIdeal.τ).loc Cert.MoeReferenceIdeal.main_arg0)) (m ((c.tc : Thread Cert.MoeReferenceIdeal.nD Cert.MoeReferenceIdeal.τ).loc Cert.MoeReferenceIdeal.main_arg1)) (m ((c.tc : Thread Cert.MoeReferenceIdeal.nD Cert.MoeReferenceIdeal.τ).loc Cert.MoeReferenceIdeal.main_arg2)) (m ((c.tc : Thread Cert.MoeReferenceIdeal.nD Cert.MoeReferenceIdeal.τ).loc Cert.MoeReferenceIdeal.main_arg3)) (m ((c.tc : Thread Cert.MoeReferenceIdeal.nD Cert.MoeReferenceIdeal.τ).loc Cert.MoeReferenceIdeal.main_arg4)) (m ((c.tc : Thread Cert.MoeReferenceIdeal.nD Cert.MoeReferenceIdeal.τ).loc Cert.MoeReferenceIdeal.main_arg5)) (m ((c.tc : Thread Cert.MoeReferenceIdeal.nD Cert.MoeReferenceIdeal.τ).loc Cert.MoeReferenceIdeal.main_arg6))).1 = (fun _ => 1#1)
    ∧ (Cert.Pre_gates_weights.fn (F := Ideal) (m ((c.tc : Thread Cert.MoeReferenceIdeal.nD Cert.MoeReferenceIdeal.τ).loc Cert.MoeReferenceIdeal.main_arg0)) (m ((c.tc : Thread Cert.MoeReferenceIdeal.nD Cert.MoeReferenceIdeal.τ).loc Cert.MoeReferenceIdeal.main_arg1)) (m ((c.tc : Thread Cert.MoeReferenceIdeal.nD Cert.MoeReferenceIdeal.τ).loc Cert.MoeReferenceIdeal.main_arg2)) (m ((c.tc : Thread Cert.MoeReferenceIdeal.nD Cert.MoeReferenceIdeal.τ).loc Cert.MoeReferenceIdeal.main_arg3)) (m ((c.tc : Thread Cert.MoeReferenceIdeal.nD Cert.MoeReferenceIdeal.τ).loc Cert.MoeReferenceIdeal.main_arg4)) (m ((c.tc : Thread Cert.MoeReferenceIdeal.nD Cert.MoeReferenceIdeal.τ).loc Cert.MoeReferenceIdeal.main_arg5)) (m ((c.tc : Thread Cert.MoeReferenceIdeal.nD Cert.MoeReferenceIdeal.τ).loc Cert.MoeReferenceIdeal.main_arg6))).2 = (fun _ => 1#1)

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnReferenceIdeal (m : (ℓ : Loc Cert.FfnReferenceIdeal.nD Cert.FfnReferenceIdeal.τ Cert.FfnReferenceIdeal.sig) → Buf (Elt Ideal) ℓ) : Prop :=
  True

def Pre_Mix (m : (ℓ : Loc Cert.Mix.nD Cert.Mix.τ Cert.Mix.sig) → Buf (Elt Bits) ℓ) : Prop :=
  True

def Pre_MixIdeal (m : (ℓ : Loc Cert.MixIdeal.nD Cert.MixIdeal.τ Cert.MixIdeal.sig) → Buf (Elt Ideal) ℓ) : Prop :=
  True

def Pre_MixReferenceIdeal (m : (ℓ : Loc Cert.MixReferenceIdeal.nD Cert.MixReferenceIdeal.τ Cert.MixReferenceIdeal.sig) → Buf (Elt Ideal) ℓ) : Prop :=
  True

def Pre_Experts (m : (ℓ : Loc Cert.Experts.nD Cert.Experts.τ Cert.Experts.sig) → Buf (Elt Bits) ℓ) : Prop :=
  True

def Pre_ExpertsIdeal (m : (ℓ : Loc Cert.ExpertsIdeal.nD Cert.ExpertsIdeal.τ Cert.ExpertsIdeal.sig) → Buf (Elt Ideal) ℓ) : Prop :=
  True

def Pre_ExpertsIdeal_slots_counted [hPre_slots_counted : Cert.Pre_slots_counted.Facts] (m : (ℓ : Loc Cert.ExpertsIdeal.nD Cert.ExpertsIdeal.τ Cert.ExpertsIdeal.sig) → Buf (Elt Ideal) ℓ) : Prop :=
  ∀ c : Dev Cert.ExpertsIdeal.nD,
    (Cert.Pre_slots_counted.fn (F := Ideal) (m ((c.tc : Thread Cert.ExpertsIdeal.nD Cert.ExpertsIdeal.τ).loc Cert.ExpertsIdeal.main_arg0)) (m ((c.tc : Thread Cert.ExpertsIdeal.nD Cert.ExpertsIdeal.τ).loc Cert.ExpertsIdeal.main_arg1)) (m ((c.tc : Thread Cert.ExpertsIdeal.nD Cert.ExpertsIdeal.τ).loc Cert.ExpertsIdeal.main_arg2)) (m ((c.tc : Thread Cert.ExpertsIdeal.nD Cert.ExpertsIdeal.τ).loc Cert.ExpertsIdeal.main_arg3)) (m ((c.tc : Thread Cert.ExpertsIdeal.nD Cert.ExpertsIdeal.τ).loc Cert.ExpertsIdeal.main_arg4)) (m ((c.tc : Thread Cert.ExpertsIdeal.nD Cert.ExpertsIdeal.τ).loc Cert.ExpertsIdeal.main_arg5))) = (fun _ => 1#1)

def Pre_ExpertsReferenceIdeal (m : (ℓ : Loc Cert.ExpertsReferenceIdeal.nD Cert.ExpertsReferenceIdeal.τ Cert.ExpertsReferenceIdeal.sig) → Buf (Elt Ideal) ℓ) : Prop :=
  True

def Pre_ExpertsReferenceIdeal_slots_counted [hPre_slots_counted : Cert.Pre_slots_counted.Facts] (m : (ℓ : Loc Cert.ExpertsReferenceIdeal.nD Cert.ExpertsReferenceIdeal.τ Cert.ExpertsReferenceIdeal.sig) → Buf (Elt Ideal) ℓ) : Prop :=
  ∀ c : Dev Cert.ExpertsReferenceIdeal.nD,
    (Cert.Pre_slots_counted.fn (F := Ideal) (m ((c.tc : Thread Cert.ExpertsReferenceIdeal.nD Cert.ExpertsReferenceIdeal.τ).loc Cert.ExpertsReferenceIdeal.main_arg0)) (m ((c.tc : Thread Cert.ExpertsReferenceIdeal.nD Cert.ExpertsReferenceIdeal.τ).loc Cert.ExpertsReferenceIdeal.main_arg1)) (m ((c.tc : Thread Cert.ExpertsReferenceIdeal.nD Cert.ExpertsReferenceIdeal.τ).loc Cert.ExpertsReferenceIdeal.main_arg2)) (m ((c.tc : Thread Cert.ExpertsReferenceIdeal.nD Cert.ExpertsReferenceIdeal.τ).loc Cert.ExpertsReferenceIdeal.main_arg3)) (m ((c.tc : Thread Cert.ExpertsReferenceIdeal.nD Cert.ExpertsReferenceIdeal.τ).loc Cert.ExpertsReferenceIdeal.main_arg4)) (m ((c.tc : Thread Cert.ExpertsReferenceIdeal.nD Cert.ExpertsReferenceIdeal.τ).loc Cert.ExpertsReferenceIdeal.main_arg5))) = (fun _ => 1#1)

def Pre_Combine (m : (ℓ : Loc Cert.Combine.nD Cert.Combine.τ Cert.Combine.sig) → Buf (Elt Bits) ℓ) : Prop :=
  True

def Pre_CombineIdeal (m : (ℓ : Loc Cert.CombineIdeal.nD Cert.CombineIdeal.τ Cert.CombineIdeal.sig) → Buf (Elt Ideal) ℓ) : Prop :=
  True

def Pre_CombineReferenceIdeal (m : (ℓ : Loc Cert.CombineReferenceIdeal.nD Cert.CombineReferenceIdeal.τ Cert.CombineReferenceIdeal.sig) → Buf (Elt Ideal) ℓ) : Prop :=
  True

def quiescent_Moe [hMoe : Cert.Moe.Facts] : Prop :=
  ∀ (m : (ℓ : Loc Cert.Moe.nD Cert.Moe.τ Cert.Moe.sig) → Buf (Elt Bits) ℓ) (g : Dev Cert.Moe.nD → PrngReg), Pre_Moe m →
    θ_run (Cert.Moe.defs (F := Bits)) (onTc (τ := Cert.Moe.τ) (Cert.Moe.main (F := Bits))) ⟨m, fun _ => 0, g⟩ (fun r => (∀ c : Dev Cert.Moe.nD,
      r.2.mem ((c.tc : Thread Cert.Moe.nD Cert.Moe.τ).loc Cert.Moe.main_arg0) = m ((c.tc : Thread Cert.Moe.nD Cert.Moe.τ).loc Cert.Moe.main_arg0)
      ∧ r.2.mem ((c.tc : Thread Cert.Moe.nD Cert.Moe.τ).loc Cert.Moe.main_arg1) = m ((c.tc : Thread Cert.Moe.nD Cert.Moe.τ).loc Cert.Moe.main_arg1)
      ∧ r.2.mem ((c.tc : Thread Cert.Moe.nD Cert.Moe.τ).loc Cert.Moe.main_arg2) = m ((c.tc : Thread Cert.Moe.nD Cert.Moe.τ).loc Cert.Moe.main_arg2)
      ∧ r.2.mem ((c.tc : Thread Cert.Moe.nD Cert.Moe.τ).loc Cert.Moe.main_arg3) = m ((c.tc : Thread Cert.Moe.nD Cert.Moe.τ).loc Cert.Moe.main_arg3)
      ∧ r.2.mem ((c.tc : Thread Cert.Moe.nD Cert.Moe.τ).loc Cert.Moe.main_arg4) = m ((c.tc : Thread Cert.Moe.nD Cert.Moe.τ).loc Cert.Moe.main_arg4)
      ∧ r.2.mem ((c.tc : Thread Cert.Moe.nD Cert.Moe.τ).loc Cert.Moe.main_arg5) = m ((c.tc : Thread Cert.Moe.nD Cert.Moe.τ).loc Cert.Moe.main_arg5)
      ∧ r.2.mem ((c.tc : Thread Cert.Moe.nD Cert.Moe.τ).loc Cert.Moe.main_arg6) = m ((c.tc : Thread Cert.Moe.nD Cert.Moe.τ).loc Cert.Moe.main_arg6))
      ∧ r.2.sem = fun _ => 0)

def quiescent_MoeIdeal [hMoeIdeal : Cert.MoeIdeal.Facts] : Prop :=
  ∀ (m : (ℓ : Loc Cert.MoeIdeal.nD Cert.MoeIdeal.τ Cert.MoeIdeal.sig) → Buf (Elt Ideal) ℓ) (g : Dev Cert.MoeIdeal.nD → PrngReg), Pre_MoeIdeal m →
    θ_run (Cert.MoeIdeal.defs (F := Ideal)) (onTc (τ := Cert.MoeIdeal.τ) (Cert.MoeIdeal.main (F := Ideal))) ⟨m, fun _ => 0, g⟩ (fun r => (∀ c : Dev Cert.MoeIdeal.nD,
      r.2.mem ((c.tc : Thread Cert.MoeIdeal.nD Cert.MoeIdeal.τ).loc Cert.MoeIdeal.main_arg0) = m ((c.tc : Thread Cert.MoeIdeal.nD Cert.MoeIdeal.τ).loc Cert.MoeIdeal.main_arg0)
      ∧ r.2.mem ((c.tc : Thread Cert.MoeIdeal.nD Cert.MoeIdeal.τ).loc Cert.MoeIdeal.main_arg1) = m ((c.tc : Thread Cert.MoeIdeal.nD Cert.MoeIdeal.τ).loc Cert.MoeIdeal.main_arg1)
      ∧ r.2.mem ((c.tc : Thread Cert.MoeIdeal.nD Cert.MoeIdeal.τ).loc Cert.MoeIdeal.main_arg2) = m ((c.tc : Thread Cert.MoeIdeal.nD Cert.MoeIdeal.τ).loc Cert.MoeIdeal.main_arg2)
      ∧ r.2.mem ((c.tc : Thread Cert.MoeIdeal.nD Cert.MoeIdeal.τ).loc Cert.MoeIdeal.main_arg3) = m ((c.tc : Thread Cert.MoeIdeal.nD Cert.MoeIdeal.τ).loc Cert.MoeIdeal.main_arg3)
      ∧ r.2.mem ((c.tc : Thread Cert.MoeIdeal.nD Cert.MoeIdeal.τ).loc Cert.MoeIdeal.main_arg4) = m ((c.tc : Thread Cert.MoeIdeal.nD Cert.MoeIdeal.τ).loc Cert.MoeIdeal.main_arg4)
      ∧ r.2.mem ((c.tc : Thread Cert.MoeIdeal.nD Cert.MoeIdeal.τ).loc Cert.MoeIdeal.main_arg5) = m ((c.tc : Thread Cert.MoeIdeal.nD Cert.MoeIdeal.τ).loc Cert.MoeIdeal.main_arg5)
      ∧ r.2.mem ((c.tc : Thread Cert.MoeIdeal.nD Cert.MoeIdeal.τ).loc Cert.MoeIdeal.main_arg6) = m ((c.tc : Thread Cert.MoeIdeal.nD Cert.MoeIdeal.τ).loc Cert.MoeIdeal.main_arg6))
      ∧ r.2.sem = fun _ => 0)

def quiescent_MoeIdeal_pre_gates_weights [hMoeIdeal : Cert.MoeIdeal.Facts] [hPre_gates_weights : Cert.Pre_gates_weights.Facts] : Prop :=
  ∀ (m : (ℓ : Loc Cert.MoeIdeal.nD Cert.MoeIdeal.τ Cert.MoeIdeal.sig) → Buf (Elt Ideal) ℓ) (g : Dev Cert.MoeIdeal.nD → PrngReg), Pre_MoeIdeal_gates_weights m →
    θ_run (Cert.MoeIdeal.defs (F := Ideal)) (onTc (τ := Cert.MoeIdeal.τ) (Cert.MoeIdeal.main (F := Ideal))) ⟨m, fun _ => 0, g⟩ (fun r => (∀ c : Dev Cert.MoeIdeal.nD,
      r.2.mem ((c.tc : Thread Cert.MoeIdeal.nD Cert.MoeIdeal.τ).loc Cert.MoeIdeal.main_arg0) = m ((c.tc : Thread Cert.MoeIdeal.nD Cert.MoeIdeal.τ).loc Cert.MoeIdeal.main_arg0)
      ∧ r.2.mem ((c.tc : Thread Cert.MoeIdeal.nD Cert.MoeIdeal.τ).loc Cert.MoeIdeal.main_arg1) = m ((c.tc : Thread Cert.MoeIdeal.nD Cert.MoeIdeal.τ).loc Cert.MoeIdeal.main_arg1)
      ∧ r.2.mem ((c.tc : Thread Cert.MoeIdeal.nD Cert.MoeIdeal.τ).loc Cert.MoeIdeal.main_arg2) = m ((c.tc : Thread Cert.MoeIdeal.nD Cert.MoeIdeal.τ).loc Cert.MoeIdeal.main_arg2)
      ∧ r.2.mem ((c.tc : Thread Cert.MoeIdeal.nD Cert.MoeIdeal.τ).loc Cert.MoeIdeal.main_arg3) = m ((c.tc : Thread Cert.MoeIdeal.nD Cert.MoeIdeal.τ).loc Cert.MoeIdeal.main_arg3)
      ∧ r.2.mem ((c.tc : Thread Cert.MoeIdeal.nD Cert.MoeIdeal.τ).loc Cert.MoeIdeal.main_arg4) = m ((c.tc : Thread Cert.MoeIdeal.nD Cert.MoeIdeal.τ).loc Cert.MoeIdeal.main_arg4)
      ∧ r.2.mem ((c.tc : Thread Cert.MoeIdeal.nD Cert.MoeIdeal.τ).loc Cert.MoeIdeal.main_arg5) = m ((c.tc : Thread Cert.MoeIdeal.nD Cert.MoeIdeal.τ).loc Cert.MoeIdeal.main_arg5)
      ∧ r.2.mem ((c.tc : Thread Cert.MoeIdeal.nD Cert.MoeIdeal.τ).loc Cert.MoeIdeal.main_arg6) = m ((c.tc : Thread Cert.MoeIdeal.nD Cert.MoeIdeal.τ).loc Cert.MoeIdeal.main_arg6))
      ∧ r.2.sem = fun _ => 0)

def quiescent_MoeReferenceIdeal [hMoeReferenceIdeal : Cert.MoeReferenceIdeal.Facts] : Prop :=
  ∀ (m : (ℓ : Loc Cert.MoeReferenceIdeal.nD Cert.MoeReferenceIdeal.τ Cert.MoeReferenceIdeal.sig) → Buf (Elt Ideal) ℓ) (g : Dev Cert.MoeReferenceIdeal.nD → PrngReg), Pre_MoeReferenceIdeal m →
    θ_run (Cert.MoeReferenceIdeal.defs (F := Ideal)) (onTc (τ := Cert.MoeReferenceIdeal.τ) (Cert.MoeReferenceIdeal.main (F := Ideal))) ⟨m, fun _ => 0, g⟩ (fun r => (∀ c : Dev Cert.MoeReferenceIdeal.nD,
      r.2.mem ((c.tc : Thread Cert.MoeReferenceIdeal.nD Cert.MoeReferenceIdeal.τ).loc Cert.MoeReferenceIdeal.main_arg0) = m ((c.tc : Thread Cert.MoeReferenceIdeal.nD Cert.MoeReferenceIdeal.τ).loc Cert.MoeReferenceIdeal.main_arg0)
      ∧ r.2.mem ((c.tc : Thread Cert.MoeReferenceIdeal.nD Cert.MoeReferenceIdeal.τ).loc Cert.MoeReferenceIdeal.main_arg1) = m ((c.tc : Thread Cert.MoeReferenceIdeal.nD Cert.MoeReferenceIdeal.τ).loc Cert.MoeReferenceIdeal.main_arg1)
      ∧ r.2.mem ((c.tc : Thread Cert.MoeReferenceIdeal.nD Cert.MoeReferenceIdeal.τ).loc Cert.MoeReferenceIdeal.main_arg2) = m ((c.tc : Thread Cert.MoeReferenceIdeal.nD Cert.MoeReferenceIdeal.τ).loc Cert.MoeReferenceIdeal.main_arg2)
      ∧ r.2.mem ((c.tc : Thread Cert.MoeReferenceIdeal.nD Cert.MoeReferenceIdeal.τ).loc Cert.MoeReferenceIdeal.main_arg3) = m ((c.tc : Thread Cert.MoeReferenceIdeal.nD Cert.MoeReferenceIdeal.τ).loc Cert.MoeReferenceIdeal.main_arg3)
      ∧ r.2.mem ((c.tc : Thread Cert.MoeReferenceIdeal.nD Cert.MoeReferenceIdeal.τ).loc Cert.MoeReferenceIdeal.main_arg4) = m ((c.tc : Thread Cert.MoeReferenceIdeal.nD Cert.MoeReferenceIdeal.τ).loc Cert.MoeReferenceIdeal.main_arg4)
      ∧ r.2.mem ((c.tc : Thread Cert.MoeReferenceIdeal.nD Cert.MoeReferenceIdeal.τ).loc Cert.MoeReferenceIdeal.main_arg5) = m ((c.tc : Thread Cert.MoeReferenceIdeal.nD Cert.MoeReferenceIdeal.τ).loc Cert.MoeReferenceIdeal.main_arg5)
      ∧ r.2.mem ((c.tc : Thread Cert.MoeReferenceIdeal.nD Cert.MoeReferenceIdeal.τ).loc Cert.MoeReferenceIdeal.main_arg6) = m ((c.tc : Thread Cert.MoeReferenceIdeal.nD Cert.MoeReferenceIdeal.τ).loc Cert.MoeReferenceIdeal.main_arg6))
      ∧ r.2.sem = fun _ => 0)

def quiescent_MoeReferenceIdeal_pre_gates_weights [hMoeReferenceIdeal : Cert.MoeReferenceIdeal.Facts] [hPre_gates_weights : Cert.Pre_gates_weights.Facts] : Prop :=
  ∀ (m : (ℓ : Loc Cert.MoeReferenceIdeal.nD Cert.MoeReferenceIdeal.τ Cert.MoeReferenceIdeal.sig) → Buf (Elt Ideal) ℓ) (g : Dev Cert.MoeReferenceIdeal.nD → PrngReg), Pre_MoeReferenceIdeal_gates_weights m →
    θ_run (Cert.MoeReferenceIdeal.defs (F := Ideal)) (onTc (τ := Cert.MoeReferenceIdeal.τ) (Cert.MoeReferenceIdeal.main (F := Ideal))) ⟨m, fun _ => 0, g⟩ (fun r => (∀ c : Dev Cert.MoeReferenceIdeal.nD,
      r.2.mem ((c.tc : Thread Cert.MoeReferenceIdeal.nD Cert.MoeReferenceIdeal.τ).loc Cert.MoeReferenceIdeal.main_arg0) = m ((c.tc : Thread Cert.MoeReferenceIdeal.nD Cert.MoeReferenceIdeal.τ).loc Cert.MoeReferenceIdeal.main_arg0)
      ∧ r.2.mem ((c.tc : Thread Cert.MoeReferenceIdeal.nD Cert.MoeReferenceIdeal.τ).loc Cert.MoeReferenceIdeal.main_arg1) = m ((c.tc : Thread Cert.MoeReferenceIdeal.nD Cert.MoeReferenceIdeal.τ).loc Cert.MoeReferenceIdeal.main_arg1)
      ∧ r.2.mem ((c.tc : Thread Cert.MoeReferenceIdeal.nD Cert.MoeReferenceIdeal.τ).loc Cert.MoeReferenceIdeal.main_arg2) = m ((c.tc : Thread Cert.MoeReferenceIdeal.nD Cert.MoeReferenceIdeal.τ).loc Cert.MoeReferenceIdeal.main_arg2)
      ∧ r.2.mem ((c.tc : Thread Cert.MoeReferenceIdeal.nD Cert.MoeReferenceIdeal.τ).loc Cert.MoeReferenceIdeal.main_arg3) = m ((c.tc : Thread Cert.MoeReferenceIdeal.nD Cert.MoeReferenceIdeal.τ).loc Cert.MoeReferenceIdeal.main_arg3)
      ∧ r.2.mem ((c.tc : Thread Cert.MoeReferenceIdeal.nD Cert.MoeReferenceIdeal.τ).loc Cert.MoeReferenceIdeal.main_arg4) = m ((c.tc : Thread Cert.MoeReferenceIdeal.nD Cert.MoeReferenceIdeal.τ).loc Cert.MoeReferenceIdeal.main_arg4)
      ∧ r.2.mem ((c.tc : Thread Cert.MoeReferenceIdeal.nD Cert.MoeReferenceIdeal.τ).loc Cert.MoeReferenceIdeal.main_arg5) = m ((c.tc : Thread Cert.MoeReferenceIdeal.nD Cert.MoeReferenceIdeal.τ).loc Cert.MoeReferenceIdeal.main_arg5)
      ∧ r.2.mem ((c.tc : Thread Cert.MoeReferenceIdeal.nD Cert.MoeReferenceIdeal.τ).loc Cert.MoeReferenceIdeal.main_arg6) = m ((c.tc : Thread Cert.MoeReferenceIdeal.nD Cert.MoeReferenceIdeal.τ).loc Cert.MoeReferenceIdeal.main_arg6))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ r.2.sem = fun _ => 0)

def quiescent_FfnReferenceIdeal [hFfnReferenceIdeal : Cert.FfnReferenceIdeal.Facts] : Prop :=
  ∀ (m : (ℓ : Loc Cert.FfnReferenceIdeal.nD Cert.FfnReferenceIdeal.τ Cert.FfnReferenceIdeal.sig) → Buf (Elt Ideal) ℓ) (g : Dev Cert.FfnReferenceIdeal.nD → PrngReg), Pre_FfnReferenceIdeal m →
    θ_run (Cert.FfnReferenceIdeal.defs (F := Ideal)) (onTc (τ := Cert.FfnReferenceIdeal.τ) (Cert.FfnReferenceIdeal.main (F := Ideal))) ⟨m, fun _ => 0, g⟩ (fun r => (∀ c : Dev Cert.FfnReferenceIdeal.nD,
      r.2.mem ((c.tc : Thread Cert.FfnReferenceIdeal.nD Cert.FfnReferenceIdeal.τ).loc Cert.FfnReferenceIdeal.main_arg0) = m ((c.tc : Thread Cert.FfnReferenceIdeal.nD Cert.FfnReferenceIdeal.τ).loc Cert.FfnReferenceIdeal.main_arg0)
      ∧ r.2.mem ((c.tc : Thread Cert.FfnReferenceIdeal.nD Cert.FfnReferenceIdeal.τ).loc Cert.FfnReferenceIdeal.main_arg1) = m ((c.tc : Thread Cert.FfnReferenceIdeal.nD Cert.FfnReferenceIdeal.τ).loc Cert.FfnReferenceIdeal.main_arg1)
      ∧ r.2.mem ((c.tc : Thread Cert.FfnReferenceIdeal.nD Cert.FfnReferenceIdeal.τ).loc Cert.FfnReferenceIdeal.main_arg2) = m ((c.tc : Thread Cert.FfnReferenceIdeal.nD Cert.FfnReferenceIdeal.τ).loc Cert.FfnReferenceIdeal.main_arg2)
      ∧ r.2.mem ((c.tc : Thread Cert.FfnReferenceIdeal.nD Cert.FfnReferenceIdeal.τ).loc Cert.FfnReferenceIdeal.main_arg3) = m ((c.tc : Thread Cert.FfnReferenceIdeal.nD Cert.FfnReferenceIdeal.τ).loc Cert.FfnReferenceIdeal.main_arg3)
      ∧ r.2.mem ((c.tc : Thread Cert.FfnReferenceIdeal.nD Cert.FfnReferenceIdeal.τ).loc Cert.FfnReferenceIdeal.main_arg4) = m ((c.tc : Thread Cert.FfnReferenceIdeal.nD Cert.FfnReferenceIdeal.τ).loc Cert.FfnReferenceIdeal.main_arg4)
      ∧ r.2.mem ((c.tc : Thread Cert.FfnReferenceIdeal.nD Cert.FfnReferenceIdeal.τ).loc Cert.FfnReferenceIdeal.main_arg5) = m ((c.tc : Thread Cert.FfnReferenceIdeal.nD Cert.FfnReferenceIdeal.τ).loc Cert.FfnReferenceIdeal.main_arg5))
      ∧ r.2.sem = fun _ => 0)

def quiescent_Mix [hMix : Cert.Mix.Facts] : Prop :=
  ∀ (m : (ℓ : Loc Cert.Mix.nD Cert.Mix.τ Cert.Mix.sig) → Buf (Elt Bits) ℓ) (g : Dev Cert.Mix.nD → PrngReg), Pre_Mix m →
    θ_run (Cert.Mix.defs (F := Bits)) (onTc (τ := Cert.Mix.τ) (Cert.Mix.main (F := Bits))) ⟨m, fun _ => 0, g⟩ (fun r => (∀ c : Dev Cert.Mix.nD,
      r.2.mem ((c.tc : Thread Cert.Mix.nD Cert.Mix.τ).loc Cert.Mix.main_arg0) = m ((c.tc : Thread Cert.Mix.nD Cert.Mix.τ).loc Cert.Mix.main_arg0)
      ∧ r.2.mem ((c.tc : Thread Cert.Mix.nD Cert.Mix.τ).loc Cert.Mix.main_arg1) = m ((c.tc : Thread Cert.Mix.nD Cert.Mix.τ).loc Cert.Mix.main_arg1)
      ∧ r.2.mem ((c.tc : Thread Cert.Mix.nD Cert.Mix.τ).loc Cert.Mix.main_arg2) = m ((c.tc : Thread Cert.Mix.nD Cert.Mix.τ).loc Cert.Mix.main_arg2)
      ∧ r.2.mem ((c.tc : Thread Cert.Mix.nD Cert.Mix.τ).loc Cert.Mix.main_arg3) = m ((c.tc : Thread Cert.Mix.nD Cert.Mix.τ).loc Cert.Mix.main_arg3)
      ∧ r.2.mem ((c.tc : Thread Cert.Mix.nD Cert.Mix.τ).loc Cert.Mix.main_arg4) = m ((c.tc : Thread Cert.Mix.nD Cert.Mix.τ).loc Cert.Mix.main_arg4)
      ∧ r.2.mem ((c.tc : Thread Cert.Mix.nD Cert.Mix.τ).loc Cert.Mix.main_arg5) = m ((c.tc : Thread Cert.Mix.nD Cert.Mix.τ).loc Cert.Mix.main_arg5)
      ∧ r.2.mem ((c.tc : Thread Cert.Mix.nD Cert.Mix.τ).loc Cert.Mix.main_arg6) = m ((c.tc : Thread Cert.Mix.nD Cert.Mix.τ).loc Cert.Mix.main_arg6)
      ∧ r.2.mem ((c.tc : Thread Cert.Mix.nD Cert.Mix.τ).loc Cert.Mix.main_arg7) = m ((c.tc : Thread Cert.Mix.nD Cert.Mix.τ).loc Cert.Mix.main_arg7)
      ∧ r.2.mem ((c.tc : Thread Cert.Mix.nD Cert.Mix.τ).loc Cert.Mix.main_arg8) = m ((c.tc : Thread Cert.Mix.nD Cert.Mix.τ).loc Cert.Mix.main_arg8))
      ∧ r.2.sem = fun _ => 0)

def quiescent_MixIdeal [hMixIdeal : Cert.MixIdeal.Facts] : Prop :=
  ∀ (m : (ℓ : Loc Cert.MixIdeal.nD Cert.MixIdeal.τ Cert.MixIdeal.sig) → Buf (Elt Ideal) ℓ) (g : Dev Cert.MixIdeal.nD → PrngReg), Pre_MixIdeal m →
    θ_run (Cert.MixIdeal.defs (F := Ideal)) (onTc (τ := Cert.MixIdeal.τ) (Cert.MixIdeal.main (F := Ideal))) ⟨m, fun _ => 0, g⟩ (fun r => (∀ c : Dev Cert.MixIdeal.nD,
      r.2.mem ((c.tc : Thread Cert.MixIdeal.nD Cert.MixIdeal.τ).loc Cert.MixIdeal.main_arg0) = m ((c.tc : Thread Cert.MixIdeal.nD Cert.MixIdeal.τ).loc Cert.MixIdeal.main_arg0)
      ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
      ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
      ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
      ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
      ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
      ∧ r.2.mem ((c.tc : Thread Cert.MixIdeal.nD Cert.MixIdeal.τ).loc Cert.MixIdeal.main_arg6) = m ((c.tc : Thread Cert.MixIdeal.nD Cert.MixIdeal.τ).loc Cert.MixIdeal.main_arg6)
      ∧ r.2.mem ((c.tc : Thread Cert.MixIdeal.nD Cert.MixIdeal.τ).loc Cert.MixIdeal.main_arg7) = m ((c.tc : Thread Cert.MixIdeal.nD Cert.MixIdeal.τ).loc Cert.MixIdeal.main_arg7)
      ∧ r.2.mem ((c.tc : Thread Cert.MixIdeal.nD Cert.MixIdeal.τ).loc Cert.MixIdeal.main_arg8) = m ((c.tc : Thread Cert.MixIdeal.nD Cert.MixIdeal.τ).loc Cert.MixIdeal.main_arg8))
      ∧ r.2.sem = fun _ => 0)

def quiescent_MixReferenceIdeal [hMixReferenceIdeal : Cert.MixReferenceIdeal.Facts] : Prop :=
  ∀ (m : (ℓ : Loc Cert.MixReferenceIdeal.nD Cert.MixReferenceIdeal.τ Cert.MixReferenceIdeal.sig) → Buf (Elt Ideal) ℓ) (g : Dev Cert.MixReferenceIdeal.nD → PrngReg), Pre_MixReferenceIdeal m →
    θ_run (Cert.MixReferenceIdeal.defs (F := Ideal)) (onTc (τ := Cert.MixReferenceIdeal.τ) (Cert.MixReferenceIdeal.main (F := Ideal))) ⟨m, fun _ => 0, g⟩ (fun r => (∀ c : Dev Cert.MixReferenceIdeal.nD,
      r.2.mem ((c.tc : Thread Cert.MixReferenceIdeal.nD Cert.MixReferenceIdeal.τ).loc Cert.MixReferenceIdeal.main_arg0) = m ((c.tc : Thread Cert.MixReferenceIdeal.nD Cert.MixReferenceIdeal.τ).loc Cert.MixReferenceIdeal.main_arg0)
      ∧ r.2.mem ((c.tc : Thread Cert.MixReferenceIdeal.nD Cert.MixReferenceIdeal.τ).loc Cert.MixReferenceIdeal.main_arg1) = m ((c.tc : Thread Cert.MixReferenceIdeal.nD Cert.MixReferenceIdeal.τ).loc Cert.MixReferenceIdeal.main_arg1)
      ∧ r.2.mem ((c.tc : Thread Cert.MixReferenceIdeal.nD Cert.MixReferenceIdeal.τ).loc Cert.MixReferenceIdeal.main_arg2) = m ((c.tc : Thread Cert.MixReferenceIdeal.nD Cert.MixReferenceIdeal.τ).loc Cert.MixReferenceIdeal.main_arg2)
      ∧ r.2.mem ((c.tc : Thread Cert.MixReferenceIdeal.nD Cert.MixReferenceIdeal.τ).loc Cert.MixReferenceIdeal.main_arg3) = m ((c.tc : Thread Cert.MixReferenceIdeal.nD Cert.MixReferenceIdeal.τ).loc Cert.MixReferenceIdeal.main_arg3)
      ∧ r.2.mem ((c.tc : Thread Cert.MixReferenceIdeal.nD Cert.MixReferenceIdeal.τ).loc Cert.MixReferenceIdeal.main_arg4) = m ((c.tc : Thread Cert.MixReferenceIdeal.nD Cert.MixReferenceIdeal.τ).loc Cert.MixReferenceIdeal.main_arg4)
      ∧ r.2.mem ((c.tc : Thread Cert.MixReferenceIdeal.nD Cert.MixReferenceIdeal.τ).loc Cert.MixReferenceIdeal.main_arg5) = m ((c.tc : Thread Cert.MixReferenceIdeal.nD Cert.MixReferenceIdeal.τ).loc Cert.MixReferenceIdeal.main_arg5)
      ∧ r.2.mem ((c.tc : Thread Cert.MixReferenceIdeal.nD Cert.MixReferenceIdeal.τ).loc Cert.MixReferenceIdeal.main_arg6) = m ((c.tc : Thread Cert.MixReferenceIdeal.nD Cert.MixReferenceIdeal.τ).loc Cert.MixReferenceIdeal.main_arg6)
      ∧ r.2.mem ((c.tc : Thread Cert.MixReferenceIdeal.nD Cert.MixReferenceIdeal.τ).loc Cert.MixReferenceIdeal.main_arg7) = m ((c.tc : Thread Cert.MixReferenceIdeal.nD Cert.MixReferenceIdeal.τ).loc Cert.MixReferenceIdeal.main_arg7)
      ∧ r.2.mem ((c.tc : Thread Cert.MixReferenceIdeal.nD Cert.MixReferenceIdeal.τ).loc Cert.MixReferenceIdeal.main_arg8) = m ((c.tc : Thread Cert.MixReferenceIdeal.nD Cert.MixReferenceIdeal.τ).loc Cert.MixReferenceIdeal.main_arg8))
      ∧ r.2.sem = fun _ => 0)

def quiescent_Experts [hExperts : Cert.Experts.Facts] : Prop :=
  ∀ (m : (ℓ : Loc Cert.Experts.nD Cert.Experts.τ Cert.Experts.sig) → Buf (Elt Bits) ℓ) (g : Dev Cert.Experts.nD → PrngReg), Pre_Experts m →
    θ_run (Cert.Experts.defs (F := Bits)) (onTc (τ := Cert.Experts.τ) (Cert.Experts.main (F := Bits))) ⟨m, fun _ => 0, g⟩ (fun r => (∀ c : Dev Cert.Experts.nD,
      r.2.mem ((c.tc : Thread Cert.Experts.nD Cert.Experts.τ).loc Cert.Experts.main_arg0) = m ((c.tc : Thread Cert.Experts.nD Cert.Experts.τ).loc Cert.Experts.main_arg0)
      ∧ r.2.mem ((c.tc : Thread Cert.Experts.nD Cert.Experts.τ).loc Cert.Experts.main_arg1) = m ((c.tc : Thread Cert.Experts.nD Cert.Experts.τ).loc Cert.Experts.main_arg1)
      ∧ r.2.mem ((c.tc : Thread Cert.Experts.nD Cert.Experts.τ).loc Cert.Experts.main_arg2) = m ((c.tc : Thread Cert.Experts.nD Cert.Experts.τ).loc Cert.Experts.main_arg2)
      ∧ r.2.mem ((c.tc : Thread Cert.Experts.nD Cert.Experts.τ).loc Cert.Experts.main_arg3) = m ((c.tc : Thread Cert.Experts.nD Cert.Experts.τ).loc Cert.Experts.main_arg3)
      ∧ r.2.mem ((c.tc : Thread Cert.Experts.nD Cert.Experts.τ).loc Cert.Experts.main_arg4) = m ((c.tc : Thread Cert.Experts.nD Cert.Experts.τ).loc Cert.Experts.main_arg4)
      ∧ r.2.mem ((c.tc : Thread Cert.Experts.nD Cert.Experts.τ).loc Cert.Experts.main_arg5) = m ((c.tc : Thread Cert.Experts.nD Cert.Experts.τ).loc Cert.Experts.main_arg5))
      ∧ r.2.sem = fun _ => 0)

def quiescent_ExpertsIdeal [hExpertsIdeal : Cert.ExpertsIdeal.Facts] : Prop :=
  ∀ (m : (ℓ : Loc Cert.ExpertsIdeal.nD Cert.ExpertsIdeal.τ Cert.ExpertsIdeal.sig) → Buf (Elt Ideal) ℓ) (g : Dev Cert.ExpertsIdeal.nD → PrngReg), Pre_ExpertsIdeal m →
    θ_run (Cert.ExpertsIdeal.defs (F := Ideal)) (onTc (τ := Cert.ExpertsIdeal.τ) (Cert.ExpertsIdeal.main (F := Ideal))) ⟨m, fun _ => 0, g⟩ (fun r => (∀ c : Dev Cert.ExpertsIdeal.nD,
      r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
      ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
      ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
      ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
      ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4)
      ∧ r.2.mem ((c.tc : Thread Cert.ExpertsIdeal.nD Cert.ExpertsIdeal.τ).loc Cert.ExpertsIdeal.main_arg5) = m ((c.tc : Thread Cert.ExpertsIdeal.nD Cert.ExpertsIdeal.τ).loc Cert.ExpertsIdeal.main_arg5))
      ∧ r.2.sem = fun _ => 0)

def quiescent_ExpertsIdeal_pre_slots_counted [hExpertsIdeal : Cert.ExpertsIdeal.Facts] [hPre_slots_counted : Cert.Pre_slots_counted.Facts] : Prop :=
  ∀ (m : (ℓ : Loc Cert.ExpertsIdeal.nD Cert.ExpertsIdeal.τ Cert.ExpertsIdeal.sig) → Buf (Elt Ideal) ℓ) (g : Dev Cert.ExpertsIdeal.nD → PrngReg), Pre_ExpertsIdeal_slots_counted m →
    θ_run (Cert.ExpertsIdeal.defs (F := Ideal)) (onTc (τ := Cert.ExpertsIdeal.τ) (Cert.ExpertsIdeal.main (F := Ideal))) ⟨m, fun _ => 0, g⟩ (fun r => (∀ c : Dev Cert.ExpertsIdeal.nD,
      r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
      ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
      ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
      ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
      ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4)
      ∧ r.2.mem ((c.tc : Thread Cert.ExpertsIdeal.nD Cert.ExpertsIdeal.τ).loc Cert.ExpertsIdeal.main_arg5) = m ((c.tc : Thread Cert.ExpertsIdeal.nD Cert.ExpertsIdeal.τ).loc Cert.ExpertsIdeal.main_arg5))
      ∧ r.2.sem = fun _ => 0)

def quiescent_ExpertsReferenceIdeal [hExpertsReferenceIdeal : Cert.ExpertsReferenceIdeal.Facts] : Prop :=
  ∀ (m : (ℓ : Loc Cert.ExpertsReferenceIdeal.nD Cert.ExpertsReferenceIdeal.τ Cert.ExpertsReferenceIdeal.sig) → Buf (Elt Ideal) ℓ) (g : Dev Cert.ExpertsReferenceIdeal.nD → PrngReg), Pre_ExpertsReferenceIdeal m →
    θ_run (Cert.ExpertsReferenceIdeal.defs (F := Ideal)) (onTc (τ := Cert.ExpertsReferenceIdeal.τ) (Cert.ExpertsReferenceIdeal.main (F := Ideal))) ⟨m, fun _ => 0, g⟩ (fun r => (∀ c : Dev Cert.ExpertsReferenceIdeal.nD,
      r.2.mem ((c.tc : Thread Cert.ExpertsReferenceIdeal.nD Cert.ExpertsReferenceIdeal.τ).loc Cert.ExpertsReferenceIdeal.main_arg0) = m ((c.tc : Thread Cert.ExpertsReferenceIdeal.nD Cert.ExpertsReferenceIdeal.τ).loc Cert.ExpertsReferenceIdeal.main_arg0)
      ∧ r.2.mem ((c.tc : Thread Cert.ExpertsReferenceIdeal.nD Cert.ExpertsReferenceIdeal.τ).loc Cert.ExpertsReferenceIdeal.main_arg1) = m ((c.tc : Thread Cert.ExpertsReferenceIdeal.nD Cert.ExpertsReferenceIdeal.τ).loc Cert.ExpertsReferenceIdeal.main_arg1)
      ∧ r.2.mem ((c.tc : Thread Cert.ExpertsReferenceIdeal.nD Cert.ExpertsReferenceIdeal.τ).loc Cert.ExpertsReferenceIdeal.main_arg2) = m ((c.tc : Thread Cert.ExpertsReferenceIdeal.nD Cert.ExpertsReferenceIdeal.τ).loc Cert.ExpertsReferenceIdeal.main_arg2)
      ∧ r.2.mem ((c.tc : Thread Cert.ExpertsReferenceIdeal.nD Cert.ExpertsReferenceIdeal.τ).loc Cert.ExpertsReferenceIdeal.main_arg3) = m ((c.tc : Thread Cert.ExpertsReferenceIdeal.nD Cert.ExpertsReferenceIdeal.τ).loc Cert.ExpertsReferenceIdeal.main_arg3)
      ∧ r.2.mem ((c.tc : Thread Cert.ExpertsReferenceIdeal.nD Cert.ExpertsReferenceIdeal.τ).loc Cert.ExpertsReferenceIdeal.main_arg4) = m ((c.tc : Thread Cert.ExpertsReferenceIdeal.nD Cert.ExpertsReferenceIdeal.τ).loc Cert.ExpertsReferenceIdeal.main_arg4)
      ∧ r.2.mem ((c.tc : Thread Cert.ExpertsReferenceIdeal.nD Cert.ExpertsReferenceIdeal.τ).loc Cert.ExpertsReferenceIdeal.main_arg5) = m ((c.tc : Thread Cert.ExpertsReferenceIdeal.nD Cert.ExpertsReferenceIdeal.τ).loc Cert.ExpertsReferenceIdeal.main_arg5))
      ∧ r.2.sem = fun _ => 0)

def quiescent_ExpertsReferenceIdeal_pre_slots_counted [hExpertsReferenceIdeal : Cert.ExpertsReferenceIdeal.Facts] [hPre_slots_counted : Cert.Pre_slots_counted.Facts] : Prop :=
  ∀ (m : (ℓ : Loc Cert.ExpertsReferenceIdeal.nD Cert.ExpertsReferenceIdeal.τ Cert.ExpertsReferenceIdeal.sig) → Buf (Elt Ideal) ℓ) (g : Dev Cert.ExpertsReferenceIdeal.nD → PrngReg), Pre_ExpertsReferenceIdeal_slots_counted m →
    θ_run (Cert.ExpertsReferenceIdeal.defs (F := Ideal)) (onTc (τ := Cert.ExpertsReferenceIdeal.τ) (Cert.ExpertsReferenceIdeal.main (F := Ideal))) ⟨m, fun _ => 0, g⟩ (fun r => (∀ c : Dev Cert.ExpertsReferenceIdeal.nD,
      r.2.mem ((c.tc : Thread Cert.ExpertsReferenceIdeal.nD Cert.ExpertsReferenceIdeal.τ).loc Cert.ExpertsReferenceIdeal.main_arg0) = m ((c.tc : Thread Cert.ExpertsReferenceIdeal.nD Cert.ExpertsReferenceIdeal.τ).loc Cert.ExpertsReferenceIdeal.main_arg0)
      ∧ r.2.mem ((c.tc : Thread Cert.ExpertsReferenceIdeal.nD Cert.ExpertsReferenceIdeal.τ).loc Cert.ExpertsReferenceIdeal.main_arg1) = m ((c.tc : Thread Cert.ExpertsReferenceIdeal.nD Cert.ExpertsReferenceIdeal.τ).loc Cert.ExpertsReferenceIdeal.main_arg1)
      ∧ r.2.mem ((c.tc : Thread Cert.ExpertsReferenceIdeal.nD Cert.ExpertsReferenceIdeal.τ).loc Cert.ExpertsReferenceIdeal.main_arg2) = m ((c.tc : Thread Cert.ExpertsReferenceIdeal.nD Cert.ExpertsReferenceIdeal.τ).loc Cert.ExpertsReferenceIdeal.main_arg2)
      ∧ r.2.mem ((c.tc : Thread Cert.ExpertsReferenceIdeal.nD Cert.ExpertsReferenceIdeal.τ).loc Cert.ExpertsReferenceIdeal.main_arg3) = m ((c.tc : Thread Cert.ExpertsReferenceIdeal.nD Cert.ExpertsReferenceIdeal.τ).loc Cert.ExpertsReferenceIdeal.main_arg3)
      ∧ r.2.mem ((c.tc : Thread Cert.ExpertsReferenceIdeal.nD Cert.ExpertsReferenceIdeal.τ).loc Cert.ExpertsReferenceIdeal.main_arg4) = m ((c.tc : Thread Cert.ExpertsReferenceIdeal.nD Cert.ExpertsReferenceIdeal.τ).loc Cert.ExpertsReferenceIdeal.main_arg4)
      ∧ r.2.mem ((c.tc : Thread Cert.ExpertsReferenceIdeal.nD Cert.ExpertsReferenceIdeal.τ).loc Cert.ExpertsReferenceIdeal.main_arg5) = m ((c.tc : Thread Cert.ExpertsReferenceIdeal.nD Cert.ExpertsReferenceIdeal.τ).loc Cert.ExpertsReferenceIdeal.main_arg5))
      ∧ r.2.sem = fun _ => 0)

def quiescent_Combine [hCombine : Cert.Combine.Facts] : Prop :=
  ∀ (m : (ℓ : Loc Cert.Combine.nD Cert.Combine.τ Cert.Combine.sig) → Buf (Elt Bits) ℓ) (g : Dev Cert.Combine.nD → PrngReg), Pre_Combine m →
    θ_run (Cert.Combine.defs (F := Bits)) (onTc (τ := Cert.Combine.τ) (Cert.Combine.main (F := Bits))) ⟨m, fun _ => 0, g⟩ (fun r => (∀ c : Dev Cert.Combine.nD,
      r.2.mem ((c.tc : Thread Cert.Combine.nD Cert.Combine.τ).loc Cert.Combine.main_arg0) = m ((c.tc : Thread Cert.Combine.nD Cert.Combine.τ).loc Cert.Combine.main_arg0)
      ∧ r.2.mem ((c.tc : Thread Cert.Combine.nD Cert.Combine.τ).loc Cert.Combine.main_arg1) = m ((c.tc : Thread Cert.Combine.nD Cert.Combine.τ).loc Cert.Combine.main_arg1)
      ∧ r.2.mem ((c.tc : Thread Cert.Combine.nD Cert.Combine.τ).loc Cert.Combine.main_arg2) = m ((c.tc : Thread Cert.Combine.nD Cert.Combine.τ).loc Cert.Combine.main_arg2)
      ∧ r.2.mem ((c.tc : Thread Cert.Combine.nD Cert.Combine.τ).loc Cert.Combine.main_arg3) = m ((c.tc : Thread Cert.Combine.nD Cert.Combine.τ).loc Cert.Combine.main_arg3)
      ∧ r.2.mem ((c.tc : Thread Cert.Combine.nD Cert.Combine.τ).loc Cert.Combine.main_arg4) = m ((c.tc : Thread Cert.Combine.nD Cert.Combine.τ).loc Cert.Combine.main_arg4)
      ∧ r.2.mem ((c.tc : Thread Cert.Combine.nD Cert.Combine.τ).loc Cert.Combine.main_arg5) = m ((c.tc : Thread Cert.Combine.nD Cert.Combine.τ).loc Cert.Combine.main_arg5))
      ∧ r.2.sem = fun _ => 0)

def quiescent_CombineIdeal [hCombineIdeal : Cert.CombineIdeal.Facts] : Prop :=
  ∀ (m : (ℓ : Loc Cert.CombineIdeal.nD Cert.CombineIdeal.τ Cert.CombineIdeal.sig) → Buf (Elt Ideal) ℓ) (g : Dev Cert.CombineIdeal.nD → PrngReg), Pre_CombineIdeal m →
    θ_run (Cert.CombineIdeal.defs (F := Ideal)) (onTc (τ := Cert.CombineIdeal.τ) (Cert.CombineIdeal.main (F := Ideal))) ⟨m, fun _ => 0, g⟩ (fun r => (∀ c : Dev Cert.CombineIdeal.nD,
      r.2.mem ((c.tc : Thread Cert.CombineIdeal.nD Cert.CombineIdeal.τ).loc Cert.CombineIdeal.main_arg0) = m ((c.tc : Thread Cert.CombineIdeal.nD Cert.CombineIdeal.τ).loc Cert.CombineIdeal.main_arg0)
      ∧ r.2.mem ((c.tc : Thread Cert.CombineIdeal.nD Cert.CombineIdeal.τ).loc Cert.CombineIdeal.main_arg1) = m ((c.tc : Thread Cert.CombineIdeal.nD Cert.CombineIdeal.τ).loc Cert.CombineIdeal.main_arg1)
      ∧ r.2.mem ((c.tc : Thread Cert.CombineIdeal.nD Cert.CombineIdeal.τ).loc Cert.CombineIdeal.main_arg2) = m ((c.tc : Thread Cert.CombineIdeal.nD Cert.CombineIdeal.τ).loc Cert.CombineIdeal.main_arg2)
      ∧ r.2.mem ((c.tc : Thread Cert.CombineIdeal.nD Cert.CombineIdeal.τ).loc Cert.CombineIdeal.main_arg3) = m ((c.tc : Thread Cert.CombineIdeal.nD Cert.CombineIdeal.τ).loc Cert.CombineIdeal.main_arg3)
      ∧ r.2.mem ((c.tc : Thread Cert.CombineIdeal.nD Cert.CombineIdeal.τ).loc Cert.CombineIdeal.main_arg4) = m ((c.tc : Thread Cert.CombineIdeal.nD Cert.CombineIdeal.τ).loc Cert.CombineIdeal.main_arg4)
      ∧ r.2.mem ((c.tc : Thread Cert.CombineIdeal.nD Cert.CombineIdeal.τ).loc Cert.CombineIdeal.main_arg5) = m ((c.tc : Thread Cert.CombineIdeal.nD Cert.CombineIdeal.τ).loc Cert.CombineIdeal.main_arg5))
      ∧ r.2.sem = fun _ => 0)

def quiescent_CombineReferenceIdeal [hCombineReferenceIdeal : Cert.CombineReferenceIdeal.Facts] : Prop :=
  ∀ (m : (ℓ : Loc Cert.CombineReferenceIdeal.nD Cert.CombineReferenceIdeal.τ Cert.CombineReferenceIdeal.sig) → Buf (Elt Ideal) ℓ) (g : Dev Cert.CombineReferenceIdeal.nD → PrngReg), Pre_CombineReferenceIdeal m →
    θ_run (Cert.CombineReferenceIdeal.defs (F := Ideal)) (onTc (τ := Cert.CombineReferenceIdeal.τ) (Cert.CombineReferenceIdeal.main (F := Ideal))) ⟨m, fun _ => 0, g⟩ (fun r => (∀ c : Dev Cert.CombineReferenceIdeal.nD,
      r.2.mem ((c.tc : Thread Cert.CombineReferenceIdeal.nD Cert.CombineReferenceIdeal.τ).loc Cert.CombineReferenceIdeal.main_arg0) = m ((c.tc : Thread Cert.CombineReferenceIdeal.nD Cert.CombineReferenceIdeal.τ).loc Cert.CombineReferenceIdeal.main_arg0)
      ∧ r.2.mem ((c.tc : Thread Cert.CombineReferenceIdeal.nD Cert.CombineReferenceIdeal.τ).loc Cert.CombineReferenceIdeal.main_arg1) = m ((c.tc : Thread Cert.CombineReferenceIdeal.nD Cert.CombineReferenceIdeal.τ).loc Cert.CombineReferenceIdeal.main_arg1)
      ∧ r.2.mem ((c.tc : Thread Cert.CombineReferenceIdeal.nD Cert.CombineReferenceIdeal.τ).loc Cert.CombineReferenceIdeal.main_arg2) = m ((c.tc : Thread Cert.CombineReferenceIdeal.nD Cert.CombineReferenceIdeal.τ).loc Cert.CombineReferenceIdeal.main_arg2)
      ∧ r.2.mem ((c.tc : Thread Cert.CombineReferenceIdeal.nD Cert.CombineReferenceIdeal.τ).loc Cert.CombineReferenceIdeal.main_arg3) = m ((c.tc : Thread Cert.CombineReferenceIdeal.nD Cert.CombineReferenceIdeal.τ).loc Cert.CombineReferenceIdeal.main_arg3)
      ∧ r.2.mem ((c.tc : Thread Cert.CombineReferenceIdeal.nD Cert.CombineReferenceIdeal.τ).loc Cert.CombineReferenceIdeal.main_arg4) = m ((c.tc : Thread Cert.CombineReferenceIdeal.nD Cert.CombineReferenceIdeal.τ).loc Cert.CombineReferenceIdeal.main_arg4)
      ∧ r.2.mem ((c.tc : Thread Cert.CombineReferenceIdeal.nD Cert.CombineReferenceIdeal.τ).loc Cert.CombineReferenceIdeal.main_arg5) = m ((c.tc : Thread Cert.CombineReferenceIdeal.nD Cert.CombineReferenceIdeal.τ).loc Cert.CombineReferenceIdeal.main_arg5))
      ∧ r.2.sem = fun _ => 0)

def preserves_Moe_MoeIdeal : Prop :=
  True

def algebraic_MoeIdeal_MoeReferenceIdeal_pre_gates_weights [hMoeIdeal : Cert.MoeIdeal.Facts] [hMoeReferenceIdeal : Cert.MoeReferenceIdeal.Facts] [hPre_gates_weights : Cert.Pre_gates_weights.Facts] : Prop :=
  ∀ (m : (ℓ : Loc Cert.MoeIdeal.nD Cert.MoeIdeal.τ Cert.MoeIdeal.sig) → Buf (Elt Ideal) ℓ) (g : Dev Cert.MoeIdeal.nD → PrngReg)
    (m' : (ℓ : Loc Cert.MoeReferenceIdeal.nD Cert.MoeReferenceIdeal.τ Cert.MoeReferenceIdeal.sig) → Buf (Elt Ideal) ℓ) (g' : Dev Cert.MoeReferenceIdeal.nD → PrngReg), Pre_MoeIdeal_gates_weights m →
    (∀ c : Dev Cert.MoeIdeal.nD,
      m' ((c.tc : Thread Cert.MoeReferenceIdeal.nD Cert.MoeReferenceIdeal.τ).loc Cert.MoeReferenceIdeal.main_arg0) = m ((c.tc : Thread Cert.MoeIdeal.nD Cert.MoeIdeal.τ).loc Cert.MoeIdeal.main_arg0)
      ∧ m' ((c.tc : Thread Cert.MoeReferenceIdeal.nD Cert.MoeReferenceIdeal.τ).loc Cert.MoeReferenceIdeal.main_arg1) = m ((c.tc : Thread Cert.MoeIdeal.nD Cert.MoeIdeal.τ).loc Cert.MoeIdeal.main_arg1)
      ∧ m' ((c.tc : Thread Cert.MoeReferenceIdeal.nD Cert.MoeReferenceIdeal.τ).loc Cert.MoeReferenceIdeal.main_arg2) = m ((c.tc : Thread Cert.MoeIdeal.nD Cert.MoeIdeal.τ).loc Cert.MoeIdeal.main_arg2)
      ∧ m' ((c.tc : Thread Cert.MoeReferenceIdeal.nD Cert.MoeReferenceIdeal.τ).loc Cert.MoeReferenceIdeal.main_arg3) = m ((c.tc : Thread Cert.MoeIdeal.nD Cert.MoeIdeal.τ).loc Cert.MoeIdeal.main_arg3)
      ∧ m' ((c.tc : Thread Cert.MoeReferenceIdeal.nD Cert.MoeReferenceIdeal.τ).loc Cert.MoeReferenceIdeal.main_arg4) = m ((c.tc : Thread Cert.MoeIdeal.nD Cert.MoeIdeal.τ).loc Cert.MoeIdeal.main_arg4)
      ∧ m' ((c.tc : Thread Cert.MoeReferenceIdeal.nD Cert.MoeReferenceIdeal.τ).loc Cert.MoeReferenceIdeal.main_arg5) = m ((c.tc : Thread Cert.MoeIdeal.nD Cert.MoeIdeal.τ).loc Cert.MoeIdeal.main_arg5)
      ∧ m' ((c.tc : Thread Cert.MoeReferenceIdeal.nD Cert.MoeReferenceIdeal.τ).loc Cert.MoeReferenceIdeal.main_arg6) = m ((c.tc : Thread Cert.MoeIdeal.nD Cert.MoeIdeal.τ).loc Cert.MoeIdeal.main_arg6)) →
    ∃ (v0 : (c : Dev Cert.MoeIdeal.nD) → Buf (Elt Ideal) ((c.tc : Thread Cert.MoeIdeal.nD Cert.MoeIdeal.τ).loc Cert.MoeIdeal.main_v7)),
      θ_run (Cert.MoeIdeal.defs (F := Ideal)) (onTc (τ := Cert.MoeIdeal.τ) (Cert.MoeIdeal.main (F := Ideal))) ⟨m, fun _ => 0, g⟩ (fun r => ∀ c : Dev Cert.MoeIdeal.nD,
          r.2.mem ((c.tc : Thread Cert.MoeIdeal.nD Cert.MoeIdeal.τ).loc Cert.MoeIdeal.main_v7) = v0 c
          ∧ r.2.mem ((c.tc : Thread Cert.MoeIdeal.nD Cert.MoeIdeal.τ).loc Cert.MoeIdeal.main_arg0) = m ((c.tc : Thread Cert.MoeIdeal.nD Cert.MoeIdeal.τ).loc Cert.MoeIdeal.main_arg0)
          ∧ r.2.mem ((c.tc : Thread Cert.MoeIdeal.nD Cert.MoeIdeal.τ).loc Cert.MoeIdeal.main_arg1) = m ((c.tc : Thread Cert.MoeIdeal.nD Cert.MoeIdeal.τ).loc Cert.MoeIdeal.main_arg1)
          ∧ r.2.mem ((c.tc : Thread Cert.MoeIdeal.nD Cert.MoeIdeal.τ).loc Cert.MoeIdeal.main_arg2) = m ((c.tc : Thread Cert.MoeIdeal.nD Cert.MoeIdeal.τ).loc Cert.MoeIdeal.main_arg2)
          ∧ r.2.mem ((c.tc : Thread Cert.MoeIdeal.nD Cert.MoeIdeal.τ).loc Cert.MoeIdeal.main_arg3) = m ((c.tc : Thread Cert.MoeIdeal.nD Cert.MoeIdeal.τ).loc Cert.MoeIdeal.main_arg3)
          ∧ r.2.mem ((c.tc : Thread Cert.MoeIdeal.nD Cert.MoeIdeal.τ).loc Cert.MoeIdeal.main_arg4) = m ((c.tc : Thread Cert.MoeIdeal.nD Cert.MoeIdeal.τ).loc Cert.MoeIdeal.main_arg4)
          ∧ r.2.mem ((c.tc : Thread Cert.MoeIdeal.nD Cert.MoeIdeal.τ).loc Cert.MoeIdeal.main_arg5) = m ((c.tc : Thread Cert.MoeIdeal.nD Cert.MoeIdeal.τ).loc Cert.MoeIdeal.main_arg5)
          ∧ r.2.mem ((c.tc : Thread Cert.MoeIdeal.nD Cert.MoeIdeal.τ).loc Cert.MoeIdeal.main_arg6) = m ((c.tc : Thread Cert.MoeIdeal.nD Cert.MoeIdeal.τ).loc Cert.MoeIdeal.main_arg6))
      ∧ θ_run (Cert.MoeReferenceIdeal.defs (F := Ideal)) (onTc (τ := Cert.MoeReferenceIdeal.τ) (Cert.MoeReferenceIdeal.main (F := Ideal))) ⟨m', fun _ => 0, g'⟩ (fun r => ∀ c : Dev Cert.MoeReferenceIdeal.nD,
          r.2.mem ((c.tc : Thread Cert.MoeReferenceIdeal.nD Cert.MoeReferenceIdeal.τ).loc Cert.MoeReferenceIdeal.main_v147) = v0 c
          ∧ r.2.mem ((c.tc : Thread Cert.MoeReferenceIdeal.nD Cert.MoeReferenceIdeal.τ).loc Cert.MoeReferenceIdeal.main_arg0) = m' ((c.tc : Thread Cert.MoeReferenceIdeal.nD Cert.MoeReferenceIdeal.τ).loc Cert.MoeReferenceIdeal.main_arg0)
          ∧ r.2.mem ((c.tc : Thread Cert.MoeReferenceIdeal.nD Cert.MoeReferenceIdeal.τ).loc Cert.MoeReferenceIdeal.main_arg1) = m' ((c.tc : Thread Cert.MoeReferenceIdeal.nD Cert.MoeReferenceIdeal.τ).loc Cert.MoeReferenceIdeal.main_arg1)
          ∧ r.2.mem ((c.tc : Thread Cert.MoeReferenceIdeal.nD Cert.MoeReferenceIdeal.τ).loc Cert.MoeReferenceIdeal.main_arg2) = m' ((c.tc : Thread Cert.MoeReferenceIdeal.nD Cert.MoeReferenceIdeal.τ).loc Cert.MoeReferenceIdeal.main_arg2)
          ∧ r.2.mem ((c.tc : Thread Cert.MoeReferenceIdeal.nD Cert.MoeReferenceIdeal.τ).loc Cert.MoeReferenceIdeal.main_arg3) = m' ((c.tc : Thread Cert.MoeReferenceIdeal.nD Cert.MoeReferenceIdeal.τ).loc Cert.MoeReferenceIdeal.main_arg3)
          ∧ r.2.mem ((c.tc : Thread Cert.MoeReferenceIdeal.nD Cert.MoeReferenceIdeal.τ).loc Cert.MoeReferenceIdeal.main_arg4) = m' ((c.tc : Thread Cert.MoeReferenceIdeal.nD Cert.MoeReferenceIdeal.τ).loc Cert.MoeReferenceIdeal.main_arg4)
          ∧ r.2.mem ((c.tc : Thread Cert.MoeReferenceIdeal.nD Cert.MoeReferenceIdeal.τ).loc Cert.MoeReferenceIdeal.main_arg5) = m' ((c.tc : Thread Cert.MoeReferenceIdeal.nD Cert.MoeReferenceIdeal.τ).loc Cert.MoeReferenceIdeal.main_arg5)
          ∧ r.2.mem ((c.tc : Thread Cert.MoeReferenceIdeal.nD Cert.MoeReferenceIdeal.τ).loc Cert.MoeReferenceIdeal.main_arg6) = m' ((c.tc : Thread Cert.MoeReferenceIdeal.nD Cert.MoeReferenceIdeal.τ).loc Cert.MoeReferenceIdeal.main_arg6))

def preserves_Ffn_FfnIdeal : Prop :=
  True

def algebraic_FfnIdeal_FfnReferenceIdeal [hFfnIdeal : Cert.FfnIdeal.Facts] [hFfnReferenceIdeal : Cert.FfnReferenceIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnReferenceIdeal.nD Cert.FfnReferenceIdeal.τ Cert.FfnReferenceIdeal.sig) → Buf (Elt Ideal) ℓ) (g' : Dev Cert.FfnReferenceIdeal.nD → PrngReg), Pre_FfnIdeal m →
    (∀ c : Dev Cert.FfnIdeal.nD,
      m' ((c.tc : Thread Cert.FfnReferenceIdeal.nD Cert.FfnReferenceIdeal.τ).loc Cert.FfnReferenceIdeal.main_arg0) = m ((c.tc : Thread Cert.FfnIdeal.nD Cert.FfnIdeal.τ).loc Cert.FfnIdeal.main_arg0)
      ∧ m' ((c.tc : Thread Cert.FfnReferenceIdeal.nD Cert.FfnReferenceIdeal.τ).loc Cert.FfnReferenceIdeal.main_arg1) = m ((c.tc : Thread Cert.FfnIdeal.nD Cert.FfnIdeal.τ).loc Cert.FfnIdeal.main_arg1)
      ∧ m' ((c.tc : Thread Cert.FfnReferenceIdeal.nD Cert.FfnReferenceIdeal.τ).loc Cert.FfnReferenceIdeal.main_arg2) = m ((c.tc : Thread Cert.FfnIdeal.nD Cert.FfnIdeal.τ).loc Cert.FfnIdeal.main_arg2)
      ∧ m' ((c.tc : Thread Cert.FfnReferenceIdeal.nD Cert.FfnReferenceIdeal.τ).loc Cert.FfnReferenceIdeal.main_arg3) = m ((c.tc : Thread Cert.FfnIdeal.nD Cert.FfnIdeal.τ).loc Cert.FfnIdeal.main_arg3)
      ∧ m' ((c.tc : Thread Cert.FfnReferenceIdeal.nD Cert.FfnReferenceIdeal.τ).loc Cert.FfnReferenceIdeal.main_arg4) = m ((c.tc : Thread Cert.FfnIdeal.nD Cert.FfnIdeal.τ).loc Cert.FfnIdeal.main_arg4)
      ∧ m' ((c.tc : Thread Cert.FfnReferenceIdeal.nD Cert.FfnReferenceIdeal.τ).loc Cert.FfnReferenceIdeal.main_arg5) = m ((c.tc : Thread Cert.FfnIdeal.nD Cert.FfnIdeal.τ).loc Cert.FfnIdeal.main_arg5)) →
    ∃ (v0 : (c : Dev Cert.FfnIdeal.nD) → Buf (Elt Ideal) ((c.tc : Thread Cert.FfnIdeal.nD Cert.FfnIdeal.τ).loc Cert.FfnIdeal.main_v6_0)) (v1 : (c : Dev Cert.FfnIdeal.nD) → Buf (Elt Ideal) ((c.tc : Thread Cert.FfnIdeal.nD Cert.FfnIdeal.τ).loc Cert.FfnIdeal.main_v6_1)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v6_0) = v0 c
          ∧ r.2.mem ((c.tc : Thread Cert.FfnIdeal.nD Cert.FfnIdeal.τ).loc Cert.FfnIdeal.main_v6_1) = v1 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ θ_run (Cert.FfnReferenceIdeal.defs (F := Ideal)) (onTc (τ := Cert.FfnReferenceIdeal.τ) (Cert.FfnReferenceIdeal.main (F := Ideal))) ⟨m', fun _ => 0, g'⟩ (fun r => ∀ c : Dev Cert.FfnReferenceIdeal.nD,
          r.2.mem ((c.tc : Thread Cert.FfnReferenceIdeal.nD Cert.FfnReferenceIdeal.τ).loc Cert.FfnReferenceIdeal.main_v31) = v0 c
          ∧ r.2.mem ((c.tc : Thread Cert.FfnReferenceIdeal.nD Cert.FfnReferenceIdeal.τ).loc Cert.FfnReferenceIdeal.main_v32) = v1 c
          ∧ r.2.mem ((c.tc : Thread Cert.FfnReferenceIdeal.nD Cert.FfnReferenceIdeal.τ).loc Cert.FfnReferenceIdeal.main_arg0) = m' ((c.tc : Thread Cert.FfnReferenceIdeal.nD Cert.FfnReferenceIdeal.τ).loc Cert.FfnReferenceIdeal.main_arg0)
          ∧ r.2.mem ((c.tc : Thread Cert.FfnReferenceIdeal.nD Cert.FfnReferenceIdeal.τ).loc Cert.FfnReferenceIdeal.main_arg1) = m' ((c.tc : Thread Cert.FfnReferenceIdeal.nD Cert.FfnReferenceIdeal.τ).loc Cert.FfnReferenceIdeal.main_arg1)
          ∧ r.2.mem ((c.tc : Thread Cert.FfnReferenceIdeal.nD Cert.FfnReferenceIdeal.τ).loc Cert.FfnReferenceIdeal.main_arg2) = m' ((c.tc : Thread Cert.FfnReferenceIdeal.nD Cert.FfnReferenceIdeal.τ).loc Cert.FfnReferenceIdeal.main_arg2)
          ∧ r.2.mem ((c.tc : Thread Cert.FfnReferenceIdeal.nD Cert.FfnReferenceIdeal.τ).loc Cert.FfnReferenceIdeal.main_arg3) = m' ((c.tc : Thread Cert.FfnReferenceIdeal.nD Cert.FfnReferenceIdeal.τ).loc Cert.FfnReferenceIdeal.main_arg3)
          ∧ r.2.mem ((c.tc : Thread Cert.FfnReferenceIdeal.nD Cert.FfnReferenceIdeal.τ).loc Cert.FfnReferenceIdeal.main_arg4) = m' ((c.tc : Thread Cert.FfnReferenceIdeal.nD Cert.FfnReferenceIdeal.τ).loc Cert.FfnReferenceIdeal.main_arg4)
          ∧ r.2.mem ((c.tc : Thread Cert.FfnReferenceIdeal.nD Cert.FfnReferenceIdeal.τ).loc Cert.FfnReferenceIdeal.main_arg5) = m' ((c.tc : Thread Cert.FfnReferenceIdeal.nD Cert.FfnReferenceIdeal.τ).loc Cert.FfnReferenceIdeal.main_arg5))

def preserves_Mix_MixIdeal : Prop :=
  True

def algebraic_MixIdeal_MixReferenceIdeal [hMixIdeal : Cert.MixIdeal.Facts] [hMixReferenceIdeal : Cert.MixReferenceIdeal.Facts] : Prop :=
  ∀ (m : (ℓ : Loc Cert.MixIdeal.nD Cert.MixIdeal.τ Cert.MixIdeal.sig) → Buf (Elt Ideal) ℓ) (g : Dev Cert.MixIdeal.nD → PrngReg)
    (m' : (ℓ : Loc Cert.MixReferenceIdeal.nD Cert.MixReferenceIdeal.τ Cert.MixReferenceIdeal.sig) → Buf (Elt Ideal) ℓ) (g' : Dev Cert.MixReferenceIdeal.nD → PrngReg), Pre_MixIdeal m →
    (∀ c : Dev Cert.MixIdeal.nD,
      m' ((c.tc : Thread Cert.MixReferenceIdeal.nD Cert.MixReferenceIdeal.τ).loc Cert.MixReferenceIdeal.main_arg0) = m ((c.tc : Thread Cert.MixIdeal.nD Cert.MixIdeal.τ).loc Cert.MixIdeal.main_arg0)
      ∧ m' ((c.tc : Thread Cert.MixReferenceIdeal.nD Cert.MixReferenceIdeal.τ).loc Cert.MixReferenceIdeal.main_arg1) = m ((c.tc : Thread Cert.MixIdeal.nD Cert.MixIdeal.τ).loc Cert.MixIdeal.main_arg1)
      ∧ m' ((c.tc : Thread Cert.MixReferenceIdeal.nD Cert.MixReferenceIdeal.τ).loc Cert.MixReferenceIdeal.main_arg2) = m ((c.tc : Thread Cert.MixIdeal.nD Cert.MixIdeal.τ).loc Cert.MixIdeal.main_arg2)
      ∧ m' ((c.tc : Thread Cert.MixReferenceIdeal.nD Cert.MixReferenceIdeal.τ).loc Cert.MixReferenceIdeal.main_arg3) = m ((c.tc : Thread Cert.MixIdeal.nD Cert.MixIdeal.τ).loc Cert.MixIdeal.main_arg3)
      ∧ m' ((c.tc : Thread Cert.MixReferenceIdeal.nD Cert.MixReferenceIdeal.τ).loc Cert.MixReferenceIdeal.main_arg4) = m ((c.tc : Thread Cert.MixIdeal.nD Cert.MixIdeal.τ).loc Cert.MixIdeal.main_arg4)
      ∧ m' ((c.tc : Thread Cert.MixReferenceIdeal.nD Cert.MixReferenceIdeal.τ).loc Cert.MixReferenceIdeal.main_arg5) = m ((c.tc : Thread Cert.MixIdeal.nD Cert.MixIdeal.τ).loc Cert.MixIdeal.main_arg5)
      ∧ m' ((c.tc : Thread Cert.MixReferenceIdeal.nD Cert.MixReferenceIdeal.τ).loc Cert.MixReferenceIdeal.main_arg6) = m ((c.tc : Thread Cert.MixIdeal.nD Cert.MixIdeal.τ).loc Cert.MixIdeal.main_arg6)
      ∧ m' ((c.tc : Thread Cert.MixReferenceIdeal.nD Cert.MixReferenceIdeal.τ).loc Cert.MixReferenceIdeal.main_arg7) = m ((c.tc : Thread Cert.MixIdeal.nD Cert.MixIdeal.τ).loc Cert.MixIdeal.main_arg7)
      ∧ m' ((c.tc : Thread Cert.MixReferenceIdeal.nD Cert.MixReferenceIdeal.τ).loc Cert.MixReferenceIdeal.main_arg8) = m ((c.tc : Thread Cert.MixIdeal.nD Cert.MixIdeal.τ).loc Cert.MixIdeal.main_arg8)) →
    ∃ (v0 : (c : Dev Cert.MixIdeal.nD) → Buf (Elt Ideal) ((c.tc : Thread Cert.MixIdeal.nD Cert.MixIdeal.τ).loc Cert.MixIdeal.main_v8_0)) (v1 : (c : Dev Cert.MixIdeal.nD) → Buf (Elt Ideal) ((c.tc : Thread Cert.MixIdeal.nD Cert.MixIdeal.τ).loc Cert.MixIdeal.main_v8_1)),
      θ_run (Cert.MixIdeal.defs (F := Ideal)) (onTc (τ := Cert.MixIdeal.τ) (Cert.MixIdeal.main (F := Ideal))) ⟨m, fun _ => 0, g⟩ (fun r => ∀ c : Dev Cert.MixIdeal.nD,
          r.2.mem ((c.tc : Thread Cert.MixIdeal.nD Cert.MixIdeal.τ).loc Cert.MixIdeal.main_v8_0) = v0 c
          ∧ r.2.mem ((c.tc : Thread Cert.MixIdeal.nD Cert.MixIdeal.τ).loc Cert.MixIdeal.main_v8_1) = v1 c
          ∧ r.2.mem ((c.tc : Thread Cert.MixIdeal.nD Cert.MixIdeal.τ).loc Cert.MixIdeal.main_arg0) = m ((c.tc : Thread Cert.MixIdeal.nD Cert.MixIdeal.τ).loc Cert.MixIdeal.main_arg0)
          ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
          ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
          ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
          ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
          ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
          ∧ r.2.mem ((c.tc : Thread Cert.MixIdeal.nD Cert.MixIdeal.τ).loc Cert.MixIdeal.main_arg6) = m ((c.tc : Thread Cert.MixIdeal.nD Cert.MixIdeal.τ).loc Cert.MixIdeal.main_arg6)
          ∧ r.2.mem ((c.tc : Thread Cert.MixIdeal.nD Cert.MixIdeal.τ).loc Cert.MixIdeal.main_arg7) = m ((c.tc : Thread Cert.MixIdeal.nD Cert.MixIdeal.τ).loc Cert.MixIdeal.main_arg7)
          ∧ r.2.mem ((c.tc : Thread Cert.MixIdeal.nD Cert.MixIdeal.τ).loc Cert.MixIdeal.main_arg8) = m ((c.tc : Thread Cert.MixIdeal.nD Cert.MixIdeal.τ).loc Cert.MixIdeal.main_arg8))
      ∧ θ_run (Cert.MixReferenceIdeal.defs (F := Ideal)) (onTc (τ := Cert.MixReferenceIdeal.τ) (Cert.MixReferenceIdeal.main (F := Ideal))) ⟨m', fun _ => 0, g'⟩ (fun r => ∀ c : Dev Cert.MixReferenceIdeal.nD,
          r.2.mem ((c.tc : Thread Cert.MixReferenceIdeal.nD Cert.MixReferenceIdeal.τ).loc Cert.MixReferenceIdeal.main_v47) = v0 c
          ∧ r.2.mem ((c.tc : Thread Cert.MixReferenceIdeal.nD Cert.MixReferenceIdeal.τ).loc Cert.MixReferenceIdeal.main_v48) = v1 c
          ∧ r.2.mem ((c.tc : Thread Cert.MixReferenceIdeal.nD Cert.MixReferenceIdeal.τ).loc Cert.MixReferenceIdeal.main_arg0) = m' ((c.tc : Thread Cert.MixReferenceIdeal.nD Cert.MixReferenceIdeal.τ).loc Cert.MixReferenceIdeal.main_arg0)
          ∧ r.2.mem ((c.tc : Thread Cert.MixReferenceIdeal.nD Cert.MixReferenceIdeal.τ).loc Cert.MixReferenceIdeal.main_arg1) = m' ((c.tc : Thread Cert.MixReferenceIdeal.nD Cert.MixReferenceIdeal.τ).loc Cert.MixReferenceIdeal.main_arg1)
          ∧ r.2.mem ((c.tc : Thread Cert.MixReferenceIdeal.nD Cert.MixReferenceIdeal.τ).loc Cert.MixReferenceIdeal.main_arg2) = m' ((c.tc : Thread Cert.MixReferenceIdeal.nD Cert.MixReferenceIdeal.τ).loc Cert.MixReferenceIdeal.main_arg2)
          ∧ r.2.mem ((c.tc : Thread Cert.MixReferenceIdeal.nD Cert.MixReferenceIdeal.τ).loc Cert.MixReferenceIdeal.main_arg3) = m' ((c.tc : Thread Cert.MixReferenceIdeal.nD Cert.MixReferenceIdeal.τ).loc Cert.MixReferenceIdeal.main_arg3)
          ∧ r.2.mem ((c.tc : Thread Cert.MixReferenceIdeal.nD Cert.MixReferenceIdeal.τ).loc Cert.MixReferenceIdeal.main_arg4) = m' ((c.tc : Thread Cert.MixReferenceIdeal.nD Cert.MixReferenceIdeal.τ).loc Cert.MixReferenceIdeal.main_arg4)
          ∧ r.2.mem ((c.tc : Thread Cert.MixReferenceIdeal.nD Cert.MixReferenceIdeal.τ).loc Cert.MixReferenceIdeal.main_arg5) = m' ((c.tc : Thread Cert.MixReferenceIdeal.nD Cert.MixReferenceIdeal.τ).loc Cert.MixReferenceIdeal.main_arg5)
          ∧ r.2.mem ((c.tc : Thread Cert.MixReferenceIdeal.nD Cert.MixReferenceIdeal.τ).loc Cert.MixReferenceIdeal.main_arg6) = m' ((c.tc : Thread Cert.MixReferenceIdeal.nD Cert.MixReferenceIdeal.τ).loc Cert.MixReferenceIdeal.main_arg6)
          ∧ r.2.mem ((c.tc : Thread Cert.MixReferenceIdeal.nD Cert.MixReferenceIdeal.τ).loc Cert.MixReferenceIdeal.main_arg7) = m' ((c.tc : Thread Cert.MixReferenceIdeal.nD Cert.MixReferenceIdeal.τ).loc Cert.MixReferenceIdeal.main_arg7)
          ∧ r.2.mem ((c.tc : Thread Cert.MixReferenceIdeal.nD Cert.MixReferenceIdeal.τ).loc Cert.MixReferenceIdeal.main_arg8) = m' ((c.tc : Thread Cert.MixReferenceIdeal.nD Cert.MixReferenceIdeal.τ).loc Cert.MixReferenceIdeal.main_arg8))

def preserves_Experts_ExpertsIdeal : Prop :=
  True

def algebraic_ExpertsIdeal_ExpertsReferenceIdeal_pre_slots_counted [hExpertsIdeal : Cert.ExpertsIdeal.Facts] [hExpertsReferenceIdeal : Cert.ExpertsReferenceIdeal.Facts] [hPre_slots_counted : Cert.Pre_slots_counted.Facts] : Prop :=
  ∀ (m : (ℓ : Loc Cert.ExpertsIdeal.nD Cert.ExpertsIdeal.τ Cert.ExpertsIdeal.sig) → Buf (Elt Ideal) ℓ) (g : Dev Cert.ExpertsIdeal.nD → PrngReg)
    (m' : (ℓ : Loc Cert.ExpertsReferenceIdeal.nD Cert.ExpertsReferenceIdeal.τ Cert.ExpertsReferenceIdeal.sig) → Buf (Elt Ideal) ℓ) (g' : Dev Cert.ExpertsReferenceIdeal.nD → PrngReg), Pre_ExpertsIdeal_slots_counted m →
    (∀ c : Dev Cert.ExpertsIdeal.nD,
      m' ((c.tc : Thread Cert.ExpertsReferenceIdeal.nD Cert.ExpertsReferenceIdeal.τ).loc Cert.ExpertsReferenceIdeal.main_arg0) = m ((c.tc : Thread Cert.ExpertsIdeal.nD Cert.ExpertsIdeal.τ).loc Cert.ExpertsIdeal.main_arg0)
      ∧ m' ((c.tc : Thread Cert.ExpertsReferenceIdeal.nD Cert.ExpertsReferenceIdeal.τ).loc Cert.ExpertsReferenceIdeal.main_arg1) = m ((c.tc : Thread Cert.ExpertsIdeal.nD Cert.ExpertsIdeal.τ).loc Cert.ExpertsIdeal.main_arg1)
      ∧ m' ((c.tc : Thread Cert.ExpertsReferenceIdeal.nD Cert.ExpertsReferenceIdeal.τ).loc Cert.ExpertsReferenceIdeal.main_arg2) = m ((c.tc : Thread Cert.ExpertsIdeal.nD Cert.ExpertsIdeal.τ).loc Cert.ExpertsIdeal.main_arg2)
      ∧ m' ((c.tc : Thread Cert.ExpertsReferenceIdeal.nD Cert.ExpertsReferenceIdeal.τ).loc Cert.ExpertsReferenceIdeal.main_arg3) = m ((c.tc : Thread Cert.ExpertsIdeal.nD Cert.ExpertsIdeal.τ).loc Cert.ExpertsIdeal.main_arg3)
      ∧ m' ((c.tc : Thread Cert.ExpertsReferenceIdeal.nD Cert.ExpertsReferenceIdeal.τ).loc Cert.ExpertsReferenceIdeal.main_arg4) = m ((c.tc : Thread Cert.ExpertsIdeal.nD Cert.ExpertsIdeal.τ).loc Cert.ExpertsIdeal.main_arg4)
      ∧ m' ((c.tc : Thread Cert.ExpertsReferenceIdeal.nD Cert.ExpertsReferenceIdeal.τ).loc Cert.ExpertsReferenceIdeal.main_arg5) = m ((c.tc : Thread Cert.ExpertsIdeal.nD Cert.ExpertsIdeal.τ).loc Cert.ExpertsIdeal.main_arg5)) →
    ∃ (v0 : (c : Dev Cert.ExpertsIdeal.nD) → Buf (Elt Ideal) ((c.tc : Thread Cert.ExpertsIdeal.nD Cert.ExpertsIdeal.τ).loc Cert.ExpertsIdeal.main_v4)),
      θ_run (Cert.ExpertsIdeal.defs (F := Ideal)) (onTc (τ := Cert.ExpertsIdeal.τ) (Cert.ExpertsIdeal.main (F := Ideal))) ⟨m, fun _ => 0, g⟩ (fun r => ∀ c : Dev Cert.ExpertsIdeal.nD,
          r.2.mem ((c.tc : Thread Cert.ExpertsIdeal.nD Cert.ExpertsIdeal.τ).loc Cert.ExpertsIdeal.main_v4) = v0 c
          ∧ r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
          ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
          ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
          ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
          ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4)
          ∧ r.2.mem ((c.tc : Thread Cert.ExpertsIdeal.nD Cert.ExpertsIdeal.τ).loc Cert.ExpertsIdeal.main_arg5) = m ((c.tc : Thread Cert.ExpertsIdeal.nD Cert.ExpertsIdeal.τ).loc Cert.ExpertsIdeal.main_arg5))
      ∧ θ_run (Cert.ExpertsReferenceIdeal.defs (F := Ideal)) (onTc (τ := Cert.ExpertsReferenceIdeal.τ) (Cert.ExpertsReferenceIdeal.main (F := Ideal))) ⟨m', fun _ => 0, g'⟩ (fun r => ∀ c : Dev Cert.ExpertsReferenceIdeal.nD,
          r.2.mem ((c.tc : Thread Cert.ExpertsReferenceIdeal.nD Cert.ExpertsReferenceIdeal.τ).loc Cert.ExpertsReferenceIdeal.main_v124) = v0 c
          ∧ r.2.mem ((c.tc : Thread Cert.ExpertsReferenceIdeal.nD Cert.ExpertsReferenceIdeal.τ).loc Cert.ExpertsReferenceIdeal.main_arg0) = m' ((c.tc : Thread Cert.ExpertsReferenceIdeal.nD Cert.ExpertsReferenceIdeal.τ).loc Cert.ExpertsReferenceIdeal.main_arg0)
          ∧ r.2.mem ((c.tc : Thread Cert.ExpertsReferenceIdeal.nD Cert.ExpertsReferenceIdeal.τ).loc Cert.ExpertsReferenceIdeal.main_arg1) = m' ((c.tc : Thread Cert.ExpertsReferenceIdeal.nD Cert.ExpertsReferenceIdeal.τ).loc Cert.ExpertsReferenceIdeal.main_arg1)
          ∧ r.2.mem ((c.tc : Thread Cert.ExpertsReferenceIdeal.nD Cert.ExpertsReferenceIdeal.τ).loc Cert.ExpertsReferenceIdeal.main_arg2) = m' ((c.tc : Thread Cert.ExpertsReferenceIdeal.nD Cert.ExpertsReferenceIdeal.τ).loc Cert.ExpertsReferenceIdeal.main_arg2)
          ∧ r.2.mem ((c.tc : Thread Cert.ExpertsReferenceIdeal.nD Cert.ExpertsReferenceIdeal.τ).loc Cert.ExpertsReferenceIdeal.main_arg3) = m' ((c.tc : Thread Cert.ExpertsReferenceIdeal.nD Cert.ExpertsReferenceIdeal.τ).loc Cert.ExpertsReferenceIdeal.main_arg3)
          ∧ r.2.mem ((c.tc : Thread Cert.ExpertsReferenceIdeal.nD Cert.ExpertsReferenceIdeal.τ).loc Cert.ExpertsReferenceIdeal.main_arg4) = m' ((c.tc : Thread Cert.ExpertsReferenceIdeal.nD Cert.ExpertsReferenceIdeal.τ).loc Cert.ExpertsReferenceIdeal.main_arg4)
          ∧ r.2.mem ((c.tc : Thread Cert.ExpertsReferenceIdeal.nD Cert.ExpertsReferenceIdeal.τ).loc Cert.ExpertsReferenceIdeal.main_arg5) = m' ((c.tc : Thread Cert.ExpertsReferenceIdeal.nD Cert.ExpertsReferenceIdeal.τ).loc Cert.ExpertsReferenceIdeal.main_arg5))

def preserves_Combine_CombineIdeal : Prop :=
  True

def algebraic_CombineIdeal_CombineReferenceIdeal [hCombineIdeal : Cert.CombineIdeal.Facts] [hCombineReferenceIdeal : Cert.CombineReferenceIdeal.Facts] : Prop :=
  ∀ (m : (ℓ : Loc Cert.CombineIdeal.nD Cert.CombineIdeal.τ Cert.CombineIdeal.sig) → Buf (Elt Ideal) ℓ) (g : Dev Cert.CombineIdeal.nD → PrngReg)
    (m' : (ℓ : Loc Cert.CombineReferenceIdeal.nD Cert.CombineReferenceIdeal.τ Cert.CombineReferenceIdeal.sig) → Buf (Elt Ideal) ℓ) (g' : Dev Cert.CombineReferenceIdeal.nD → PrngReg), Pre_CombineIdeal m →
    (∀ c : Dev Cert.CombineIdeal.nD,
      m' ((c.tc : Thread Cert.CombineReferenceIdeal.nD Cert.CombineReferenceIdeal.τ).loc Cert.CombineReferenceIdeal.main_arg0) = m ((c.tc : Thread Cert.CombineIdeal.nD Cert.CombineIdeal.τ).loc Cert.CombineIdeal.main_arg0)
      ∧ m' ((c.tc : Thread Cert.CombineReferenceIdeal.nD Cert.CombineReferenceIdeal.τ).loc Cert.CombineReferenceIdeal.main_arg1) = m ((c.tc : Thread Cert.CombineIdeal.nD Cert.CombineIdeal.τ).loc Cert.CombineIdeal.main_arg1)
      ∧ m' ((c.tc : Thread Cert.CombineReferenceIdeal.nD Cert.CombineReferenceIdeal.τ).loc Cert.CombineReferenceIdeal.main_arg2) = m ((c.tc : Thread Cert.CombineIdeal.nD Cert.CombineIdeal.τ).loc Cert.CombineIdeal.main_arg2)
      ∧ m' ((c.tc : Thread Cert.CombineReferenceIdeal.nD Cert.CombineReferenceIdeal.τ).loc Cert.CombineReferenceIdeal.main_arg3) = m ((c.tc : Thread Cert.CombineIdeal.nD Cert.CombineIdeal.τ).loc Cert.CombineIdeal.main_arg3)
      ∧ m' ((c.tc : Thread Cert.CombineReferenceIdeal.nD Cert.CombineReferenceIdeal.τ).loc Cert.CombineReferenceIdeal.main_arg4) = m ((c.tc : Thread Cert.CombineIdeal.nD Cert.CombineIdeal.τ).loc Cert.CombineIdeal.main_arg4)
      ∧ m' ((c.tc : Thread Cert.CombineReferenceIdeal.nD Cert.CombineReferenceIdeal.τ).loc Cert.CombineReferenceIdeal.main_arg5) = m ((c.tc : Thread Cert.CombineIdeal.nD Cert.CombineIdeal.τ).loc Cert.CombineIdeal.main_arg5)) →
    ∃ (v0 : (c : Dev Cert.CombineIdeal.nD) → Buf (Elt Ideal) ((c.tc : Thread Cert.CombineIdeal.nD Cert.CombineIdeal.τ).loc Cert.CombineIdeal.main_v4)),
      θ_run (Cert.CombineIdeal.defs (F := Ideal)) (onTc (τ := Cert.CombineIdeal.τ) (Cert.CombineIdeal.main (F := Ideal))) ⟨m, fun _ => 0, g⟩ (fun r => ∀ c : Dev Cert.CombineIdeal.nD,
          r.2.mem ((c.tc : Thread Cert.CombineIdeal.nD Cert.CombineIdeal.τ).loc Cert.CombineIdeal.main_v4) = v0 c
          ∧ r.2.mem ((c.tc : Thread Cert.CombineIdeal.nD Cert.CombineIdeal.τ).loc Cert.CombineIdeal.main_arg0) = m ((c.tc : Thread Cert.CombineIdeal.nD Cert.CombineIdeal.τ).loc Cert.CombineIdeal.main_arg0)
          ∧ r.2.mem ((c.tc : Thread Cert.CombineIdeal.nD Cert.CombineIdeal.τ).loc Cert.CombineIdeal.main_arg1) = m ((c.tc : Thread Cert.CombineIdeal.nD Cert.CombineIdeal.τ).loc Cert.CombineIdeal.main_arg1)
          ∧ r.2.mem ((c.tc : Thread Cert.CombineIdeal.nD Cert.CombineIdeal.τ).loc Cert.CombineIdeal.main_arg2) = m ((c.tc : Thread Cert.CombineIdeal.nD Cert.CombineIdeal.τ).loc Cert.CombineIdeal.main_arg2)
          ∧ r.2.mem ((c.tc : Thread Cert.CombineIdeal.nD Cert.CombineIdeal.τ).loc Cert.CombineIdeal.main_arg3) = m ((c.tc : Thread Cert.CombineIdeal.nD Cert.CombineIdeal.τ).loc Cert.CombineIdeal.main_arg3)
          ∧ r.2.mem ((c.tc : Thread Cert.CombineIdeal.nD Cert.CombineIdeal.τ).loc Cert.CombineIdeal.main_arg4) = m ((c.tc : Thread Cert.CombineIdeal.nD Cert.CombineIdeal.τ).loc Cert.CombineIdeal.main_arg4)
          ∧ r.2.mem ((c.tc : Thread Cert.CombineIdeal.nD Cert.CombineIdeal.τ).loc Cert.CombineIdeal.main_arg5) = m ((c.tc : Thread Cert.CombineIdeal.nD Cert.CombineIdeal.τ).loc Cert.CombineIdeal.main_arg5))
      ∧ θ_run (Cert.CombineReferenceIdeal.defs (F := Ideal)) (onTc (τ := Cert.CombineReferenceIdeal.τ) (Cert.CombineReferenceIdeal.main (F := Ideal))) ⟨m', fun _ => 0, g'⟩ (fun r => ∀ c : Dev Cert.CombineReferenceIdeal.nD,
          r.2.mem ((c.tc : Thread Cert.CombineReferenceIdeal.nD Cert.CombineReferenceIdeal.τ).loc Cert.CombineReferenceIdeal.main_v45) = v0 c
          ∧ r.2.mem ((c.tc : Thread Cert.CombineReferenceIdeal.nD Cert.CombineReferenceIdeal.τ).loc Cert.CombineReferenceIdeal.main_arg0) = m' ((c.tc : Thread Cert.CombineReferenceIdeal.nD Cert.CombineReferenceIdeal.τ).loc Cert.CombineReferenceIdeal.main_arg0)
          ∧ r.2.mem ((c.tc : Thread Cert.CombineReferenceIdeal.nD Cert.CombineReferenceIdeal.τ).loc Cert.CombineReferenceIdeal.main_arg1) = m' ((c.tc : Thread Cert.CombineReferenceIdeal.nD Cert.CombineReferenceIdeal.τ).loc Cert.CombineReferenceIdeal.main_arg1)
          ∧ r.2.mem ((c.tc : Thread Cert.CombineReferenceIdeal.nD Cert.CombineReferenceIdeal.τ).loc Cert.CombineReferenceIdeal.main_arg2) = m' ((c.tc : Thread Cert.CombineReferenceIdeal.nD Cert.CombineReferenceIdeal.τ).loc Cert.CombineReferenceIdeal.main_arg2)
          ∧ r.2.mem ((c.tc : Thread Cert.CombineReferenceIdeal.nD Cert.CombineReferenceIdeal.τ).loc Cert.CombineReferenceIdeal.main_arg3) = m' ((c.tc : Thread Cert.CombineReferenceIdeal.nD Cert.CombineReferenceIdeal.τ).loc Cert.CombineReferenceIdeal.main_arg3)
          ∧ r.2.mem ((c.tc : Thread Cert.CombineReferenceIdeal.nD Cert.CombineReferenceIdeal.τ).loc Cert.CombineReferenceIdeal.main_arg4) = m' ((c.tc : Thread Cert.CombineReferenceIdeal.nD Cert.CombineReferenceIdeal.τ).loc Cert.CombineReferenceIdeal.main_arg4)
          ∧ r.2.mem ((c.tc : Thread Cert.CombineReferenceIdeal.nD Cert.CombineReferenceIdeal.τ).loc Cert.CombineReferenceIdeal.main_arg5) = m' ((c.tc : Thread Cert.CombineReferenceIdeal.nD Cert.CombineReferenceIdeal.τ).loc Cert.CombineReferenceIdeal.main_arg5))

def Claim : Prop :=
  ∃ (hMoe : Cert.Moe.Facts) (hMoeIdeal : Cert.MoeIdeal.Facts) (hMoeReferenceIdeal : Cert.MoeReferenceIdeal.Facts) (hFfn : Cert.Ffn.Facts) (hFfnIdeal : Cert.FfnIdeal.Facts) (hFfnReferenceIdeal : Cert.FfnReferenceIdeal.Facts) (hMix : Cert.Mix.Facts) (hMixIdeal : Cert.MixIdeal.Facts) (hMixReferenceIdeal : Cert.MixReferenceIdeal.Facts) (hExperts : Cert.Experts.Facts) (hExpertsIdeal : Cert.ExpertsIdeal.Facts) (hExpertsReferenceIdeal : Cert.ExpertsReferenceIdeal.Facts) (hCombine : Cert.Combine.Facts) (hCombineIdeal : Cert.CombineIdeal.Facts) (hCombineReferenceIdeal : Cert.CombineReferenceIdeal.Facts) (hPre_gates_weights : Cert.Pre_gates_weights.Facts) (hPre_slots_counted : Cert.Pre_slots_counted.Facts),
    quiescent_Moe (hMoe := hMoe)
    ∧ quiescent_MoeIdeal (hMoeIdeal := hMoeIdeal)
    ∧ quiescent_MoeIdeal_pre_gates_weights (hMoeIdeal := hMoeIdeal) (hPre_gates_weights := hPre_gates_weights)
    ∧ quiescent_MoeReferenceIdeal (hMoeReferenceIdeal := hMoeReferenceIdeal)
    ∧ quiescent_MoeReferenceIdeal_pre_gates_weights (hMoeReferenceIdeal := hMoeReferenceIdeal) (hPre_gates_weights := hPre_gates_weights)
    ∧ quiescent_Ffn (hFfn := hFfn)
    ∧ quiescent_FfnIdeal (hFfnIdeal := hFfnIdeal)
    ∧ quiescent_FfnReferenceIdeal (hFfnReferenceIdeal := hFfnReferenceIdeal)
    ∧ quiescent_Mix (hMix := hMix)
    ∧ quiescent_MixIdeal (hMixIdeal := hMixIdeal)
    ∧ quiescent_MixReferenceIdeal (hMixReferenceIdeal := hMixReferenceIdeal)
    ∧ quiescent_Experts (hExperts := hExperts)
    ∧ quiescent_ExpertsIdeal (hExpertsIdeal := hExpertsIdeal)
    ∧ quiescent_ExpertsIdeal_pre_slots_counted (hExpertsIdeal := hExpertsIdeal) (hPre_slots_counted := hPre_slots_counted)
    ∧ quiescent_ExpertsReferenceIdeal (hExpertsReferenceIdeal := hExpertsReferenceIdeal)
    ∧ quiescent_ExpertsReferenceIdeal_pre_slots_counted (hExpertsReferenceIdeal := hExpertsReferenceIdeal) (hPre_slots_counted := hPre_slots_counted)
    ∧ quiescent_Combine (hCombine := hCombine)
    ∧ quiescent_CombineIdeal (hCombineIdeal := hCombineIdeal)
    ∧ quiescent_CombineReferenceIdeal (hCombineReferenceIdeal := hCombineReferenceIdeal)
    ∧ preserves_Moe_MoeIdeal
    ∧ algebraic_MoeIdeal_MoeReferenceIdeal_pre_gates_weights (hMoeIdeal := hMoeIdeal) (hMoeReferenceIdeal := hMoeReferenceIdeal) (hPre_gates_weights := hPre_gates_weights)
    ∧ preserves_Ffn_FfnIdeal
    ∧ algebraic_FfnIdeal_FfnReferenceIdeal (hFfnIdeal := hFfnIdeal) (hFfnReferenceIdeal := hFfnReferenceIdeal)
    ∧ preserves_Mix_MixIdeal
    ∧ algebraic_MixIdeal_MixReferenceIdeal (hMixIdeal := hMixIdeal) (hMixReferenceIdeal := hMixReferenceIdeal)
    ∧ preserves_Experts_ExpertsIdeal
    ∧ algebraic_ExpertsIdeal_ExpertsReferenceIdeal_pre_slots_counted (hExpertsIdeal := hExpertsIdeal) (hExpertsReferenceIdeal := hExpertsReferenceIdeal) (hPre_slots_counted := hPre_slots_counted)
    ∧ preserves_Combine_CombineIdeal
    ∧ algebraic_CombineIdeal_CombineReferenceIdeal (hCombineIdeal := hCombineIdeal) (hCombineReferenceIdeal := hCombineReferenceIdeal)
-- ==== Pre_gates_weights.lean ====
abbrev S65536x1024 : Shape := ⟨2, ![65536, 1024]⟩
abbrev S65536x8 : Shape := ⟨2, ![65536, 8]⟩
abbrev S8x1024x3584 : Shape := ⟨3, ![8, 1024, 3584]⟩
abbrev S8x3584x1024 : Shape := ⟨3, ![8, 3584, 1024]⟩
abbrev S1024 : Shape := ⟨1, ![1024]⟩
abbrev S_ : Shape := ⟨0, ![]⟩

class Facts : Prop where
  bcast_S_S65536x8 : S_.BroadcastsInDim S65536x8 (![] : Fin 0 → Fin S65536x8.rank)

variable [Facts]

def fn {F : FTy → Type} [FloatOps F] (main_arg0 : FVec F S65536x1024 .f32) (main_arg1 : FVec F S65536x8 .f32) (main_arg2 : FVec F S8x1024x3584 .f32) (main_arg3 : FVec F S8x1024x3584 .f32) (main_arg4 : FVec F S8x3584x1024 .f32) (main_arg5 : FVec F S1024 .f32) (main_arg6 : FVec F S1024 .f32) : IVec S65536x8 1 × IVec S65536x8 1 :=
  let main_cst : FVec F S_ .f32 := constant S_ .f32 0x00000000#32
  let main_v0 : FVec F S65536x8 .f32 := broadcastInDim S65536x8 ![] bcast_S_S65536x8 main_cst
  let main_v1 : IVec S65536x8 1 := cmpf .oge main_arg1 main_v0
  let main_cst_0 : FVec F S_ .f32 := constant S_ .f32 0x7F800000#32
  let main_v2 : FVec F S65536x8 .f32 := broadcastInDim S65536x8 ![] bcast_S_S65536x8 main_cst_0
  let main_v3 : IVec S65536x8 1 := cmpf .olt main_arg1 main_v2
  (main_v1, main_v3)
-- ==== Pre_slots_counted.lean ====
abbrev S512 : Shape := ⟨1, ![512]⟩
abbrev S65536x1024 : Shape := ⟨2, ![65536, 1024]⟩
abbrev S64x8x1024 : Shape := ⟨3, ![64, 8, 1024]⟩
abbrev S8x1024x3584 : Shape := ⟨3, ![8, 1024, 3584]⟩
abbrev S8x3584x1024 : Shape := ⟨3, ![8, 3584, 1024]⟩
abbrev S64x8x1 : Shape := ⟨3, ![64, 8, 1]⟩

class Facts : Prop where
  shapeCasts_S512_S64x8x1 : S512.ShapeCasts S64x8x1
  bcast_S64x8x1_S64x8x1024_0_1_2 : S64x8x1.BroadcastsInDim S64x8x1024 (![0, 1, 2] : Fin 3 → Fin S64x8x1024.rank)

variable [Facts]

def fn {F : FTy → Type} [FloatOps F] (main_arg0 : IVec S512 32) (main_arg1 : FVec F S65536x1024 .f32) (main_arg2 : FVec F S64x8x1024 .f32) (main_arg3 : FVec F S8x1024x3584 .f32) (main_arg4 : FVec F S8x1024x3584 .f32) (main_arg5 : FVec F S8x3584x1024 .f32) : IVec S64x8x1024 1 :=
  let main_v0 : IVec S64x8x1 32 := shapeCast S64x8x1 main_arg0 shapeCasts_S512_S64x8x1
  let main_v1 : FVec F S64x8x1 .f32 := sitofp .f32 main_v0
  let main_v2 : FVec F S64x8x1024 .f32 := broadcastInDim S64x8x1024 ![0, 1, 2] bcast_S64x8x1_S64x8x1024_0_1_2 main_v1
  let main_v3 : IVec S64x8x1024 1 := cmpf .olt main_arg2 main_v2
  main_v3
-- ==== Moe.lean ====
abbrev S65536x1024 : Shape := ⟨2, ![65536, 1024]⟩
abbrev S65536x8 : Shape := ⟨2, ![65536, 8]⟩
abbrev S8x1024x3584 : Shape := ⟨3, ![8, 1024, 3584]⟩
abbrev S8x3584x1024 : Shape := ⟨3, ![8, 3584, 1024]⟩
abbrev S1024 : Shape := ⟨1, ![1024]⟩
abbrev S1x1024 : Shape := ⟨2, ![1, 1024]⟩
abbrev S_ : Shape := ⟨0, ![]⟩
abbrev S65536x128 : Shape := ⟨2, ![65536, 128]⟩
abbrev S1024x1024 : Shape := ⟨2, ![1024, 1024]⟩
abbrev S1024x128 : Shape := ⟨2, ![1024, 128]⟩
abbrev S1x1024x512 : Shape := ⟨3, ![1, 1024, 512]⟩
abbrev S1x512x1024 : Shape := ⟨3, ![1, 512, 1024]⟩
abbrev S1024x1 : Shape := ⟨2, ![1024, 1]⟩
abbrev S1024x512 : Shape := ⟨2, ![1024, 512]⟩
abbrev S512x1024 : Shape := ⟨2, ![512, 1024]⟩

abbrev nBuf : Space → Nat
  | .hbm => 17
  | .vmem => 17
  | .smem => 0
  | _ => 0

abbrev bufTy : (tb : Table) → Fin (tcTables nBuf tb) → BufTy
  | .hbm, ⟨0, _⟩ => ⟨S65536x1024, .f32⟩
  | .hbm, ⟨1, _⟩ => ⟨S65536x8, .f32⟩
  | .hbm, ⟨2, _⟩ => ⟨S8x1024x3584, .f32⟩
  | .hbm, ⟨3, _⟩ => ⟨S8x1024x3584, .f32⟩
  | .hbm, ⟨4, _⟩ => ⟨S8x3584x1024, .f32⟩
  | .hbm, ⟨5, _⟩ => ⟨S1024, .f32⟩
  | .hbm, ⟨6, _⟩ => ⟨S1024, .f32⟩
  | .hbm, ⟨7, _⟩ => ⟨S1x1024, .f32⟩
  | .hbm, ⟨8, _⟩ => ⟨S1x1024, .f32⟩
  | .hbm, ⟨9, _⟩ => ⟨S_, .i32⟩
  | .hbm, ⟨10, _⟩ => ⟨S_, .f32⟩
  | .hbm, ⟨11, _⟩ => ⟨S65536x128, .f32⟩
  | .hbm, ⟨12, _⟩ => ⟨S65536x1024, .bf16⟩
  | .hbm, ⟨13, _⟩ => ⟨S8x1024x3584, .bf16⟩
  | .hbm, ⟨14, _⟩ => ⟨S8x1024x3584, .bf16⟩
  | .hbm, ⟨15, _⟩ => ⟨S8x3584x1024, .bf16⟩
  | .hbm, ⟨16, _⟩ => ⟨S65536x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .f32⟩
  | .local _ .vmem, ⟨3, _⟩ => ⟨S1024x1024, .f32⟩
  | .local _ .vmem, ⟨4, _⟩ => ⟨S1024x128, .f32⟩
  | .local _ .vmem, ⟨5, _⟩ => ⟨S1024x128, .f32⟩
  | .local _ .vmem, ⟨6, _⟩ => ⟨S1x1024x512, .bf16⟩
  | .local _ .vmem, ⟨7, _⟩ => ⟨S1x1024x512, .bf16⟩
  | .local _ .vmem, ⟨8, _⟩ => ⟨S1x1024x512, .bf16⟩
  | .local _ .vmem, ⟨9, _⟩ => ⟨S1x1024x512, .bf16⟩
  | .local _ .vmem, ⟨10, _⟩ => ⟨S1x512x1024, .bf16⟩
  | .local _ .vmem, ⟨11, _⟩ => ⟨S1x512x1024, .bf16⟩
  | .local _ .vmem, ⟨12, _⟩ => ⟨S1x1024, .f32⟩
  | .local _ .vmem, ⟨13, _⟩ => ⟨S1x1024, .f32⟩
  | .local _ .vmem, ⟨14, _⟩ => ⟨S1024x1024, .f32⟩
  | .local _ .vmem, ⟨15, _⟩ => ⟨S1024x1024, .f32⟩
  | .local _ .vmem, ⟨16, _⟩ => ⟨S1024x1024, .f32⟩
  | _, _ => ⟨S65536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_c : Ref sig .tc := ⟨.hbm, 9, rfl⟩
abbrev main_call0_v0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg8_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨3, ![64, 8, 7], ![false, false, false]⟩

def k0_cond2 (i : grid0.Coords) : BitVec 1 :=
  let arg1 : BitVec 32 := BitVec.ofNat 32 (i 1).val
  let c7_i32 : BitVec 32 := 7#32
  let v36 : BitVec 1 := Scalar.cmpi .eq arg1 c7_i32
  let arg2 : BitVec 32 := BitVec.ofNat 32 (i 2).val
  let c6_i32 : BitVec 32 := 6#32
  let v37 : BitVec 1 := Scalar.cmpi .eq arg2 c6_i32
  let v38 : BitVec 1 := Scalar.andi v36 v37
  let v39 : BitVec 32 := Scalar.extui v38
  let c0_i32_22 : BitVec 32 := 0#32
  let v40 : BitVec 1 := Scalar.cmpi .ne v39 c0_i32_22
  v40

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat, arg2.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat, arg2.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg2.toNat, c0_i32.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, false]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S1x1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, true]

abbrev stage0_4 : Fin 2 → Memref sig .tc .vmem S1x1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, true]

abbrev stage0_5 : Fin 2 → Memref sig .tc .vmem S1x512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true, true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false, false]

abbrev stage0_8 : Fin 2 → Memref sig .tc .vmem S1024x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false, false]
-- ==== MoeReferenceIdeal.lean ====
abbrev S65536x1024 : Shape := ⟨2, ![65536, 1024]⟩
abbrev S65536x8 : Shape := ⟨2, ![65536, 8]⟩
abbrev S8x1024x3584 : Shape := ⟨3, ![8, 1024, 3584]⟩
abbrev S8x3584x1024 : Shape := ⟨3, ![8, 3584, 1024]⟩
abbrev S1024 : Shape := ⟨1, ![1024]⟩
abbrev S_ : Shape := ⟨0, ![]⟩
abbrev S65536x1 : Shape := ⟨2, ![65536, 1]⟩
abbrev S1x1024x3584 : Shape := ⟨3, ![1, 1024, 3584]⟩
abbrev S1024x3584 : Shape := ⟨2, ![1024, 3584]⟩
abbrev S1x3584x1024 : Shape := ⟨3, ![1, 3584, 1024]⟩
abbrev S3584x1024 : Shape := ⟨2, ![3584, 1024]⟩
abbrev S65536x3584 : Shape := ⟨2, ![65536, 3584]⟩
abbrev S65536 : Shape := ⟨1, ![65536]⟩
abbrev S1x1024 : Shape := ⟨2, ![1, 1024]⟩

abbrev nBuf : Space → Nat
  | .hbm => 226
  | .vmem => 0
  | .smem => 0
  | _ => 0

abbrev hbmTy0_0 (i : Nat) : BufTy := match i % 128 with
  | 0 => ⟨S65536x1024, .f32⟩
  | 1 => ⟨S65536x8, .f32⟩
  | 2 => ⟨S8x1024x3584, .f32⟩
  | 3 => ⟨S8x1024x3584, .f32⟩
  | 4 => ⟨S8x3584x1024, .f32⟩
  | 5 => ⟨S1024, .f32⟩
  | 6 => ⟨S1024, .f32⟩
  | 7 => ⟨S_, .f32⟩
  | 8 => ⟨S65536x1024, .f32⟩
  | 9 => ⟨S65536x1, .f32⟩
  | 10 => ⟨S1x1024x3584, .f32⟩
  | 11 => ⟨S1024x3584, .f32⟩
  | 12 => ⟨S1x1024x3584, .f32⟩
  | 13 => ⟨S1024x3584, .f32⟩
  | 14 => ⟨S1x3584x1024, .f32⟩
  | 15 => ⟨S3584x1024, .f32⟩
  | 16 => ⟨S65536x3584, .f32⟩
  | 17 => ⟨S65536x3584, .f32⟩
  | 18 => ⟨S65536x3584, .f32⟩
  | 19 => ⟨S_, .f32⟩
  | 20 => ⟨S65536x3584, .f32⟩
  | 21 => ⟨S65536x3584, .f32⟩
  | 22 => ⟨S_, .f32⟩
  | 23 => ⟨S65536x3584, .f32⟩
  | 24 => ⟨S65536x3584, .f32⟩
  | 25 => ⟨S65536x3584, .f32⟩
  | 26 => ⟨S65536x3584, .f32⟩
  | 27 => ⟨S65536x3584, .f32⟩
  | 28 => ⟨S65536x1024, .f32⟩
  | 29 => ⟨S65536x1024, .f32⟩
  | 30 => ⟨S65536x1024, .f32⟩
  | 31 => ⟨S65536x1024, .f32⟩
  | 32 => ⟨S65536x1, .f32⟩
  | 33 => ⟨S1x1024x3584, .f32⟩
  | 34 => ⟨S1024x3584, .f32⟩
  | 35 => ⟨S1x1024x3584, .f32⟩
  | 36 => ⟨S1024x3584, .f32⟩
  | 37 => ⟨S1x3584x1024, .f32⟩
  | 38 => ⟨S3584x1024, .f32⟩
  | 39 => ⟨S65536x3584, .f32⟩
  | 40 => ⟨S65536x3584, .f32⟩
  | 41 => ⟨S65536x3584, .f32⟩
  | 42 => ⟨S_, .f32⟩
  | 43 => ⟨S65536x3584, .f32⟩
  | 44 => ⟨S65536x3584, .f32⟩
  | 45 => ⟨S_, .f32⟩
  | 46 => ⟨S65536x3584, .f32⟩
  | 47 => ⟨S65536x3584, .f32⟩
  | 48 => ⟨S65536x3584, .f32⟩
  | 49 => ⟨S65536x3584, .f32⟩
  | 50 => ⟨S65536x3584, .f32⟩
  | 51 => ⟨S65536x1024, .f32⟩
  | 52 => ⟨S65536x1024, .f32⟩
  | 53 => ⟨S65536x1024, .f32⟩
  | 54 => ⟨S65536x1024, .f32⟩
  | 55 => ⟨S65536x1, .f32⟩
  | 56 => ⟨S1x1024x3584, .f32⟩
  | 57 => ⟨S1024x3584, .f32⟩
  | 58 => ⟨S1x1024x3584, .f32⟩
  | 59 => ⟨S1024x3584, .f32⟩
  | 60 => ⟨S1x3584x1024, .f32⟩
  | 61 => ⟨S3584x1024, .f32⟩
  | 62 => ⟨S65536x3584, .f32⟩
  | 63 => ⟨S65536x3584, .f32⟩
  | 64 => ⟨S65536x3584, .f32⟩
  | 65 => ⟨S_, .f32⟩
  | 66 => ⟨S65536x3584, .f32⟩
  | 67 => ⟨S65536x3584, .f32⟩
  | 68 => ⟨S_, .f32⟩
  | 69 => ⟨S65536x3584, .f32⟩
  | 70 => ⟨S65536x3584, .f32⟩
  | 71 => ⟨S65536x3584, .f32⟩
  | 72 => ⟨S65536x3584, .f32⟩
  | 73 => ⟨S65536x3584, .f32⟩
  | 74 => ⟨S65536x1024, .f32⟩
  | 75 => ⟨S65536x1024, .f32⟩
  | 76 => ⟨S65536x1024, .f32⟩
  | 77 => ⟨S65536x1024, .f32⟩
  | 78 => ⟨S65536x1, .f32⟩
  | 79 => ⟨S1x1024x3584, .f32⟩
  | 80 => ⟨S1024x3584, .f32⟩
  | 81 => ⟨S1x1024x3584, .f32⟩
  | 82 => ⟨S1024x3584, .f32⟩
  | 83 => ⟨S1x3584x1024, .f32⟩
  | 84 => ⟨S3584x1024, .f32⟩
  | 85 => ⟨S65536x3584, .f32⟩
  | 86 => ⟨S65536x3584, .f32⟩
  | 87 => ⟨S65536x3584, .f32⟩
  | 88 => ⟨S_, .f32⟩
  | 89 => ⟨S65536x3584, .f32⟩
  | 90 => ⟨S65536x3584, .f32⟩
  | 91 => ⟨S_, .f32⟩
  | 92 => ⟨S65536x3584, .f32⟩
  | 93 => ⟨S65536x3584, .f32⟩
  | 94 => ⟨S65536x3584, .f32⟩
  | 95 => ⟨S65536x3584, .f32⟩
  | 96 => ⟨S65536x3584, .f32⟩
  | 97 => ⟨S65536x1024, .f32⟩
  | 98 => ⟨S65536x1024, .f32⟩
  | 99 => ⟨S65536x1024, .f32⟩
  | 100 => ⟨S65536x1024, .f32⟩
  | 101 => ⟨S65536x1, .f32⟩
  | 102 => ⟨S1x1024x3584, .f32⟩
  | 103 => ⟨S1024x3584, .f32⟩
  | 104 => ⟨S1x1024x3584, .f32⟩
  | 105 => ⟨S1024x3584, .f32⟩
  | 106 => ⟨S1x3584x1024, .f32⟩
  | 107 => ⟨S3584x1024, .f32⟩
  | 108 => ⟨S65536x3584, .f32⟩
  | 109 => ⟨S65536x3584, .f32⟩
  | 110 => ⟨S65536x3584, .f32⟩
  | 111 => ⟨S_, .f32⟩
  | 112 => ⟨S65536x3584, .f32⟩
  | 113 => ⟨S65536x3584, .f32⟩
  | 114 => ⟨S_, .f32⟩
  | 115 => ⟨S65536x3584, .f32⟩
  | 116 => ⟨S65536x3584, .f32⟩
  | 117 => ⟨S65536x3584, .f32⟩
  | 118 => ⟨S65536x3584, .f32⟩
  | 119 => ⟨S65536x3584, .f32⟩
  | 120 => ⟨S65536x1024, .f32⟩
  | 121 => ⟨S65536x1024, .f32⟩
  | 122 => ⟨S65536x1024, .f32⟩
  | 123 => ⟨S65536x1024, .f32⟩
  | 124 => ⟨S65536x1, .f32⟩
  | 125 => ⟨S1x1024x3584, .f32⟩
  | 126 => ⟨S1024x3584, .f32⟩
  | 127 => ⟨S1x1024x3584, .f32⟩
  | _ => ⟨S65536x1024, .f32⟩

abbrev hbmTy0_1 (i : Nat) : BufTy := match i % 128 with
  | 0 => ⟨S1024x3584, .f32⟩
  | 1 => ⟨S1x3584x1024, .f32⟩
  | 2 => ⟨S3584x1024, .f32⟩
  | 3 => ⟨S65536x3584, .f32⟩
  | 4 => ⟨S65536x3584, .f32⟩
  | 5 => ⟨S65536x3584, .f32⟩
  | 6 => ⟨S_, .f32⟩
  | 7 => ⟨S65536x3584, .f32⟩
  | 8 => ⟨S65536x3584, .f32⟩
  | 9 => ⟨S_, .f32⟩
  | 10 => ⟨S65536x3584, .f32⟩
  | 11 => ⟨S65536x3584, .f32⟩
  | 12 => ⟨S65536x3584, .f32⟩
  | 13 => ⟨S65536x3584, .f32⟩
  | 14 => ⟨S65536x3584, .f32⟩
  | 15 => ⟨S65536x1024, .f32⟩
  | 16 => ⟨S65536x1024, .f32⟩
  | 17 => ⟨S65536x1024, .f32⟩
  | 18 => ⟨S65536x1024, .f32⟩
  | 19 => ⟨S65536x1, .f32⟩
  | 20 => ⟨S1x1024x3584, .f32⟩
  | 21 => ⟨S1024x3584, .f32⟩
  | 22 => ⟨S1x1024x3584, .f32⟩
  | 23 => ⟨S1024x3584, .f32⟩
  | 24 => ⟨S1x3584x1024, .f32⟩
  | 25 => ⟨S3584x1024, .f32⟩
  | 26 => ⟨S65536x3584, .f32⟩
  | 27 => ⟨S65536x3584, .f32⟩
  | 28 => ⟨S65536x3584, .f32⟩
  | 29 => ⟨S_, .f32⟩
  | 30 => ⟨S65536x3584, .f32⟩
  | 31 => ⟨S65536x3584, .f32⟩
  | 32 => ⟨S_, .f32⟩
  | 33 => ⟨S65536x3584, .f32⟩
  | 34 => ⟨S65536x3584, .f32⟩
  | 35 => ⟨S65536x3584, .f32⟩
  | 36 => ⟨S65536x3584, .f32⟩
  | 37 => ⟨S65536x3584, .f32⟩
  | 38 => ⟨S65536x1024, .f32⟩
  | 39 => ⟨S65536x1024, .f32⟩
  | 40 => ⟨S65536x1024, .f32⟩
  | 41 => ⟨S65536x1024, .f32⟩
  | 42 => ⟨S65536x1, .f32⟩
  | 43 => ⟨S1x1024x3584, .f32⟩
  | 44 => ⟨S1024x3584, .f32⟩
  | 45 => ⟨S1x1024x3584, .f32⟩
  | 46 => ⟨S1024x3584, .f32⟩
  | 47 => ⟨S1x3584x1024, .f32⟩
  | 48 => ⟨S3584x1024, .f32⟩
  | 49 => ⟨S65536x3584, .f32⟩
  | 50 => ⟨S65536x3584, .f32⟩
  | 51 => ⟨S65536x3584, .f32⟩
  | 52 => ⟨S_, .f32⟩
  | 53 => ⟨S65536x3584, .f32⟩
  | 54 => ⟨S65536x3584, .f32⟩
  | 55 => ⟨S_, .f32⟩
  | 56 => ⟨S65536x3584, .f32⟩
  | 57 => ⟨S65536x3584, .f32⟩
  | 58 => ⟨S65536x3584, .f32⟩
  | 59 => ⟨S65536x3584, .f32⟩
  | 60 => ⟨S65536x3584, .f32⟩
  | 61 => ⟨S65536x1024, .f32⟩
  | 62 => ⟨S65536x1024, .f32⟩
  | 63 => ⟨S65536x1024, .f32⟩
  | 64 => ⟨S65536x1024, .f32⟩
  | 65 => ⟨S_, .f32⟩
  | 66 => ⟨S65536x1024, .f32⟩
  | 67 => ⟨S65536x1024, .f32⟩
  | 68 => ⟨S65536x1024, .f32⟩
  | 69 => ⟨S_, .f32⟩
  | 70 => ⟨S65536, .f32⟩
  | 71 => ⟨S65536x1, .f32⟩
  | 72 => ⟨S_, .f32⟩
  | 73 => ⟨S65536x1, .f32⟩
  | 74 => ⟨S65536x1, .f32⟩
  | 75 => ⟨S65536x1024, .f32⟩
  | 76 => ⟨S65536x1024, .f32⟩
  | 77 => ⟨S65536x1024, .f32⟩
  | 78 => ⟨S_, .f32⟩
  | 79 => ⟨S65536, .f32⟩
  | 80 => ⟨S65536x1, .f32⟩
  | 81 => ⟨S_, .f32⟩
  | 82 => ⟨S65536x1, .f32⟩
  | 83 => ⟨S65536x1, .f32⟩
  | 84 => ⟨S65536x1024, .f32⟩
  | 85 => ⟨S65536x1024, .f32⟩
  | 86 => ⟨S_, .f32⟩
  | 87 => ⟨S65536x1, .f32⟩
  | 88 => ⟨S65536x1, .f32⟩
  | 89 => ⟨S65536x1, .f32⟩
  | 90 => ⟨S65536x1024, .f32⟩
  | 91 => ⟨S65536x1024, .f32⟩
  | 92 => ⟨S1x1024, .f32⟩
  | 93 => ⟨S65536x1024, .f32⟩
  | 94 => ⟨S65536x1024, .f32⟩
  | 95 => ⟨S1x1024, .f32⟩
  | 96 => ⟨S65536x1024, .f32⟩
  | 97 => ⟨S65536x1024, .f32⟩
  | _ => ⟨S65536x1024, .f32⟩

abbrev hbmTy (i : Nat) : BufTy := match i / 128 with
  | 0 => hbmTy0_0 i
  | 1 => hbmTy0_1 i
  | _ => ⟨S65536x1024, .f32⟩

abbrev bufTy : (tb : Table) → Fin (tcTables nBuf tb) → BufTy
  | .hbm, ⟨i, _⟩ => hbmTy i
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_call0_v0 : Ref sig .tc := ⟨.hbm, 17, rfl⟩
abbrev main_call0_v1 : Ref sig .tc := ⟨.hbm, 18, rfl⟩
abbrev main_call0_cst : Ref sig .tc := ⟨.hbm, 19, rfl⟩
abbrev main_call0_v2 : Ref sig .tc := ⟨.hbm, 20, rfl⟩
abbrev main_call0_v3 : Ref sig .tc := ⟨.hbm, 21, rfl⟩
abbrev main_call0_cst_0 : Ref sig .tc := ⟨.hbm, 22, rfl⟩
abbrev main_call0_v4 : Ref sig .tc := ⟨.hbm, 23, rfl⟩
abbrev main_call0_v5 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_call1_v0 : Ref sig .tc := ⟨.hbm, 40, rfl⟩
abbrev main_call1_v1 : Ref sig .tc := ⟨.hbm, 41, rfl⟩
abbrev main_call1_cst : Ref sig .tc := ⟨.hbm, 42, rfl⟩
abbrev main_call1_v2 : Ref sig .tc := ⟨.hbm, 43, rfl⟩
abbrev main_call1_v3 : Ref sig .tc := ⟨.hbm, 44, rfl⟩
abbrev main_call1_cst_0 : Ref sig .tc := ⟨.hbm, 45, rfl⟩
abbrev main_call1_v4 : Ref sig .tc := ⟨.hbm, 46, rfl⟩
abbrev main_call1_v5 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_call2_v0 : Ref sig .tc := ⟨.hbm, 63, rfl⟩
abbrev main_call2_v1 : Ref sig .tc := ⟨.hbm, 64, rfl⟩
abbrev main_call2_cst : Ref sig .tc := ⟨.hbm, 65, rfl⟩
abbrev main_call2_v2 : Ref sig .tc := ⟨.hbm, 66, rfl⟩
abbrev main_call2_v3 : Ref sig .tc := ⟨.hbm, 67, rfl⟩
abbrev main_call2_cst_0 : Ref sig .tc := ⟨.hbm, 68, rfl⟩
abbrev main_call2_v4 : Ref sig .tc := ⟨.hbm, 69, rfl⟩
abbrev main_call2_v5 : Ref sig .tc := ⟨.hbm, 70, rfl⟩
abbrev main_v39 : Ref sig .tc := ⟨.hbm, 71, rfl⟩
abbrev main_v40 : Ref sig .tc := ⟨.hbm, 72, rfl⟩
abbrev main_v41 : Ref sig .tc := ⟨.hbm, 73, rfl⟩
abbrev main_v42 : Ref sig .tc := ⟨.hbm, 74, rfl⟩
abbrev main_v43 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_call3_v0 : Ref sig .tc := ⟨.hbm, 86, rfl⟩
abbrev main_call3_v1 : Ref sig .tc := ⟨.hbm, 87, rfl⟩
abbrev main_call3_cst : Ref sig .tc := ⟨.hbm, 88, rfl⟩
abbrev main_call3_v2 : Ref sig .tc := ⟨.hbm, 89, rfl⟩
abbrev main_call3_v3 : Ref sig .tc := ⟨.hbm, 90, rfl⟩
abbrev main_call3_cst_0 : Ref sig .tc := ⟨.hbm, 91, rfl⟩
abbrev main_call3_v4 : Ref sig .tc := ⟨.hbm, 92, rfl⟩
abbrev main_call3_v5 : Ref sig .tc := ⟨.hbm, 93, rfl⟩
abbrev main_v54 : Ref sig .tc := ⟨.hbm, 94, rfl⟩
abbrev main_v55 : Ref sig .tc := ⟨.hbm, 95, rfl⟩
abbrev main_v56 : Ref sig .tc := ⟨.hbm, 96, rfl⟩
abbrev main_v57 : Ref sig .tc := ⟨.hbm, 97, rfl⟩
abbrev main_v58 : Ref sig .tc := ⟨.hbm, 98, rfl⟩
abbrev main_v59 : Ref sig .tc := ⟨.hbm, 99, rfl⟩
abbrev main_v60 : Ref sig .tc := ⟨.hbm, 100, rfl⟩
abbrev main_v61 : Ref sig .tc := ⟨.hbm, 101, rfl⟩
abbrev main_v62 : Ref sig .tc := ⟨.hbm, 102, rfl⟩
abbrev main_v63 : Ref sig .tc := ⟨.hbm, 103, rfl⟩
abbrev main_v64 : Ref sig .tc := ⟨.hbm, 104, rfl⟩
abbrev main_v65 : Ref sig .tc := ⟨.hbm, 105, rfl⟩
abbrev main_v66 : Ref sig .tc := ⟨.hbm, 106, rfl⟩
abbrev main_v67 : Ref sig .tc := ⟨.hbm, 107, rfl⟩
abbrev main_v68 : Ref sig .tc := ⟨.hbm, 108, rfl⟩
abbrev main_call4_v0 : Ref sig .tc := ⟨.hbm, 109, rfl⟩
abbrev main_call4_v1 : Ref sig .tc := ⟨.hbm, 110, rfl⟩
abbrev main_call4_cst : Ref sig .tc := ⟨.hbm, 111, rfl⟩
abbrev main_call4_v2 : Ref sig .tc := ⟨.hbm, 112, rfl⟩
abbrev main_call4_v3 : Ref sig .tc := ⟨.hbm, 113, rfl⟩
abbrev main_call4_cst_0 : Ref sig .tc := ⟨.hbm, 114, rfl⟩
abbrev main_call4_v4 : Ref sig .tc := ⟨.hbm, 115, rfl⟩
abbrev main_call4_v5 : Ref sig .tc := ⟨.hbm, 116, rfl⟩
abbrev main_v69 : Ref sig .tc := ⟨.hbm, 117, rfl⟩
abbrev main_v70 : Ref sig .tc := ⟨.hbm, 118, rfl⟩
abbrev main_v71 : Ref sig .tc := ⟨.hbm, 119, rfl⟩
abbrev main_v72 : Ref sig .tc := ⟨.hbm, 120, rfl⟩
abbrev main_v73 : Ref sig .tc := ⟨.hbm, 121, rfl⟩
abbrev main_v74 : Ref sig .tc := ⟨.hbm, 122, rfl⟩
abbrev main_v75 : Ref sig .tc := ⟨.hbm, 123, rfl⟩
abbrev main_v76 : Ref sig .tc := ⟨.hbm, 124, rfl⟩
abbrev main_v77 : Ref sig .tc := ⟨.hbm, 125, rfl⟩
abbrev main_v78 : Ref sig .tc := ⟨.hbm, 126, rfl⟩
abbrev main_v79 : Ref sig .tc := ⟨.hbm, 127, rfl⟩
abbrev main_v80 : Ref sig .tc := ⟨.hbm, 128, rfl⟩
abbrev main_v81 : Ref sig .tc := ⟨.hbm, 129, rfl⟩
abbrev main_v82 : Ref sig .tc := ⟨.hbm, 130, rfl⟩
abbrev main_v83 : Ref sig .tc := ⟨.hbm, 131, rfl⟩
abbrev main_call5_v0 : Ref sig .tc := ⟨.hbm, 132, rfl⟩
abbrev main_call5_v1 : Ref sig .tc := ⟨.hbm, 133, rfl⟩
abbrev main_call5_cst : Ref sig .tc := ⟨.hbm, 134, rfl⟩
abbrev main_call5_v2 : Ref sig .tc := ⟨.hbm, 135, rfl⟩
abbrev main_call5_v3 : Ref sig .tc := ⟨.hbm, 136, rfl⟩
abbrev main_call5_cst_0 : Ref sig .tc := ⟨.hbm, 137, rfl⟩
abbrev main_call5_v4 : Ref sig .tc := ⟨.hbm, 138, rfl⟩
abbrev main_call5_v5 : Ref sig .tc := ⟨.hbm, 139, rfl⟩
abbrev main_v84 : Ref sig .tc := ⟨.hbm, 140, rfl⟩
abbrev main_v85 : Ref sig .tc := ⟨.hbm, 141, rfl⟩
abbrev main_v86 : Ref sig .tc := ⟨.hbm, 142, rfl⟩
abbrev main_v87 : Ref sig .tc := ⟨.hbm, 143, rfl⟩
abbrev main_v88 : Ref sig .tc := ⟨.hbm, 144, rfl⟩
abbrev main_v89 : Ref sig .tc := ⟨.hbm, 145, rfl⟩
abbrev main_v90 : Ref sig .tc := ⟨.hbm, 146, rfl⟩
abbrev main_v91 : Ref sig .tc := ⟨.hbm, 147, rfl⟩
abbrev main_v92 : Ref sig .tc := ⟨.hbm, 148, rfl⟩
abbrev main_v93 : Ref sig .tc := ⟨.hbm, 149, rfl⟩
abbrev main_v94 : Ref sig .tc := ⟨.hbm, 150, rfl⟩
abbrev main_v95 : Ref sig .tc := ⟨.hbm, 151, rfl⟩
abbrev main_v96 : Ref sig .tc := ⟨.hbm, 152, rfl⟩
abbrev main_v97 : Ref sig .tc := ⟨.hbm, 153, rfl⟩
abbrev main_v98 : Ref sig .tc := ⟨.hbm, 154, rfl⟩
abbrev main_call6_v0 : Ref sig .tc := ⟨.hbm, 155, rfl⟩
abbrev main_call6_v1 : Ref sig .tc := ⟨.hbm, 156, rfl⟩
abbrev main_call6_cst : Ref sig .tc := ⟨.hbm, 157, rfl⟩
abbrev main_call6_v2 : Ref sig .tc := ⟨.hbm, 158, rfl⟩
abbrev main_call6_v3 : Ref sig .tc := ⟨.hbm, 159, rfl⟩
abbrev main_call6_cst_0 : Ref sig .tc := ⟨.hbm, 160, rfl⟩
abbrev main_call6_v4 : Ref sig .tc := ⟨.hbm, 161, rfl⟩
abbrev main_call6_v5 : Ref sig .tc := ⟨.hbm, 162, rfl⟩
abbrev main_v99 : Ref sig .tc := ⟨.hbm, 163, rfl⟩
abbrev main_v100 : Ref sig .tc := ⟨.hbm, 164, rfl⟩
abbrev main_v101 : Ref sig .tc := ⟨.hbm, 165, rfl⟩
abbrev main_v102 : Ref sig .tc := ⟨.hbm, 166, rfl⟩
abbrev main_v103 : Ref sig .tc := ⟨.hbm, 167, rfl⟩
abbrev main_v104 : Ref sig .tc := ⟨.hbm, 168, rfl⟩
abbrev main_v105 : Ref sig .tc := ⟨.hbm, 169, rfl⟩
abbrev main_v106 : Ref sig .tc := ⟨.hbm, 170, rfl⟩
abbrev main_v107 : Ref sig .tc := ⟨.hbm, 171, rfl⟩
abbrev main_v108 : Ref sig .tc := ⟨.hbm, 172, rfl⟩
abbrev main_v109 : Ref sig .tc := ⟨.hbm, 173, rfl⟩
abbrev main_v110 : Ref sig .tc := ⟨.hbm, 174, rfl⟩
abbrev main_v111 : Ref sig .tc := ⟨.hbm, 175, rfl⟩
abbrev main_v112 : Ref sig .tc := ⟨.hbm, 176, rfl⟩
abbrev main_v113 : Ref sig .tc := ⟨.hbm, 177, rfl⟩
abbrev main_call7_v0 : Ref sig .tc := ⟨.hbm, 178, rfl⟩
abbrev main_call7_v1 : Ref sig .tc := ⟨.hbm, 179, rfl⟩
abbrev main_call7_cst : Ref sig .tc := ⟨.hbm, 180, rfl⟩
abbrev main_call7_v2 : Ref sig .tc := ⟨.hbm, 181, rfl⟩
abbrev main_call7_v3 : Ref sig .tc := ⟨.hbm, 182, rfl⟩
abbrev main_call7_cst_0 : Ref sig .tc := ⟨.hbm, 183, rfl⟩
abbrev main_call7_v4 : Ref sig .tc := ⟨.hbm, 184, rfl⟩
abbrev main_call7_v5 : Ref sig .tc := ⟨.hbm, 185, rfl⟩
abbrev main_v114 : Ref sig .tc := ⟨.hbm, 186, rfl⟩
abbrev main_v115 : Ref sig .tc := ⟨.hbm, 187, rfl⟩
abbrev main_v116 : Ref sig .tc := ⟨.hbm, 188, rfl⟩
abbrev main_v117 : Ref sig .tc := ⟨.hbm, 189, rfl⟩
abbrev main_v118 : Ref sig .tc := ⟨.hbm, 190, rfl⟩
abbrev main_v119 : Ref sig .tc := ⟨.hbm, 191, rfl⟩
abbrev main_v120 : Ref sig .tc := ⟨.hbm, 192, rfl⟩
abbrev main_cst_0 : Ref sig .tc := ⟨.hbm, 193, rfl⟩
abbrev main_v121 : Ref sig .tc := ⟨.hbm, 194, rfl⟩
abbrev main_v122 : Ref sig .tc := ⟨.hbm, 195, rfl⟩
abbrev main_v123 : Ref sig .tc := ⟨.hbm, 196, rfl⟩
abbrev main_cst_1 : Ref sig .tc := ⟨.hbm, 197, rfl⟩
abbrev main_v124 : Ref sig .tc := ⟨.hbm, 198, rfl⟩
abbrev main_v125 : Ref sig .tc := ⟨.hbm, 199, rfl⟩
abbrev main_cst_2 : Ref sig .tc := ⟨.hbm, 200, rfl⟩
abbrev main_v126 : Ref sig .tc := ⟨.hbm, 201, rfl⟩
abbrev main_v127 : Ref sig .tc := ⟨.hbm, 202, rfl⟩
abbrev main_v128 : Ref sig .tc := ⟨.hbm, 203, rfl⟩
abbrev main_v129 : Ref sig .tc := ⟨.hbm, 204, rfl⟩
abbrev main_v130 : Ref sig .tc := ⟨.hbm, 205, rfl⟩
abbrev main_cst_3 : Ref sig .tc := ⟨.hbm, 206, rfl⟩
abbrev main_v131 : Ref sig .tc := ⟨.hbm, 207, rfl⟩
abbrev main_v132 : Ref sig .tc := ⟨.hbm, 208, rfl⟩
abbrev main_cst_4 : Ref sig .tc := ⟨.hbm, 209, rfl⟩
abbrev main_v133 : Ref sig .tc := ⟨.hbm, 210, rfl⟩
abbrev main_v134 : Ref sig .tc := ⟨.hbm, 211, rfl⟩
abbrev main_v135 : Ref sig .tc := ⟨.hbm, 212, rfl⟩
abbrev main_v136 : Ref sig .tc := ⟨.hbm, 213, rfl⟩
abbrev main_cst_5 : Ref sig .tc := ⟨.hbm, 214, rfl⟩
abbrev main_v137 : Ref sig .tc := ⟨.hbm, 215, rfl⟩
abbrev main_v138 : Ref sig .tc := ⟨.hbm, 216, rfl⟩
abbrev main_v139 : Ref sig .tc := ⟨.hbm, 217, rfl⟩
abbrev main_v140 : Ref sig .tc := ⟨.hbm, 218, rfl⟩
abbrev main_v141 : Ref sig .tc := ⟨.hbm, 219, rfl⟩
abbrev main_v142 : Ref sig .tc := ⟨.hbm, 220, rfl⟩
abbrev main_v143 : Ref sig .tc := ⟨.hbm, 221, rfl⟩
abbrev main_v144 : Ref sig .tc := ⟨.hbm, 222, rfl⟩
abbrev main_v145 : Ref sig .tc := ⟨.hbm, 223, rfl⟩
abbrev main_v146 : Ref sig .tc := ⟨.hbm, 224, rfl⟩
abbrev main_v147 : Ref sig .tc := ⟨.hbm, 225, rfl⟩

abbrev nD : Nat := 1
abbrev τ : Topo := Topo.v7x

variable {F : FTy → Type} [FloatOps F]
-- ==== Ffn.lean ====
abbrev S65536x1024 : Shape := ⟨2, ![65536, 1024]⟩
abbrev S1024x2816 : Shape := ⟨2, ![1024, 2816]⟩
abbrev S2816x1024 : Shape := ⟨2, ![2816, 1024]⟩
abbrev S1024 : Shape := ⟨1, ![1024]⟩
abbrev S1x1024 : Shape := ⟨2, ![1, 1024]⟩
abbrev S512x1024 : Shape := ⟨2, ![512, 1024]⟩
abbrev S1024x256 : Shape := ⟨2, ![1024, 256]⟩
abbrev S512x256 : Shape := ⟨2, ![512, 256]⟩
abbrev S256x1024 : Shape := ⟨2, ![256, 1024]⟩
abbrev S512 : Shape := ⟨1, ![512]⟩
abbrev S512x1 : Shape := ⟨2, ![512, 1]⟩

abbrev nBuf : Space → Nat
  | .hbm => 14
  | .vmem => 13
  | .smem => 0
  | _ => 0

abbrev bufTy : (tb : Table) → Fin (tcTables nBuf tb) → BufTy
  | .hbm, ⟨0, _⟩ => ⟨S65536x1024, .f32⟩
  | .hbm, ⟨1, _⟩ => ⟨S1024x2816, .f32⟩
  | .hbm, ⟨2, _⟩ => ⟨S1024x2816, .f32⟩
  | .hbm, ⟨3, _⟩ => ⟨S2816x1024, .f32⟩
  | .hbm, ⟨4, _⟩ => ⟨S1024, .f32⟩
  | .hbm, ⟨5, _⟩ => ⟨S1024, .f32⟩
  | .hbm, ⟨6, _⟩ => ⟨S1x1024, .f32⟩
  | .hbm, ⟨7, _⟩ => ⟨S1x1024, .f32⟩
  | .hbm, ⟨8, _⟩ => ⟨S65536x1024, .bf16⟩
  | .hbm, ⟨9, _⟩ => ⟨S1024x2816, .bf16⟩
  | .hbm, ⟨10, _⟩ => ⟨S1024x2816, .bf16⟩
  | .hbm, ⟨11, _⟩ => ⟨S2816x1024, .bf16⟩
  | .hbm, ⟨12, _⟩ => ⟨S65536x1024, .f32⟩
  | .hbm, ⟨13, _⟩ => ⟨S65536x1024, .bf16⟩
  | .local _ .vmem, ⟨0, _⟩ => ⟨S512x1024, .bf16⟩
  | .local _ .vmem, ⟨1, _⟩ => ⟨S512x1024, .bf16⟩
  | .local _ .vmem, ⟨2, _⟩ => ⟨S512x1024, .f32⟩
  | .local _ .vmem, ⟨3, _⟩ => ⟨S512x1024, .f32⟩
  | .local _ .vmem, ⟨4, _⟩ => ⟨S1024x2816, .bf16⟩
  | .local _ .vmem, ⟨5, _⟩ => ⟨S1024x2816, .bf16⟩
  | .local _ .vmem, ⟨6, _⟩ => ⟨S2816x1024, .bf16⟩
  | .local _ .vmem, ⟨7, _⟩ => ⟨S1x1024, .f32⟩
  | .local _ .vmem, ⟨8, _⟩ => ⟨S1x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .bf16⟩
  | .local _ .vmem, ⟨12, _⟩ => ⟨S512x1024, .bf16⟩
  | _, _ => ⟨S65536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6_0 : Ref sig .tc := ⟨.hbm, 12, rfl⟩
abbrev main_v6_1 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== FfnReferenceIdeal.lean ====
abbrev S65536x1024 : Shape := ⟨2, ![65536, 1024]⟩
abbrev S1024x2816 : Shape := ⟨2, ![1024, 2816]⟩
abbrev S2816x1024 : Shape := ⟨2, ![2816, 1024]⟩
abbrev S1024 : Shape := ⟨1, ![1024]⟩
abbrev S65536x2816 : Shape := ⟨2, ![65536, 2816]⟩
abbrev S_ : Shape := ⟨0, ![]⟩
abbrev S65536 : Shape := ⟨1, ![65536]⟩
abbrev S65536x1 : Shape := ⟨2, ![65536, 1]⟩
abbrev S1x1024 : Shape := ⟨2, ![1, 1024]⟩

abbrev nBuf : Space → Nat
  | .hbm => 53
  | .vmem => 0
  | .smem => 0
  | _ => 0

abbrev bufTy : (tb : Table) → Fin (tcTables nBuf tb) → BufTy
  | .hbm, ⟨0, _⟩ => ⟨S65536x1024, .f32⟩
  | .hbm, ⟨1, _⟩ => ⟨S1024x2816, .f32⟩
  | .hbm, ⟨2, _⟩ => ⟨S1024x2816, .f32⟩
  | .hbm, ⟨3, _⟩ => ⟨S2816x1024, .f32⟩
  | .hbm, ⟨4, _⟩ => ⟨S1024, .f32⟩
  | .hbm, ⟨5, _⟩ => ⟨S1024, .f32⟩
  | .hbm, ⟨6, _⟩ => ⟨S65536x2816, .f32⟩
  | .hbm, ⟨7, _⟩ => ⟨S65536x2816, .f32⟩
  | .hbm, ⟨8, _⟩ => ⟨S65536x2816, .f32⟩
  | .hbm, ⟨9, _⟩ => ⟨S_, .f32⟩
  | .hbm, ⟨10, _⟩ => ⟨S65536x2816, .f32⟩
  | .hbm, ⟨11, _⟩ => ⟨S65536x2816, .f32⟩
  | .hbm, ⟨12, _⟩ => ⟨S_, .f32⟩
  | .hbm, ⟨13, _⟩ => ⟨S65536x2816, .f32⟩
  | .hbm, ⟨14, _⟩ => ⟨S65536x2816, .f32⟩
  | .hbm, ⟨15, _⟩ => ⟨S65536x2816, .f32⟩
  | .hbm, ⟨16, _⟩ => ⟨S65536x2816, .f32⟩
  | .hbm, ⟨17, _⟩ => ⟨S65536x2816, .f32⟩
  | .hbm, ⟨18, _⟩ => ⟨S65536x1024, .f32⟩
  | .hbm, ⟨19, _⟩ => ⟨S_, .f32⟩
  | .hbm, ⟨20, _⟩ => ⟨S65536x1024, .f32⟩
  | .hbm, ⟨21, _⟩ => ⟨S65536x1024, .f32⟩
  | .hbm, ⟨22, _⟩ => ⟨S65536x1024, .f32⟩
  | .hbm, ⟨23, _⟩ => ⟨S_, .f32⟩
  | .hbm, ⟨24, _⟩ => ⟨S65536, .f32⟩
  | .hbm, ⟨25, _⟩ => ⟨S65536x1, .f32⟩
  | .hbm, ⟨26, _⟩ => ⟨S_, .f32⟩
  | .hbm, ⟨27, _⟩ => ⟨S65536x1, .f32⟩
  | .hbm, ⟨28, _⟩ => ⟨S65536x1, .f32⟩
  | .hbm, ⟨29, _⟩ => ⟨S65536x1024, .f32⟩
  | .hbm, ⟨30, _⟩ => ⟨S65536x1024, .f32⟩
  | .hbm, ⟨31, _⟩ => ⟨S65536x1024, .f32⟩
  | .hbm, ⟨32, _⟩ => ⟨S_, .f32⟩
  | .hbm, ⟨33, _⟩ => ⟨S65536, .f32⟩
  | .hbm, ⟨34, _⟩ => ⟨S65536x1, .f32⟩
  | .hbm, ⟨35, _⟩ => ⟨S_, .f32⟩
  | .hbm, ⟨36, _⟩ => ⟨S65536x1, .f32⟩
  | .hbm, ⟨37, _⟩ => ⟨S65536x1, .f32⟩
  | .hbm, ⟨38, _⟩ => ⟨S65536x1024, .f32⟩
  | .hbm, ⟨39, _⟩ => ⟨S65536x1024, .f32⟩
  | .hbm, ⟨40, _⟩ => ⟨S_, .f32⟩
  | .hbm, ⟨41, _⟩ => ⟨S65536x1, .f32⟩
  | .hbm, ⟨42, _⟩ => ⟨S65536x1, .f32⟩
  | .hbm, ⟨43, _⟩ => ⟨S65536x1, .f32⟩
  | .hbm, ⟨44, _⟩ => ⟨S65536x1024, .f32⟩
  | .hbm, ⟨45, _⟩ => ⟨S65536x1024, .f32⟩
  | .hbm, ⟨46, _⟩ => ⟨S1x1024, .f32⟩
  | .hbm, ⟨47, _⟩ => ⟨S65536x1024, .f32⟩
  | .hbm, ⟨48, _⟩ => ⟨S65536x1024, .f32⟩
  | .hbm, ⟨49, _⟩ => ⟨S1x1024, .f32⟩
  | .hbm, ⟨50, _⟩ => ⟨S65536x1024, .f32⟩
  | .hbm, ⟨51, _⟩ => ⟨S65536x1024, .f32⟩
  | .hbm, ⟨52, _⟩ => ⟨S65536x1024, .bf16⟩
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_call0_v5 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_cst : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_cst_0 : Ref sig .tc := ⟨.hbm, 23, rfl⟩
abbrev main_v8 : Ref sig .tc := ⟨.hbm, 24, rfl⟩
abbrev main_v9 : Ref sig .tc := ⟨.hbm, 25, rfl⟩
abbrev main_cst_1 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_cst_2 : Ref sig .tc := ⟨.hbm, 32, rfl⟩
abbrev main_v15 : Ref sig .tc := ⟨.hbm, 33, rfl⟩
abbrev main_v16 : Ref sig .tc := ⟨.hbm, 34, rfl⟩
abbrev main_cst_3 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_cst_4 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩

abbrev nD : Nat := 1
abbrev τ : Topo := Topo.v7x

variable {F : FTy → Type} [FloatOps F]
-- ==== Mix.lean ====
abbrev S65536x512 : Shape := ⟨2, ![65536, 512]⟩
abbrev S65536x1024 : Shape := ⟨2, ![65536, 1024]⟩
abbrev S65536x3072 : Shape := ⟨2, ![65536, 3072]⟩
abbrev S512x1024 : Shape := ⟨2, ![512, 1024]⟩
abbrev S1024x1024 : Shape := ⟨2, ![1024, 1024]⟩
abbrev S1024 : Shape := ⟨1, ![1024]⟩
abbrev S1x1024 : Shape := ⟨2, ![1, 1024]⟩
abbrev S512x512 : Shape := ⟨2, ![512, 512]⟩
abbrev S512 : Shape := ⟨1, ![512]⟩
abbrev S512x1 : Shape := ⟨2, ![512, 1]⟩

abbrev nBuf : Space → Nat
  | .hbm => 19
  | .vmem => 19
  | .smem => 0
  | _ => 0

abbrev bufTy : (tb : Table) → Fin (tcTables nBuf tb) → BufTy
  | .hbm, ⟨0, _⟩ => ⟨S65536x512, .f32⟩
  | .hbm, ⟨1, _⟩ => ⟨S65536x1024, .f32⟩
  | .hbm, ⟨2, _⟩ => ⟨S65536x3072, .f32⟩
  | .hbm, ⟨3, _⟩ => ⟨S65536x1024, .f32⟩
  | .hbm, ⟨4, _⟩ => ⟨S512x1024, .f32⟩
  | .hbm, ⟨5, _⟩ => ⟨S1024x1024, .f32⟩
  | .hbm, ⟨6, _⟩ => ⟨S1024x1024, .f32⟩
  | .hbm, ⟨7, _⟩ => ⟨S1024, .f32⟩
  | .hbm, ⟨8, _⟩ => ⟨S1024, .f32⟩
  | .hbm, ⟨9, _⟩ => ⟨S65536x512, .bf16⟩
  | .hbm, ⟨10, _⟩ => ⟨S65536x1024, .bf16⟩
  | .hbm, ⟨11, _⟩ => ⟨S65536x3072, .bf16⟩
  | .hbm, ⟨12, _⟩ => ⟨S512x1024, .bf16⟩
  | .hbm, ⟨13, _⟩ => ⟨S1024x1024, .bf16⟩
  | .hbm, ⟨14, _⟩ => ⟨S1024x1024, .bf16⟩
  | .hbm, ⟨15, _⟩ => ⟨S1x1024, .f32⟩
  | .hbm, ⟨16, _⟩ => ⟨S1x1024, .f32⟩
  | .hbm, ⟨17, _⟩ => ⟨S65536x1024, .f32⟩
  | .hbm, ⟨18, _⟩ => ⟨S65536x1024, .bf16⟩
  | .local _ .vmem, ⟨0, _⟩ => ⟨S512x512, .bf16⟩
  | .local _ .vmem, ⟨1, _⟩ => ⟨S512x512, .bf16⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S1024x1024, .bf16⟩
  | .local _ .vmem, ⟨12, _⟩ => ⟨S1024x1024, .bf16⟩
  | .local _ .vmem, ⟨13, _⟩ => ⟨S1x1024, .f32⟩
  | .local _ .vmem, ⟨14, _⟩ => ⟨S1x1024, .f32⟩
  | .local _ .vmem, ⟨15, _⟩ => ⟨S512x1024, .f32⟩
  | .local _ .vmem, ⟨16, _⟩ => ⟨S512x1024, .f32⟩
  | .local _ .vmem, ⟨17, _⟩ => ⟨S512x1024, .bf16⟩
  | .local _ .vmem, ⟨18, _⟩ => ⟨S512x1024, .bf16⟩
  | _, _ => ⟨S65536x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8_0 : Ref sig .tc := ⟨.hbm, 17, rfl⟩
abbrev main_v8_1 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem10_1 : DmaSem sig := 16
abbrev cc0_sem11_0 : DmaSem sig := 17
abbrev cc0_sem11_1 : DmaSem sig := 18

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_3 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== MixReferenceIdeal.lean ====
abbrev S65536x512 : Shape := ⟨2, ![65536, 512]⟩
abbrev S65536x1024 : Shape := ⟨2, ![65536, 1024]⟩
abbrev S65536x3072 : Shape := ⟨2, ![65536, 3072]⟩
abbrev S512x1024 : Shape := ⟨2, ![512, 1024]⟩
abbrev S1024x1024 : Shape := ⟨2, ![1024, 1024]⟩
abbrev S1024 : Shape := ⟨1, ![1024]⟩
abbrev S_ : Shape := ⟨0, ![]⟩
abbrev S65536 : Shape := ⟨1, ![65536]⟩
abbrev S65536x1 : Shape := ⟨2, ![65536, 1]⟩
abbrev S1x1024 : Shape := ⟨2, ![1, 1024]⟩

abbrev nBuf : Space → Nat
  | .hbm => 68
  | .vmem => 0
  | .smem => 0
  | _ => 0

abbrev bufTy : (tb : Table) → Fin (tcTables nBuf tb) → BufTy
  | .hbm, ⟨0, _⟩ => ⟨S65536x512, .f32⟩
  | .hbm, ⟨1, _⟩ => ⟨S65536x1024, .f32⟩
  | .hbm, ⟨2, _⟩ => ⟨S65536x3072, .f32⟩
  | .hbm, ⟨3, _⟩ => ⟨S65536x1024, .f32⟩
  | .hbm, ⟨4, _⟩ => ⟨S512x1024, .f32⟩
  | .hbm, ⟨5, _⟩ => ⟨S1024x1024, .f32⟩
  | .hbm, ⟨6, _⟩ => ⟨S1024x1024, .f32⟩
  | .hbm, ⟨7, _⟩ => ⟨S1024, .f32⟩
  | .hbm, ⟨8, _⟩ => ⟨S1024, .f32⟩
  | .hbm, ⟨9, _⟩ => ⟨S65536x1024, .f32⟩
  | .hbm, ⟨10, _⟩ => ⟨S65536x1024, .f32⟩
  | .hbm, ⟨11, _⟩ => ⟨S65536x1024, .f32⟩
  | .hbm, ⟨12, _⟩ => ⟨S65536x1024, .f32⟩
  | .hbm, ⟨13, _⟩ => ⟨S65536x1024, .f32⟩
  | .hbm, ⟨14, _⟩ => ⟨S_, .f32⟩
  | .hbm, ⟨15, _⟩ => ⟨S65536x1024, .f32⟩
  | .hbm, ⟨16, _⟩ => ⟨S65536x1024, .f32⟩
  | .hbm, ⟨17, _⟩ => ⟨S_, .f32⟩
  | .hbm, ⟨18, _⟩ => ⟨S65536x1024, .f32⟩
  | .hbm, ⟨19, _⟩ => ⟨S65536x1024, .f32⟩
  | .hbm, ⟨20, _⟩ => ⟨S65536x1024, .f32⟩
  | .hbm, ⟨21, _⟩ => ⟨S65536x1024, .f32⟩
  | .hbm, ⟨22, _⟩ => ⟨S65536x1024, .f32⟩
  | .hbm, ⟨23, _⟩ => ⟨S65536x1024, .f32⟩
  | .hbm, ⟨24, _⟩ => ⟨S_, .f32⟩
  | .hbm, ⟨25, _⟩ => ⟨S65536x1024, .f32⟩
  | .hbm, ⟨26, _⟩ => ⟨S65536x1024, .f32⟩
  | .hbm, ⟨27, _⟩ => ⟨S_, .f32⟩
  | .hbm, ⟨28, _⟩ => ⟨S65536x1024, .f32⟩
  | .hbm, ⟨29, _⟩ => ⟨S65536x1024, .f32⟩
  | .hbm, ⟨30, _⟩ => ⟨S65536x1024, .f32⟩
  | .hbm, ⟨31, _⟩ => ⟨S65536x1024, .f32⟩
  | .hbm, ⟨32, _⟩ => ⟨S65536x1024, .f32⟩
  | .hbm, ⟨33, _⟩ => ⟨S_, .f32⟩
  | .hbm, ⟨34, _⟩ => ⟨S65536x1024, .f32⟩
  | .hbm, ⟨35, _⟩ => ⟨S65536x1024, .f32⟩
  | .hbm, ⟨36, _⟩ => ⟨S65536x1024, .f32⟩
  | .hbm, ⟨37, _⟩ => ⟨S65536x1024, .f32⟩
  | .hbm, ⟨38, _⟩ => ⟨S_, .f32⟩
  | .hbm, ⟨39, _⟩ => ⟨S65536, .f32⟩
  | .hbm, ⟨40, _⟩ => ⟨S65536x1, .f32⟩
  | .hbm, ⟨41, _⟩ => ⟨S_, .f32⟩
  | .hbm, ⟨42, _⟩ => ⟨S65536x1, .f32⟩
  | .hbm, ⟨43, _⟩ => ⟨S65536x1, .f32⟩
  | .hbm, ⟨44, _⟩ => ⟨S65536x1024, .f32⟩
  | .hbm, ⟨45, _⟩ => ⟨S65536x1024, .f32⟩
  | .hbm, ⟨46, _⟩ => ⟨S65536x1024, .f32⟩
  | .hbm, ⟨47, _⟩ => ⟨S_, .f32⟩
  | .hbm, ⟨48, _⟩ => ⟨S65536, .f32⟩
  | .hbm, ⟨49, _⟩ => ⟨S65536x1, .f32⟩
  | .hbm, ⟨50, _⟩ => ⟨S_, .f32⟩
  | .hbm, ⟨51, _⟩ => ⟨S65536x1, .f32⟩
  | .hbm, ⟨52, _⟩ => ⟨S65536x1, .f32⟩
  | .hbm, ⟨53, _⟩ => ⟨S65536x1024, .f32⟩
  | .hbm, ⟨54, _⟩ => ⟨S65536x1024, .f32⟩
  | .hbm, ⟨55, _⟩ => ⟨S_, .f32⟩
  | .hbm, ⟨56, _⟩ => ⟨S65536x1, .f32⟩
  | .hbm, ⟨57, _⟩ => ⟨S65536x1, .f32⟩
  | .hbm, ⟨58, _⟩ => ⟨S65536x1, .f32⟩
  | .hbm, ⟨59, _⟩ => ⟨S65536x1024, .f32⟩
  | .hbm, ⟨60, _⟩ => ⟨S65536x1024, .f32⟩
  | .hbm, ⟨61, _⟩ => ⟨S1x1024, .f32⟩
  | .hbm, ⟨62, _⟩ => ⟨S65536x1024, .f32⟩
  | .hbm, ⟨63, _⟩ => ⟨S65536x1024, .f32⟩
  | .hbm, ⟨64, _⟩ => ⟨S1x1024, .f32⟩
  | .hbm, ⟨65, _⟩ => ⟨S65536x1024, .f32⟩
  | .hbm, ⟨66, _⟩ => ⟨S65536x1024, .f32⟩
  | .hbm, ⟨67, _⟩ => ⟨S65536x1024, .bf16⟩
  | _, _ => ⟨S65536x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_cst : Ref sig .tc := ⟨.hbm, 14, rfl⟩
abbrev main_v5 : Ref sig .tc := ⟨.hbm, 15, rfl⟩
abbrev main_v6 : Ref sig .tc := ⟨.hbm, 16, rfl⟩
abbrev main_cst_0 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_1 : Ref sig .tc := ⟨.hbm, 24, rfl⟩
abbrev main_v13 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_cst_3 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_4 : Ref sig .tc := ⟨.hbm, 38, rfl⟩
abbrev main_v24 : Ref sig .tc := ⟨.hbm, 39, rfl⟩
abbrev main_v25 : Ref sig .tc := ⟨.hbm, 40, rfl⟩
abbrev main_cst_5 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_cst_6 : Ref sig .tc := ⟨.hbm, 47, rfl⟩
abbrev main_v31 : Ref sig .tc := ⟨.hbm, 48, rfl⟩
abbrev main_v32 : Ref sig .tc := ⟨.hbm, 49, rfl⟩
abbrev main_cst_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_cst_8 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩

abbrev nD : Nat := 1
abbrev τ : Topo := Topo.v7x

variable {F : FTy → Type} [FloatOps F]
-- ==== Experts.lean ====
abbrev S512 : Shape := ⟨1, ![512]⟩
abbrev S65536x1024 : Shape := ⟨2, ![65536, 1024]⟩
abbrev S64x8x1024 : Shape := ⟨3, ![64, 8, 1024]⟩
abbrev S8x1024x3584 : Shape := ⟨3, ![8, 1024, 3584]⟩
abbrev S8x3584x1024 : Shape := ⟨3, ![8, 3584, 1024]⟩
abbrev S8x64x320x1024 : Shape := ⟨4, ![8, 64, 320, 1024]⟩
abbrev S1x1024x3584 : Shape := ⟨3, ![1, 1024, 3584]⟩
abbrev S1x3584x1024 : Shape := ⟨3, ![1, 3584, 1024]⟩
abbrev S1024x1024 : Shape := ⟨2, ![1024, 1024]⟩
abbrev S1x8x1024 : Shape := ⟨3, ![1, 8, 1024]⟩
abbrev S1x1x320x1024 : Shape := ⟨4, ![1, 1, 320, 1024]⟩
abbrev S1x1x1024 : Shape := ⟨3, ![1, 1, 1024]⟩
abbrev S1x1024 : Shape := ⟨2, ![1, 1024]⟩
abbrev S288x1024 : Shape := ⟨2, ![288, 1024]⟩
abbrev S1x1024x512 : Shape := ⟨3, ![1, 1024, 512]⟩
abbrev S1024x512 : Shape := ⟨2, ![1024, 512]⟩
abbrev S288x512 : Shape := ⟨2, ![288, 512]⟩
abbrev S1x512x1024 : Shape := ⟨3, ![1, 512, 1024]⟩
abbrev S512x1024 : Shape := ⟨2, ![512, 1024]⟩
abbrev S1x1x288x1024 : Shape := ⟨4, ![1, 1, 288, 1024]⟩
abbrev S1 : Shape := ⟨1, ![1]⟩
abbrev S32x1024 : Shape := ⟨2, ![32, 1024]⟩
abbrev S32x512 : Shape := ⟨2, ![32, 512]⟩
abbrev S1x1x32x1024 : Shape := ⟨4, ![1, 1, 32, 1024]⟩

abbrev nBuf : Space → Nat
  | .hbm => 10
  | .vmem => 9
  | .smem => 1
  | _ => 0

abbrev bufTy : (tb : Table) → Fin (tcTables nBuf tb) → BufTy
  | .hbm, ⟨0, _⟩ => ⟨S65536x1024, .f32⟩
  | .hbm, ⟨1, _⟩ => ⟨S64x8x1024, .f32⟩
  | .hbm, ⟨2, _⟩ => ⟨S8x1024x3584, .f32⟩
  | .hbm, ⟨3, _⟩ => ⟨S8x1024x3584, .f32⟩
  | .hbm, ⟨4, _⟩ => ⟨S8x3584x1024, .f32⟩
  | .hbm, ⟨5, _⟩ => ⟨S65536x1024, .bf16⟩
  | .hbm, ⟨6, _⟩ => ⟨S8x1024x3584, .bf16⟩
  | .hbm, ⟨7, _⟩ => ⟨S8x1024x3584, .bf16⟩
  | .hbm, ⟨8, _⟩ => ⟨S8x3584x1024, .bf16⟩
  | .hbm, ⟨9, _⟩ => ⟨S8x64x320x1024, .bf16⟩
  | .local _ .vmem, ⟨0, _⟩ => ⟨S1x1024x3584, .bf16⟩
  | .local _ .vmem, ⟨1, _⟩ => ⟨S1x1024x3584, .bf16⟩
  | .local _ .vmem, ⟨2, _⟩ => ⟨S1x3584x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1x8x1024, .f32⟩
  | .local _ .vmem, ⟨6, _⟩ => ⟨S1x8x1024, .f32⟩
  | .local _ .vmem, ⟨7, _⟩ => ⟨S1x1x320x1024, .bf16⟩
  | .local _ .vmem, ⟨8, _⟩ => ⟨S1x1x320x1024, .bf16⟩
  | .local _ .smem, ⟨0, _⟩ => ⟨S512, .i32⟩
  | _, _ => ⟨S65536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_arg0 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨2, ![8, 64], ![false, false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 3 → Nat :=
  let c0 : Index := 0#32
  let arg0 : BitVec 32 := BitVec.ofNat 32 (i 0).val
  let v0 : Index := Scalar.indexCast arg0
  let c0_0 : Index := 0#32
  ![0, v0.toNat, 0]
def k0_off2 (i : grid0.Coords) : Fin 1 → Nat :=
  let arg1 : BitVec 32 := BitVec.ofNat 32 (i 1).val
  let c8_i32 : BitVec 32 := 8#32
  let v120 : BitVec 32 := Scalar.muli arg1 c8_i32
  let arg0 : BitVec 32 := BitVec.ofNat 32 (i 0).val
  let v121 : BitVec 32 := Scalar.addi v120 arg0
  let v122 : Index := Scalar.indexCast v121
  ![v122.toNat]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 1 → Memref sig .tc .vmem S1x1024x3584 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S1x1024x3584 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S1x3584x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x8x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x1x320x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== ExpertsReferenceIdeal.lean ====
abbrev S512 : Shape := ⟨1, ![512]⟩
abbrev S65536x1024 : Shape := ⟨2, ![65536, 1024]⟩
abbrev S64x8x1024 : Shape := ⟨3, ![64, 8, 1024]⟩
abbrev S8x1024x3584 : Shape := ⟨3, ![8, 1024, 3584]⟩
abbrev S8x3584x1024 : Shape := ⟨3, ![8, 3584, 1024]⟩
abbrev S64x8x1x1024 : Shape := ⟨4, ![64, 8, 1, 1024]⟩
abbrev S320 : Shape := ⟨1, ![320]⟩
abbrev S320x1 : Shape := ⟨2, ![320, 1]⟩
abbrev S1x1x320x1 : Shape := ⟨4, ![1, 1, 320, 1]⟩
abbrev S64x8x320x1024 : Shape := ⟨4, ![64, 8, 320, 1024]⟩
abbrev S64x1024x1024 : Shape := ⟨3, ![64, 1024, 1024]⟩
abbrev S64x1024x8x320 : Shape := ⟨4, ![64, 1024, 8, 320]⟩
abbrev S8x64x320x1024 : Shape := ⟨4, ![8, 64, 320, 1024]⟩
abbrev S1x64x320x1024 : Shape := ⟨4, ![1, 64, 320, 1024]⟩
abbrev S64x320x1024 : Shape := ⟨3, ![64, 320, 1024]⟩
abbrev S1x1024x3584 : Shape := ⟨3, ![1, 1024, 3584]⟩
abbrev S1024x3584 : Shape := ⟨2, ![1024, 3584]⟩
abbrev S1x3584x1024 : Shape := ⟨3, ![1, 3584, 1024]⟩
abbrev S3584x1024 : Shape := ⟨2, ![3584, 1024]⟩
abbrev S64x320x3584 : Shape := ⟨3, ![64, 320, 3584]⟩
abbrev S_ : Shape := ⟨0, ![]⟩

abbrev nBuf : Space → Nat
  | .hbm => 195
  | .vmem => 0
  | .smem => 0
  | _ => 0

abbrev hbmTy0_0 (i : Nat) : BufTy := match i % 128 with
  | 0 => ⟨S512, .i32⟩
  | 1 => ⟨S65536x1024, .f32⟩
  | 2 => ⟨S64x8x1024, .f32⟩
  | 3 => ⟨S8x1024x3584, .f32⟩
  | 4 => ⟨S8x1024x3584, .f32⟩
  | 5 => ⟨S8x3584x1024, .f32⟩
  | 6 => ⟨S64x8x1x1024, .f32⟩
  | 7 => ⟨S320, .f32⟩
  | 8 => ⟨S320x1, .f32⟩
  | 9 => ⟨S1x1x320x1, .f32⟩
  | 10 => ⟨S64x8x320x1024, .f32⟩
  | 11 => ⟨S64x8x320x1024, .f32⟩
  | 12 => ⟨S64x8x320x1024, .i1⟩
  | 13 => ⟨S64x8x320x1024, .f32⟩
  | 14 => ⟨S64x1024x1024, .f32⟩
  | 15 => ⟨S64x1024x8x320, .f32⟩
  | 16 => ⟨S8x64x320x1024, .f32⟩
  | 17 => ⟨S1x64x320x1024, .f32⟩
  | 18 => ⟨S64x320x1024, .f32⟩
  | 19 => ⟨S1x1024x3584, .f32⟩
  | 20 => ⟨S1024x3584, .f32⟩
  | 21 => ⟨S1x1024x3584, .f32⟩
  | 22 => ⟨S1024x3584, .f32⟩
  | 23 => ⟨S1x3584x1024, .f32⟩
  | 24 => ⟨S3584x1024, .f32⟩
  | 25 => ⟨S64x320x3584, .f32⟩
  | 26 => ⟨S64x320x3584, .f32⟩
  | 27 => ⟨S64x320x3584, .f32⟩
  | 28 => ⟨S_, .f32⟩
  | 29 => ⟨S64x320x3584, .f32⟩
  | 30 => ⟨S64x320x3584, .f32⟩
  | 31 => ⟨S_, .f32⟩
  | 32 => ⟨S64x320x3584, .f32⟩
  | 33 => ⟨S64x320x3584, .f32⟩
  | 34 => ⟨S64x320x3584, .f32⟩
  | 35 => ⟨S64x320x3584, .f32⟩
  | 36 => ⟨S64x320x3584, .f32⟩
  | 37 => ⟨S64x320x1024, .f32⟩
  | 38 => ⟨S1x64x320x1024, .f32⟩
  | 39 => ⟨S64x320x1024, .f32⟩
  | 40 => ⟨S1x1024x3584, .f32⟩
  | 41 => ⟨S1024x3584, .f32⟩
  | 42 => ⟨S1x1024x3584, .f32⟩
  | 43 => ⟨S1024x3584, .f32⟩
  | 44 => ⟨S1x3584x1024, .f32⟩
  | 45 => ⟨S3584x1024, .f32⟩
  | 46 => ⟨S64x320x3584, .f32⟩
  | 47 => ⟨S64x320x3584, .f32⟩
  | 48 => ⟨S64x320x3584, .f32⟩
  | 49 => ⟨S_, .f32⟩
  | 50 => ⟨S64x320x3584, .f32⟩
  | 51 => ⟨S64x320x3584, .f32⟩
  | 52 => ⟨S_, .f32⟩
  | 53 => ⟨S64x320x3584, .f32⟩
  | 54 => ⟨S64x320x3584, .f32⟩
  | 55 => ⟨S64x320x3584, .f32⟩
  | 56 => ⟨S64x320x3584, .f32⟩
  | 57 => ⟨S64x320x3584, .f32⟩
  | 58 => ⟨S64x320x1024, .f32⟩
  | 59 => ⟨S1x64x320x1024, .f32⟩
  | 60 => ⟨S64x320x1024, .f32⟩
  | 61 => ⟨S1x1024x3584, .f32⟩
  | 62 => ⟨S1024x3584, .f32⟩
  | 63 => ⟨S1x1024x3584, .f32⟩
  | 64 => ⟨S1024x3584, .f32⟩
  | 65 => ⟨S1x3584x1024, .f32⟩
  | 66 => ⟨S3584x1024, .f32⟩
  | 67 => ⟨S64x320x3584, .f32⟩
  | 68 => ⟨S64x320x3584, .f32⟩
  | 69 => ⟨S64x320x3584, .f32⟩
  | 70 => ⟨S_, .f32⟩
  | 71 => ⟨S64x320x3584, .f32⟩
  | 72 => ⟨S64x320x3584, .f32⟩
  | 73 => ⟨S_, .f32⟩
  | 74 => ⟨S64x320x3584, .f32⟩
  | 75 => ⟨S64x320x3584, .f32⟩
  | 76 => ⟨S64x320x3584, .f32⟩
  | 77 => ⟨S64x320x3584, .f32⟩
  | 78 => ⟨S64x320x3584, .f32⟩
  | 79 => ⟨S64x320x1024, .f32⟩
  | 80 => ⟨S1x64x320x1024, .f32⟩
  | 81 => ⟨S64x320x1024, .f32⟩
  | 82 => ⟨S1x1024x3584, .f32⟩
  | 83 => ⟨S1024x3584, .f32⟩
  | 84 => ⟨S1x1024x3584, .f32⟩
  | 85 => ⟨S1024x3584, .f32⟩
  | 86 => ⟨S1x3584x1024, .f32⟩
  | 87 => ⟨S3584x1024, .f32⟩
  | 88 => ⟨S64x320x3584, .f32⟩
  | 89 => ⟨S64x320x3584, .f32⟩
  | 90 => ⟨S64x320x3584, .f32⟩
  | 91 => ⟨S_, .f32⟩
  | 92 => ⟨S64x320x3584, .f32⟩
  | 93 => ⟨S64x320x3584, .f32⟩
  | 94 => ⟨S_, .f32⟩
  | 95 => ⟨S64x320x3584, .f32⟩
  | 96 => ⟨S64x320x3584, .f32⟩
  | 97 => ⟨S64x320x3584, .f32⟩
  | 98 => ⟨S64x320x3584, .f32⟩
  | 99 => ⟨S64x320x3584, .f32⟩
  | 100 => ⟨S64x320x1024, .f32⟩
  | 101 => ⟨S1x64x320x1024, .f32⟩
  | 102 => ⟨S64x320x1024, .f32⟩
  | 103 => ⟨S1x1024x3584, .f32⟩
  | 104 => ⟨S1024x3584, .f32⟩
  | 105 => ⟨S1x1024x3584, .f32⟩
  | 106 => ⟨S1024x3584, .f32⟩
  | 107 => ⟨S1x3584x1024, .f32⟩
  | 108 => ⟨S3584x1024, .f32⟩
  | 109 => ⟨S64x320x3584, .f32⟩
  | 110 => ⟨S64x320x3584, .f32⟩
  | 111 => ⟨S64x320x3584, .f32⟩
  | 112 => ⟨S_, .f32⟩
  | 113 => ⟨S64x320x3584, .f32⟩
  | 114 => ⟨S64x320x3584, .f32⟩
  | 115 => ⟨S_, .f32⟩
  | 116 => ⟨S64x320x3584, .f32⟩
  | 117 => ⟨S64x320x3584, .f32⟩
  | 118 => ⟨S64x320x3584, .f32⟩
  | 119 => ⟨S64x320x3584, .f32⟩
  | 120 => ⟨S64x320x3584, .f32⟩
  | 121 => ⟨S64x320x1024, .f32⟩
  | 122 => ⟨S1x64x320x1024, .f32⟩
  | 123 => ⟨S64x320x1024, .f32⟩
  | 124 => ⟨S1x1024x3584, .f32⟩
  | 125 => ⟨S1024x3584, .f32⟩
  | 126 => ⟨S1x1024x3584, .f32⟩
  | 127 => ⟨S1024x3584, .f32⟩
  | _ => ⟨S512, .i32⟩

abbrev hbmTy0_1 (i : Nat) : BufTy := match i % 128 with
  | 0 => ⟨S1x3584x1024, .f32⟩
  | 1 => ⟨S3584x1024, .f32⟩
  | 2 => ⟨S64x320x3584, .f32⟩
  | 3 => ⟨S64x320x3584, .f32⟩
  | 4 => ⟨S64x320x3584, .f32⟩
  | 5 => ⟨S_, .f32⟩
  | 6 => ⟨S64x320x3584, .f32⟩
  | 7 => ⟨S64x320x3584, .f32⟩
  | 8 => ⟨S_, .f32⟩
  | 9 => ⟨S64x320x3584, .f32⟩
  | 10 => ⟨S64x320x3584, .f32⟩
  | 11 => ⟨S64x320x3584, .f32⟩
  | 12 => ⟨S64x320x3584, .f32⟩
  | 13 => ⟨S64x320x3584, .f32⟩
  | 14 => ⟨S64x320x1024, .f32⟩
  | 15 => ⟨S1x64x320x1024, .f32⟩
  | 16 => ⟨S64x320x1024, .f32⟩
  | 17 => ⟨S1x1024x3584, .f32⟩
  | 18 => ⟨S1024x3584, .f32⟩
  | 19 => ⟨S1x1024x3584, .f32⟩
  | 20 => ⟨S1024x3584, .f32⟩
  | 21 => ⟨S1x3584x1024, .f32⟩
  | 22 => ⟨S3584x1024, .f32⟩
  | 23 => ⟨S64x320x3584, .f32⟩
  | 24 => ⟨S64x320x3584, .f32⟩
  | 25 => ⟨S64x320x3584, .f32⟩
  | 26 => ⟨S_, .f32⟩
  | 27 => ⟨S64x320x3584, .f32⟩
  | 28 => ⟨S64x320x3584, .f32⟩
  | 29 => ⟨S_, .f32⟩
  | 30 => ⟨S64x320x3584, .f32⟩
  | 31 => ⟨S64x320x3584, .f32⟩
  | 32 => ⟨S64x320x3584, .f32⟩
  | 33 => ⟨S64x320x3584, .f32⟩
  | 34 => ⟨S64x320x3584, .f32⟩
  | 35 => ⟨S64x320x1024, .f32⟩
  | 36 => ⟨S1x64x320x1024, .f32⟩
  | 37 => ⟨S64x320x1024, .f32⟩
  | 38 => ⟨S1x1024x3584, .f32⟩
  | 39 => ⟨S1024x3584, .f32⟩
  | 40 => ⟨S1x1024x3584, .f32⟩
  | 41 => ⟨S1024x3584, .f32⟩
  | 42 => ⟨S1x3584x1024, .f32⟩
  | 43 => ⟨S3584x1024, .f32⟩
  | 44 => ⟨S64x320x3584, .f32⟩
  | 45 => ⟨S64x320x3584, .f32⟩
  | 46 => ⟨S64x320x3584, .f32⟩
  | 47 => ⟨S_, .f32⟩
  | 48 => ⟨S64x320x3584, .f32⟩
  | 49 => ⟨S64x320x3584, .f32⟩
  | 50 => ⟨S_, .f32⟩
  | 51 => ⟨S64x320x3584, .f32⟩
  | 52 => ⟨S64x320x3584, .f32⟩
  | 53 => ⟨S64x320x3584, .f32⟩
  | 54 => ⟨S64x320x3584, .f32⟩
  | 55 => ⟨S64x320x3584, .f32⟩
  | 56 => ⟨S64x320x1024, .f32⟩
  | 57 => ⟨S1x64x320x1024, .f32⟩
  | 58 => ⟨S1x64x320x1024, .f32⟩
  | 59 => ⟨S1x64x320x1024, .f32⟩
  | 60 => ⟨S1x64x320x1024, .f32⟩
  | 61 => ⟨S1x64x320x1024, .f32⟩
  | 62 => ⟨S1x64x320x1024, .f32⟩
  | 63 => ⟨S1x64x320x1024, .f32⟩
  | 64 => ⟨S1x64x320x1024, .f32⟩
  | 65 => ⟨S8x64x320x1024, .f32⟩
  | 66 => ⟨S8x64x320x1024, .bf16⟩
  | _ => ⟨S512, .i32⟩

abbrev hbmTy (i : Nat) : BufTy := match i / 128 with
  | 0 => hbmTy0_0 i
  | 1 => hbmTy0_1 i
  | _ => ⟨S512, .i32⟩

abbrev bufTy : (tb : Table) → Fin (tcTables nBuf tb) → BufTy
  | .hbm, ⟨i, _⟩ => hbmTy i
  | _, _ => ⟨S512, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_call0_v0 : Ref sig .tc := ⟨.hbm, 26, rfl⟩
abbrev main_call0_v1 : Ref sig .tc := ⟨.hbm, 27, rfl⟩
abbrev main_call0_cst : Ref sig .tc := ⟨.hbm, 28, rfl⟩
abbrev main_call0_v2 : Ref sig .tc := ⟨.hbm, 29, rfl⟩
abbrev main_call0_v3 : Ref sig .tc := ⟨.hbm, 30, rfl⟩
abbrev main_call0_cst_0 : Ref sig .tc := ⟨.hbm, 31, rfl⟩
abbrev main_call0_v4 : Ref sig .tc := ⟨.hbm, 32, rfl⟩
abbrev main_call0_v5 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_call1_v0 : Ref sig .tc := ⟨.hbm, 47, rfl⟩
abbrev main_call1_v1 : Ref sig .tc := ⟨.hbm, 48, rfl⟩
abbrev main_call1_cst : Ref sig .tc := ⟨.hbm, 49, rfl⟩
abbrev main_call1_v2 : Ref sig .tc := ⟨.hbm, 50, rfl⟩
abbrev main_call1_v3 : Ref sig .tc := ⟨.hbm, 51, rfl⟩
abbrev main_call1_cst_0 : Ref sig .tc := ⟨.hbm, 52, rfl⟩
abbrev main_call1_v4 : Ref sig .tc := ⟨.hbm, 53, rfl⟩
abbrev main_call1_v5 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_call2_v0 : Ref sig .tc := ⟨.hbm, 68, rfl⟩
abbrev main_call2_v1 : Ref sig .tc := ⟨.hbm, 69, rfl⟩
abbrev main_call2_cst : Ref sig .tc := ⟨.hbm, 70, rfl⟩
abbrev main_call2_v2 : Ref sig .tc := ⟨.hbm, 71, rfl⟩
abbrev main_call2_v3 : Ref sig .tc := ⟨.hbm, 72, rfl⟩
abbrev main_call2_cst_0 : Ref sig .tc := ⟨.hbm, 73, rfl⟩
abbrev main_call2_v4 : Ref sig .tc := ⟨.hbm, 74, rfl⟩
abbrev main_call2_v5 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_call3_v0 : Ref sig .tc := ⟨.hbm, 89, rfl⟩
abbrev main_call3_v1 : Ref sig .tc := ⟨.hbm, 90, rfl⟩
abbrev main_call3_cst : Ref sig .tc := ⟨.hbm, 91, rfl⟩
abbrev main_call3_v2 : Ref sig .tc := ⟨.hbm, 92, rfl⟩
abbrev main_call3_v3 : Ref sig .tc := ⟨.hbm, 93, rfl⟩
abbrev main_call3_cst_0 : Ref sig .tc := ⟨.hbm, 94, rfl⟩
abbrev main_call3_v4 : Ref sig .tc := ⟨.hbm, 95, rfl⟩
abbrev main_call3_v5 : Ref sig .tc := ⟨.hbm, 96, rfl⟩
abbrev main_v59 : Ref sig .tc := ⟨.hbm, 97, rfl⟩
abbrev main_v60 : Ref sig .tc := ⟨.hbm, 98, rfl⟩
abbrev main_v61 : Ref sig .tc := ⟨.hbm, 99, rfl⟩
abbrev main_v62 : Ref sig .tc := ⟨.hbm, 100, rfl⟩
abbrev main_v63 : Ref sig .tc := ⟨.hbm, 101, rfl⟩
abbrev main_v64 : Ref sig .tc := ⟨.hbm, 102, rfl⟩
abbrev main_v65 : Ref sig .tc := ⟨.hbm, 103, rfl⟩
abbrev main_v66 : Ref sig .tc := ⟨.hbm, 104, rfl⟩
abbrev main_v67 : Ref sig .tc := ⟨.hbm, 105, rfl⟩
abbrev main_v68 : Ref sig .tc := ⟨.hbm, 106, rfl⟩
abbrev main_v69 : Ref sig .tc := ⟨.hbm, 107, rfl⟩
abbrev main_v70 : Ref sig .tc := ⟨.hbm, 108, rfl⟩
abbrev main_v71 : Ref sig .tc := ⟨.hbm, 109, rfl⟩
abbrev main_call4_v0 : Ref sig .tc := ⟨.hbm, 110, rfl⟩
abbrev main_call4_v1 : Ref sig .tc := ⟨.hbm, 111, rfl⟩
abbrev main_call4_cst : Ref sig .tc := ⟨.hbm, 112, rfl⟩
abbrev main_call4_v2 : Ref sig .tc := ⟨.hbm, 113, rfl⟩
abbrev main_call4_v3 : Ref sig .tc := ⟨.hbm, 114, rfl⟩
abbrev main_call4_cst_0 : Ref sig .tc := ⟨.hbm, 115, rfl⟩
abbrev main_call4_v4 : Ref sig .tc := ⟨.hbm, 116, rfl⟩
abbrev main_call4_v5 : Ref sig .tc := ⟨.hbm, 117, rfl⟩
abbrev main_v72 : Ref sig .tc := ⟨.hbm, 118, rfl⟩
abbrev main_v73 : Ref sig .tc := ⟨.hbm, 119, rfl⟩
abbrev main_v74 : Ref sig .tc := ⟨.hbm, 120, rfl⟩
abbrev main_v75 : Ref sig .tc := ⟨.hbm, 121, rfl⟩
abbrev main_v76 : Ref sig .tc := ⟨.hbm, 122, rfl⟩
abbrev main_v77 : Ref sig .tc := ⟨.hbm, 123, rfl⟩
abbrev main_v78 : Ref sig .tc := ⟨.hbm, 124, rfl⟩
abbrev main_v79 : Ref sig .tc := ⟨.hbm, 125, rfl⟩
abbrev main_v80 : Ref sig .tc := ⟨.hbm, 126, rfl⟩
abbrev main_v81 : Ref sig .tc := ⟨.hbm, 127, rfl⟩
abbrev main_v82 : Ref sig .tc := ⟨.hbm, 128, rfl⟩
abbrev main_v83 : Ref sig .tc := ⟨.hbm, 129, rfl⟩
abbrev main_v84 : Ref sig .tc := ⟨.hbm, 130, rfl⟩
abbrev main_call5_v0 : Ref sig .tc := ⟨.hbm, 131, rfl⟩
abbrev main_call5_v1 : Ref sig .tc := ⟨.hbm, 132, rfl⟩
abbrev main_call5_cst : Ref sig .tc := ⟨.hbm, 133, rfl⟩
abbrev main_call5_v2 : Ref sig .tc := ⟨.hbm, 134, rfl⟩
abbrev main_call5_v3 : Ref sig .tc := ⟨.hbm, 135, rfl⟩
abbrev main_call5_cst_0 : Ref sig .tc := ⟨.hbm, 136, rfl⟩
abbrev main_call5_v4 : Ref sig .tc := ⟨.hbm, 137, rfl⟩
abbrev main_call5_v5 : Ref sig .tc := ⟨.hbm, 138, rfl⟩
abbrev main_v85 : Ref sig .tc := ⟨.hbm, 139, rfl⟩
abbrev main_v86 : Ref sig .tc := ⟨.hbm, 140, rfl⟩
abbrev main_v87 : Ref sig .tc := ⟨.hbm, 141, rfl⟩
abbrev main_v88 : Ref sig .tc := ⟨.hbm, 142, rfl⟩
abbrev main_v89 : Ref sig .tc := ⟨.hbm, 143, rfl⟩
abbrev main_v90 : Ref sig .tc := ⟨.hbm, 144, rfl⟩
abbrev main_v91 : Ref sig .tc := ⟨.hbm, 145, rfl⟩
abbrev main_v92 : Ref sig .tc := ⟨.hbm, 146, rfl⟩
abbrev main_v93 : Ref sig .tc := ⟨.hbm, 147, rfl⟩
abbrev main_v94 : Ref sig .tc := ⟨.hbm, 148, rfl⟩
abbrev main_v95 : Ref sig .tc := ⟨.hbm, 149, rfl⟩
abbrev main_v96 : Ref sig .tc := ⟨.hbm, 150, rfl⟩
abbrev main_v97 : Ref sig .tc := ⟨.hbm, 151, rfl⟩
abbrev main_call6_v0 : Ref sig .tc := ⟨.hbm, 152, rfl⟩
abbrev main_call6_v1 : Ref sig .tc := ⟨.hbm, 153, rfl⟩
abbrev main_call6_cst : Ref sig .tc := ⟨.hbm, 154, rfl⟩
abbrev main_call6_v2 : Ref sig .tc := ⟨.hbm, 155, rfl⟩
abbrev main_call6_v3 : Ref sig .tc := ⟨.hbm, 156, rfl⟩
abbrev main_call6_cst_0 : Ref sig .tc := ⟨.hbm, 157, rfl⟩
abbrev main_call6_v4 : Ref sig .tc := ⟨.hbm, 158, rfl⟩
abbrev main_call6_v5 : Ref sig .tc := ⟨.hbm, 159, rfl⟩
abbrev main_v98 : Ref sig .tc := ⟨.hbm, 160, rfl⟩
abbrev main_v99 : Ref sig .tc := ⟨.hbm, 161, rfl⟩
abbrev main_v100 : Ref sig .tc := ⟨.hbm, 162, rfl⟩
abbrev main_v101 : Ref sig .tc := ⟨.hbm, 163, rfl⟩
abbrev main_v102 : Ref sig .tc := ⟨.hbm, 164, rfl⟩
abbrev main_v103 : Ref sig .tc := ⟨.hbm, 165, rfl⟩
abbrev main_v104 : Ref sig .tc := ⟨.hbm, 166, rfl⟩
abbrev main_v105 : Ref sig .tc := ⟨.hbm, 167, rfl⟩
abbrev main_v106 : Ref sig .tc := ⟨.hbm, 168, rfl⟩
abbrev main_v107 : Ref sig .tc := ⟨.hbm, 169, rfl⟩
abbrev main_v108 : Ref sig .tc := ⟨.hbm, 170, rfl⟩
abbrev main_v109 : Ref sig .tc := ⟨.hbm, 171, rfl⟩
abbrev main_v110 : Ref sig .tc := ⟨.hbm, 172, rfl⟩
abbrev main_call7_v0 : Ref sig .tc := ⟨.hbm, 173, rfl⟩
abbrev main_call7_v1 : Ref sig .tc := ⟨.hbm, 174, rfl⟩
abbrev main_call7_cst : Ref sig .tc := ⟨.hbm, 175, rfl⟩
abbrev main_call7_v2 : Ref sig .tc := ⟨.hbm, 176, rfl⟩
abbrev main_call7_v3 : Ref sig .tc := ⟨.hbm, 177, rfl⟩
abbrev main_call7_cst_0 : Ref sig .tc := ⟨.hbm, 178, rfl⟩
abbrev main_call7_v4 : Ref sig .tc := ⟨.hbm, 179, rfl⟩
abbrev main_call7_v5 : Ref sig .tc := ⟨.hbm, 180, rfl⟩
abbrev main_v111 : Ref sig .tc := ⟨.hbm, 181, rfl⟩
abbrev main_v112 : Ref sig .tc := ⟨.hbm, 182, rfl⟩
abbrev main_v113 : Ref sig .tc := ⟨.hbm, 183, rfl⟩
abbrev main_v114 : Ref sig .tc := ⟨.hbm, 184, rfl⟩
abbrev main_v115 : Ref sig .tc := ⟨.hbm, 185, rfl⟩
abbrev main_v116 : Ref sig .tc := ⟨.hbm, 186, rfl⟩
abbrev main_v117 : Ref sig .tc := ⟨.hbm, 187, rfl⟩
abbrev main_v118 : Ref sig .tc := ⟨.hbm, 188, rfl⟩
abbrev main_v119 : Ref sig .tc := ⟨.hbm, 189, rfl⟩
abbrev main_v120 : Ref sig .tc := ⟨.hbm, 190, rfl⟩
abbrev main_v121 : Ref sig .tc := ⟨.hbm, 191, rfl⟩
abbrev main_v122 : Ref sig .tc := ⟨.hbm, 192, rfl⟩
abbrev main_v123 : Ref sig .tc := ⟨.hbm, 193, rfl⟩
abbrev main_v124 : Ref sig .tc := ⟨.hbm, 194, rfl⟩

abbrev nD : Nat := 1
abbrev τ : Topo := Topo.v7x

variable {F : FTy → Type} [FloatOps F]
-- ==== Combine.lean ====
abbrev S65536x1024 : Shape := ⟨2, ![65536, 1024]⟩
abbrev S65536x8 : Shape := ⟨2, ![65536, 8]⟩
abbrev S8x64x320x1024 : Shape := ⟨4, ![8, 64, 320, 1024]⟩
abbrev S1024 : Shape := ⟨1, ![1024]⟩
abbrev S_ : Shape := ⟨0, ![]⟩
abbrev S65536x128 : Shape := ⟨2, ![65536, 128]⟩
abbrev S1x1024 : Shape := ⟨2, ![1, 1024]⟩
abbrev S1024x1024 : Shape := ⟨2, ![1024, 1024]⟩
abbrev S1024x128 : Shape := ⟨2, ![1024, 128]⟩
abbrev S8x1x320x1024 : Shape := ⟨4, ![8, 1, 320, 1024]⟩
abbrev S1024x320 : Shape := ⟨2, ![1024, 320]⟩
abbrev S1024x1 : Shape := ⟨2, ![1024, 1]⟩
abbrev S1x1x320x1024 : Shape := ⟨4, ![1, 1, 320, 1024]⟩
abbrev S320x1024 : Shape := ⟨2, ![320, 1024]⟩

abbrev nBuf : Space → Nat
  | .hbm => 15
  | .vmem => 12
  | .smem => 0
  | _ => 0

abbrev bufTy : (tb : Table) → Fin (tcTables nBuf tb) → BufTy
  | .hbm, ⟨0, _⟩ => ⟨S65536x1024, .f32⟩
  | .hbm, ⟨1, _⟩ => ⟨S65536x8, .f32⟩
  | .hbm, ⟨2, _⟩ => ⟨S65536x8, .f32⟩
  | .hbm, ⟨3, _⟩ => ⟨S8x64x320x1024, .bf16⟩
  | .hbm, ⟨4, _⟩ => ⟨S1024, .f32⟩
  | .hbm, ⟨5, _⟩ => ⟨S1024, .f32⟩
  | .hbm, ⟨6, _⟩ => ⟨S_, .i32⟩
  | .hbm, ⟨7, _⟩ => ⟨S_, .f32⟩
  | .hbm, ⟨8, _⟩ => ⟨S65536x128, .f32⟩
  | .hbm, ⟨9, _⟩ => ⟨S_, .i32⟩
  | .hbm, ⟨10, _⟩ => ⟨S_, .f32⟩
  | .hbm, ⟨11, _⟩ => ⟨S65536x128, .f32⟩
  | .hbm, ⟨12, _⟩ => ⟨S1x1024, .f32⟩
  | .hbm, ⟨13, _⟩ => ⟨S1x1024, .f32⟩
  | .hbm, ⟨14, _⟩ => ⟨S65536x1024, .f32⟩
  | .local _ .vmem, ⟨0, _⟩ => ⟨S1024x1024, .f32⟩
  | .local _ .vmem, ⟨1, _⟩ => ⟨S1024x1024, .f32⟩
  | .local _ .vmem, ⟨2, _⟩ => ⟨S1024x128, .f32⟩
  | .local _ .vmem, ⟨3, _⟩ => ⟨S1024x128, .f32⟩
  | .local _ .vmem, ⟨4, _⟩ => ⟨S1024x128, .f32⟩
  | .local _ .vmem, ⟨5, _⟩ => ⟨S1024x128, .f32⟩
  | .local _ .vmem, ⟨6, _⟩ => ⟨S8x1x320x1024, .bf16⟩
  | .local _ .vmem, ⟨7, _⟩ => ⟨S8x1x320x1024, .bf16⟩
  | .local _ .vmem, ⟨8, _⟩ => ⟨S1x1024, .f32⟩
  | .local _ .vmem, ⟨9, _⟩ => ⟨S1x1024, .f32⟩
  | .local _ .vmem, ⟨10, _⟩ => ⟨S1024x1024, .f32⟩
  | .local _ .vmem, ⟨11, _⟩ => ⟨S1024x1024, .f32⟩
  | _, _ => ⟨S65536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_call0_v0 : Ref sig .tc := ⟨.hbm, 7, rfl⟩
abbrev main_v0 : Ref sig .tc := ⟨.hbm, 8, rfl⟩
abbrev main_c_0 : Ref sig .tc := ⟨.hbm, 9, rfl⟩
abbrev main_call1_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x1x320x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== CombineReferenceIdeal.lean ====
abbrev S65536x1024 : Shape := ⟨2, ![65536, 1024]⟩
abbrev S65536x8 : Shape := ⟨2, ![65536, 8]⟩
abbrev S8x64x320x1024 : Shape := ⟨4, ![8, 64, 320, 1024]⟩
abbrev S1024 : Shape := ⟨1, ![1024]⟩
abbrev S_ : Shape := ⟨0, ![]⟩
abbrev S64x1024x8 : Shape := ⟨3, ![64, 1024, 8]⟩
abbrev S64x1024x8x1 : Shape := ⟨4, ![64, 1024, 8, 1]⟩
abbrev S320 : Shape := ⟨1, ![320]⟩
abbrev S1x1x1x320 : Shape := ⟨4, ![1, 1, 1, 320]⟩
abbrev S64x1024x8x320 : Shape := ⟨4, ![64, 1024, 8, 320]⟩
abbrev S8x64x1024x1024 : Shape := ⟨4, ![8, 64, 1024, 1024]⟩
abbrev S8x65536x1024 : Shape := ⟨3, ![8, 65536, 1024]⟩
abbrev S8x65536 : Shape := ⟨2, ![8, 65536]⟩
abbrev S8x65536x1 : Shape := ⟨3, ![8, 65536, 1]⟩
abbrev S65536 : Shape := ⟨1, ![65536]⟩
abbrev S65536x1 : Shape := ⟨2, ![65536, 1]⟩
abbrev S1x1024 : Shape := ⟨2, ![1, 1024]⟩

abbrev nBuf : Space → Nat
  | .hbm => 63
  | .vmem => 0
  | .smem => 0
  | _ => 0

abbrev bufTy : (tb : Table) → Fin (tcTables nBuf tb) → BufTy
  | .hbm, ⟨0, _⟩ => ⟨S65536x1024, .f32⟩
  | .hbm, ⟨1, _⟩ => ⟨S65536x8, .f32⟩
  | .hbm, ⟨2, _⟩ => ⟨S65536x8, .f32⟩
  | .hbm, ⟨3, _⟩ => ⟨S8x64x320x1024, .bf16⟩
  | .hbm, ⟨4, _⟩ => ⟨S1024, .f32⟩
  | .hbm, ⟨5, _⟩ => ⟨S1024, .f32⟩
  | .hbm, ⟨6, _⟩ => ⟨S_, .f32⟩
  | .hbm, ⟨7, _⟩ => ⟨S65536x8, .f32⟩
  | .hbm, ⟨8, _⟩ => ⟨S65536x8, .i1⟩
  | .hbm, ⟨9, _⟩ => ⟨S_, .f32⟩
  | .hbm, ⟨10, _⟩ => ⟨S_, .f32⟩
  | .hbm, ⟨11, _⟩ => ⟨S65536x8, .f32⟩
  | .hbm, ⟨12, _⟩ => ⟨S65536x8, .f32⟩
  | .hbm, ⟨13, _⟩ => ⟨S64x1024x8, .f32⟩
  | .hbm, ⟨14, _⟩ => ⟨S64x1024x8x1, .f32⟩
  | .hbm, ⟨15, _⟩ => ⟨S320, .f32⟩
  | .hbm, ⟨16, _⟩ => ⟨S1x1x1x320, .f32⟩
  | .hbm, ⟨17, _⟩ => ⟨S64x1024x8x320, .f32⟩
  | .hbm, ⟨18, _⟩ => ⟨S64x1024x8x320, .f32⟩
  | .hbm, ⟨19, _⟩ => ⟨S64x1024x8x320, .i1⟩
  | .hbm, ⟨20, _⟩ => ⟨S64x1024x8x320, .f32⟩
  | .hbm, ⟨21, _⟩ => ⟨S8x64x320x1024, .f32⟩
  | .hbm, ⟨22, _⟩ => ⟨S8x64x1024x1024, .f32⟩
  | .hbm, ⟨23, _⟩ => ⟨S8x65536x1024, .f32⟩
  | .hbm, ⟨24, _⟩ => ⟨S8x65536, .f32⟩
  | .hbm, ⟨25, _⟩ => ⟨S8x65536x1, .f32⟩
  | .hbm, ⟨26, _⟩ => ⟨S8x65536x1024, .f32⟩
  | .hbm, ⟨27, _⟩ => ⟨S8x65536x1024, .f32⟩
  | .hbm, ⟨28, _⟩ => ⟨S_, .f32⟩
  | .hbm, ⟨29, _⟩ => ⟨S65536x1024, .f32⟩
  | .hbm, ⟨30, _⟩ => ⟨S_, .f32⟩
  | .hbm, ⟨31, _⟩ => ⟨S65536x1024, .f32⟩
  | .hbm, ⟨32, _⟩ => ⟨S65536x1024, .f32⟩
  | .hbm, ⟨33, _⟩ => ⟨S65536x1024, .f32⟩
  | .hbm, ⟨34, _⟩ => ⟨S_, .f32⟩
  | .hbm, ⟨35, _⟩ => ⟨S65536, .f32⟩
  | .hbm, ⟨36, _⟩ => ⟨S65536x1, .f32⟩
  | .hbm, ⟨37, _⟩ => ⟨S_, .f32⟩
  | .hbm, ⟨38, _⟩ => ⟨S65536x1, .f32⟩
  | .hbm, ⟨39, _⟩ => ⟨S65536x1, .f32⟩
  | .hbm, ⟨40, _⟩ => ⟨S65536x1024, .f32⟩
  | .hbm, ⟨41, _⟩ => ⟨S65536x1024, .f32⟩
  | .hbm, ⟨42, _⟩ => ⟨S65536x1024, .f32⟩
  | .hbm, ⟨43, _⟩ => ⟨S_, .f32⟩
  | .hbm, ⟨44, _⟩ => ⟨S65536, .f32⟩
  | .hbm, ⟨45, _⟩ => ⟨S65536x1, .f32⟩
  | .hbm, ⟨46, _⟩ => ⟨S_, .f32⟩
  | .hbm, ⟨47, _⟩ => ⟨S65536x1, .f32⟩
  | .hbm, ⟨48, _⟩ => ⟨S65536x1, .f32⟩
  | .hbm, ⟨49, _⟩ => ⟨S65536x1024, .f32⟩
  | .hbm, ⟨50, _⟩ => ⟨S65536x1024, .f32⟩
  | .hbm, ⟨51, _⟩ => ⟨S_, .f32⟩
  | .hbm, ⟨52, _⟩ => ⟨S65536x1, .f32⟩
  | .hbm, ⟨53, _⟩ => ⟨S65536x1, .f32⟩
  | .hbm, ⟨54, _⟩ => ⟨S65536x1, .f32⟩
  | .hbm, ⟨55, _⟩ => ⟨S65536x1024, .f32⟩
  | .hbm, ⟨56, _⟩ => ⟨S65536x1024, .f32⟩
  | .hbm, ⟨57, _⟩ => ⟨S1x1024, .f32⟩
  | .hbm, ⟨58, _⟩ => ⟨S65536x1024, .f32⟩
  | .hbm, ⟨59, _⟩ => ⟨S65536x1024, .f32⟩
  | .hbm, ⟨60, _⟩ => ⟨S1x1024, .f32⟩
  | .hbm, ⟨61, _⟩ => ⟨S65536x1024, .f32⟩
  | .hbm, ⟨62, _⟩ => ⟨S65536x1024, .f32⟩
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_cst_0 : Ref sig .tc := ⟨.hbm, 9, rfl⟩
abbrev main_call0_v0 : Ref sig .tc := ⟨.hbm, 10, rfl⟩
abbrev main_call0_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_1 : Ref sig .tc := ⟨.hbm, 28, rfl⟩
abbrev main_v18 : Ref sig .tc := ⟨.hbm, 29, rfl⟩
abbrev main_cst_2 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_3 : Ref sig .tc := ⟨.hbm, 34, rfl⟩
abbrev main_v22 : Ref sig .tc := ⟨.hbm, 35, rfl⟩
abbrev main_v23 : Ref sig .tc := ⟨.hbm, 36, rfl⟩
abbrev main_cst_4 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_cst_5 : Ref sig .tc := ⟨.hbm, 43, rfl⟩
abbrev main_v29 : Ref sig .tc := ⟨.hbm, 44, rfl⟩
abbrev main_v30 : Ref sig .tc := ⟨.hbm, 45, rfl⟩
abbrev main_cst_6 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_cst_7 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩

abbrev nD : Nat := 1
abbrev τ : Topo := Topo.v7x

variable {F : FTy → Type} [FloatOps F]
-- ==== Proof.Rows.lean ====
module

public import Idealize.ShloMosaic.Lib.Pipeline.ValueKit
public import Idealize.ShloMosaic.Lib.Pointwise

@[expose] public section

noncomputable section

namespace Cert.Rows

open Idealize.ShloMosaic

/-- One hidden unit of a gated feed-forward layer: the gate product through `a · logistic a`, times the up product. -/
def hid {d h : ℕ} (x : Fin d → EReal) (wg wu : Fin d → Fin h → EReal) (j : Fin h) : EReal :=
  (∑ k, x k * wg k j) * Ideal.logistic (∑ k, x k * wg k j) * ∑ k, x k * wu k j

theorem hid_congr {d h h' : ℕ} {x x' : Fin d → EReal} {wg wu : Fin d → Fin h → EReal} {wg' wu' : Fin d → Fin h' → EReal} {j : Fin h}
    {j' : Fin h'} (hx : ∀ k, x k = x' k) (hg : ∀ k, wg k j = wg' k j') (hu : ∀ k, wu k j = wu' k j') : hid x wg wu j = hid x' wg' wu' j' := by
  unfold hid
  simp only [hx, hg, hu]

/-- The gated feed-forward layer of one token, output channel `n`. -/
def ffn {d h : ℕ} (x : Fin d → EReal) (wg wu : Fin d → Fin h → EReal) (wd : Fin h → Fin d → EReal) (n : Fin d) : EReal :=
  ∑ j, hid x wg wu j * wd j n

/-- The mean of a row of 1024 channels (the divisor is the word of 1024). -/
def mean (v : Fin 1024 → EReal) : EReal := Ideal.div (∑ k, v k) (Ideal.ofBits .f32 0x44800000#32)

/-- Layer normalisation of one row of 1024 channels. -/
def ln (v g b : Fin 1024 → EReal) (n : Fin 1024) : EReal :=
  (v n - mean v) * Ideal.rsqrt (mean (fun k => (v k - mean v) * (v k - mean v)) + Ideal.ofBits .f32 0x3727C5AC#32) * g n + b n

/-- The residual row that is normalised: `α · x + y`, `α` the DeepNorm constant's word. -/
def res (x y : Fin 1024 → EReal) (n : Fin 1024) : EReal := Ideal.ofBits .f32 0x3FB504F3#32 * x n + y n

theorem ln_congr {v v' g g' b b' : Fin 1024 → EReal} (hv : ∀ k, v k = v' k) (hg : ∀ k, g k = g' k) (hb : ∀ k, b k = b' k)
    (n : Fin 1024) : ln v g b n = ln v' g' b' n := by
  rw [funext hv, funext hg, funext hb]

theorem ffn_congr {d h : ℕ} {x x' : Fin d → EReal} {wg wg' wu wu' : Fin d → Fin h → EReal} {wd wd' : Fin h → Fin d → EReal}
    (hx : ∀ k, x k = x' k) (hg : ∀ k j, wg k j = wg' k j) (hu : ∀ k j, wu k j = wu' k j) (hd : ∀ j n, wd j n = wd' j n)
    (n : Fin d) : ffn x wg wu wd n = ffn x' wg' wu' wd' n := by
  rw [funext hx, funext fun k => funext (hg k), funext fun k => funext (hu k), funext fun k => funext (hd k)]

/-- A sum over `m + n` terms as the sum of the first `m` and of the last `n`. -/
theorem sum_snoc (m n : ℕ) {N : ℕ} (h : N = m + n) (f : Fin N → EReal) :
    ∑ j, f j = ∑ i : Fin m, f ⟨i.val, by omega⟩ + ∑ i : Fin n, f ⟨m + i.val, by omega⟩ := by
  subst h
  exact Fin.sum_univ_add f

/-- The gate-weighted sum of eight gated feed-forward layers. -/
def mix (x : Fin 1024 → EReal) (g : Fin 8 → EReal) (wg wu : Fin 8 → Fin 1024 → Fin 3584 → EReal) (wd : Fin 8 → Fin 3584 → Fin 1024 → EReal)
    (n : Fin 1024) : EReal := ∑ e, g e * ffn x (wg e) (wu e) (wd e) n

/-- The two branches' projections, each times the logistic of its gate, added up and projected once more: output channel `n`. -/
def merged {p d : ℕ} (ya : Fin p → EReal) (yb ga gb : Fin d → EReal) (wa : Fin p → Fin d → EReal) (wb wo : Fin d → Fin d → EReal) (n : Fin d) : EReal :=
  ∑ j, (Ideal.logistic (ga j) * (∑ k, ya k * wa k j) + Ideal.logistic (gb j) * ∑ k, yb k * wb k j) * wo j n

theorem merged_congr {p d : ℕ} {ya ya' : Fin p → EReal} {yb yb' ga ga' gb gb' : Fin d → EReal} {wa wa' : Fin p → Fin d → EReal}
    {wb wb' wo wo' : Fin d → Fin d → EReal} (hya : ∀ k, ya k = ya' k) (hyb : ∀ k, yb k = yb' k) (hga : ∀ k, ga k = ga' k) (hgb : ∀ k, gb k = gb' k)
    (hwa : ∀ k j, wa k j = wa' k j) (hwb : ∀ k j, wb k j = wb' k j) (hwo : ∀ k j, wo k j = wo' k j) (n : Fin d) :
    merged ya yb ga gb wa wb wo n = merged ya' yb' ga' gb' wa' wb' wo' n := by
  unfold merged
  simp only [hya, hyb, hga, hgb, hwa, hwb, hwo]

/-- A finite nonnegative factor goes into a sum. -/
theorem mul_sum {N : ℕ} {g : EReal} (h0 : 0 ≤ g) (h1 : g ≠ ⊤) (f : Fin N → EReal) : g * ∑ j, f j = ∑ j, g * f j := by
  induction N with
  | zero => simp
  | succ N ih => rw [Fin.sum_univ_castSucc, EReal.left_distrib_of_nonneg_of_ne_top h0 h1, ih, Fin.sum_univ_castSucc]

/-- The sum over lanes that keeps lane `e` alone, by comparing lane numbers as 32-bit words. -/
theorem lane {N : ℕ} (hN : N ≤ 4294967296) (g : Fin N → EReal) (e : ℕ) (he : e < N) :
    ∑ l : Fin N, Scalar.select (IntOp.cmpi .eq (BitVec.ofNat 32 l.val) (BitVec.ofNat 32 e)) (g l) 0 = g ⟨e, he⟩ := by
  rw [Finset.sum_eq_single (⟨e, he⟩ : Fin N)]
  · simp [Scalar.select, IntOp.cmpi]
  · intro l _ hl
    have : ¬ BitVec.ofNat 32 l.val = BitVec.ofNat 32 e := fun h => hl (Fin.ext (by
      have := congrArg BitVec.toNat h
      simp only [BitVec.toNat_ofNat] at this
      show l.val = e
      have := l.isLt
      omega))
    have hb : (BitVec.ofNat 32 l.val == BitVec.ofNat 32 e) = false := beq_eq_false_iff_ne.mpr this
    simp only [Scalar.select, IntOp.cmpi, hb]
    exact if_neg (by decide)
  · simp

/-- The weighted sum taken chunk by chunk: 56 chunks, seven of 512 hidden units for each of the eight layers. -/
theorem mix_chunks (x : Fin 1024 → EReal) (g : Fin 8 → EReal) (h0 : ∀ e, 0 ≤ g e) (h1 : ∀ e, g e ≠ ⊤)
    (wg wu : Fin 8 → Fin 1024 → Fin 3584 → EReal) (wd : Fin 8 → Fin 3584 → Fin 1024 → EReal) (n : Fin 1024) :
    ∑ s : Fin 56, ∑ j : Fin 512, hid x (wg ⟨s.val / 7, by omega⟩) (wu ⟨s.val / 7, by omega⟩) ⟨s.val % 7 * 512 + j.val, by omega⟩
        * g ⟨s.val / 7, by omega⟩ * wd ⟨s.val / 7, by omega⟩ ⟨s.val % 7 * 512 + j.val, by omega⟩ n
      = mix x g wg wu wd n := by
  rw [Fin.sum_points_lanes_fin 7 (fun (e : Fin 8) (l : Fin 3584) => hid x (wg e) (wu e) l * g e * wd e l n)]
  unfold mix ffn
  refine Finset.sum_congr rfl fun e _ => ?_
  rw [mul_sum (h0 e) (h1 e)]
  refine Finset.sum_congr rfl fun l _ => ?_
  rw [mul_comm (hid x (wg e) (wu e) l) (g e), mul_assoc]

end Cert.Rows

end
-- ==== Proof.Slots.lean ====
module

public import Idealize.ShloMosaic.Lib.Pipeline.ValueKit
public import Idealize.ShloMosaic.Lib.Pointwise

@[expose] public section

noncomputable section

namespace Cert.Slots

open Idealize.ShloMosaic
open scoped Classical

/-- The row of one expert that a token fetches: the one in slot `k` when the gate `q` is open, nothing otherwise (slot -1 is none of the 320). -/
def fetched (q k : EReal) (o : Fin 320 → EReal) : EReal :=
  ∑ s : Fin 320, (if (if 0 < q then k else Ideal.ofBits .f32 0xBF800000#32) = FloatOps.sitofp (F := Ideal) .f32 (BitVec.ofNat 32 s.val) then (1 : EReal) else 0)
    * o s

/-- The gate-weighted sum of the rows a token fetches from the eight experts. -/
def mix (q k : Fin 8 → EReal) (o : Fin 8 → Fin 320 → Fin 1024 → EReal) (n : Fin 1024) : EReal := ∑ e, q e * fetched (q e) (k e) (fun s => o e s n)

theorem fetched_congr {q q' k k' : EReal} {o o' : Fin 320 → EReal} (hq : q = q') (hk : k = k') (ho : ∀ s, o s = o' s) : fetched q k o = fetched q' k' o' := by
  rw [hq, hk, funext ho]

theorem mix_congr {q q' k k' : Fin 8 → EReal} {o o' : Fin 8 → Fin 320 → Fin 1024 → EReal} (hq : ∀ e, q e = q' e) (hk : ∀ e, k e = k' e)
    (ho : ∀ e s n, o e s n = o' e s n) (n : Fin 1024) : mix q k o n = mix q' k' o' n := by
  rw [funext hq, funext hk, funext fun e => funext fun s => funext (ho e s)]

end Cert.Slots

end
-- ==== Proof.CombineBody.lean ====
module

public import proofs.«01_k».proof.Proof.Gen.CombineIdeal.Frame
public import proofs.«01_k».proof.Proof.Rows
public import proofs.«01_k».proof.Proof.Slots
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.CombineIdeal.Value

open Cert.CombineIdeal Cert.CombineIdeal.Gen

/-- What one expert adds to a token's row, as the kernel takes it. -/
abbrev part (q k : FVec Ideal S1024x128 .f32) (o : FVec Ideal S1x1x320x1024 .bf16) (r n : Fin 1024) (e : Fin 128) : EReal :=
  Slots.fetched (q (ix2 r e)) (k (ix2 r e)) (fun s => o (ix4 0 0 s n)) * q (ix2 r e)

theorem pay1_apply (v : FVec Ideal S1024x1024 .f32) (g b : FVec Ideal S1x1024 .f32) (r n : Fin 1024) :
    k0_pay1 (F := Ideal) v g b (ix2 r n)
      = Rows.ln (fun k => v (ix2 r k)) (fun k => g (ix2 0 k)) (fun k => b (ix2 0 k)) n := by
  pointwise [k0_pay1]
  rfl

/-- Expert 0, onto nothing. -/
theorem pay5_apply (q k : FVec Ideal S1024x128 .f32) (o : FVec Ideal S1x1x320x1024 .bf16) (r n : Fin 1024) :
    k0_pay5 (F := Ideal) q k o (ix2 r n) = part q k o r n 0 := by
  pointwise [k0_pay5, k0_pay2, k0_pay3, k0_pay4]
  rfl

/-- Experts 1 and 2. -/
theorem pay8_apply (q k : FVec Ideal S1024x128 .f32) (acc : FVec Ideal S1024x1024 .f32) (o1 o2 : FVec Ideal S1x1x320x1024 .bf16) (r n : Fin 1024) :
    k0_pay8 (F := Ideal) q k (k0_pay4 (F := Ideal)) acc (k0_pay6 q) (k0_pay7 q k) o1 o2 (ix2 r n)
      = acc (ix2 r n) + part q k o1 r n 1 + part q k o2 r n 2 := by
  pointwise [k0_pay8, k0_pay2, k0_pay3, k0_pay4, k0_pay6, k0_pay7]
  rfl

/-- Expert 3. -/
theorem pay9_apply (q k : FVec Ideal S1024x128 .f32) (o : FVec Ideal S1x1x320x1024 .bf16) (r n : Fin 1024) :
    k0_pay9 (F := Ideal) q k (k0_pay4 (F := Ideal)) o (ix2 r n) = part q k o r n 3 := by
  pointwise [k0_pay9, k0_pay4]
  rfl

/-- Experts 4 and 5. -/
theorem pay10_apply (q k : FVec Ideal S1024x128 .f32) (acc p3 : FVec Ideal S1024x1024 .f32) (o4 o5 : FVec Ideal S1x1x320x1024 .bf16) (r n : Fin 1024) :
    k0_pay10 (F := Ideal) q k (k0_pay4 (F := Ideal)) acc p3 o4 o5 (ix2 r n)
      = acc (ix2 r n) + p3 (ix2 r n) + part q k o4 r n 4 + part q k o5 r n 5 := by
  pointwise [k0_pay10, k0_pay4]
  rfl

/-- Experts 6 and 7, and the residual. -/
theorem pay14_apply (q k : FVec Ideal S1024x128 .f32) (acc : FVec Ideal S1024x1024 .f32) (o6 o7 : FVec Ideal S1x1x320x1024 .bf16)
    (x : FVec Ideal S1024x1024 .f32) (r n : Fin 1024) :
    k0_pay14 (F := Ideal) q k (k0_pay4 (F := Ideal)) acc (k0_pay11 q) (k0_pay12 q) (k0_pay13 k) o6 o7 x (ix2 r n)
      = Rows.res (fun k => x (ix2 r k)) (fun n => acc (ix2 r n) + part q k o6 r n 6 + part q k o7 r n 7) n := by
  pointwise [k0_pay14, k0_pay4, k0_pay11, k0_pay12, k0_pay13]
  rfl

theorem part_ld (q k : FVec Ideal S1024x128 .f32) (o : FVec Ideal S1x1x320x1024 .bf16) (v : FVec Ideal S8x1x320x1024 .bf16) (r n : Fin 1024)
    (l : Fin 128) (e : Fin 8) (hl : l = ⟨e.val, by omega⟩) (h : ∀ s : Fin 320, o (ix4 0 0 s n) = v (ix4 e 0 s n)) :
    part q k o r n l = q (ix2 r ⟨e.val, by omega⟩) * Slots.fetched (q (ix2 r ⟨e.val, by omega⟩)) (k (ix2 r ⟨e.val, by omega⟩)) (fun s => v (ix4 e 0 s n)) := by
  subst hl
  exact (mul_comm _ _).trans (congrArg (q (ix2 r ⟨e.val, by omega⟩) * ·) (Slots.fetched_congr rfl rfl h))

/-- The block the body leaves, read at one index. -/
theorem out_apply (x : FVec Ideal S1024x1024 .f32) (q k : FVec Ideal S1024x128 .f32) (o : FVec Ideal S8x1x320x1024 .bf16)
    (g b : FVec Ideal S1x1024 .f32) (r n : Fin 1024) :
    out0_6 (F := Ideal) x q k o g b (ix2 r n)
      = Rows.ln (Rows.res (fun k => x (ix2 r k)) (Slots.mix (fun e => q (ix2 r ⟨e.val, by omega⟩)) (fun e => k (ix2 r ⟨e.val, by omega⟩))
          (fun e s n => o (ix4 e 0 s n)))) (fun k => g (ix2 0 k)) (fun k => b (ix2 0 k)) n := by
  have h16 : k0_pay16 (F := Ideal) x q k o g b = q := by
    funext i
    idx_vars i
    pointwise [k0_pay16, k0_pay2]
  have h17 : k0_pay17 (F := Ideal) x q k o g b = k := by
    funext i
    idx_vars i
    pointwise [k0_pay17, k0_pay3]
  have h15 : k0_pay15 (F := Ideal) g = g := by
    funext i
    idx_vars i
    pointwise [k0_pay15]
  frame_out
  rw [h16, h17, h15, show k0_pay18 (F := Ideal) x q k o g b = k0_pay4 (F := Ideal) from rfl, pay1_apply]
  refine Rows.ln_congr (fun n => ?_) (fun _ => rfl) (fun _ => rfl) n
  rw [pay14_apply]
  refine congrArg (fun z : EReal => Ideal.ofBits .f32 0x3FB504F3#32 * x (ix2 r n) + z) ?_
  beta_reduce
  rw [pay10_apply, pay8_apply, pay5_apply, pay9_apply]
  unfold Slots.mix
  rw [Fin.sum_univ_eight, part_ld q k _ o r n 0 0 rfl (fun s => by pointwise), part_ld q k _ o r n 1 1 rfl (fun s => by pointwise),
    part_ld q k _ o r n 2 2 rfl (fun s => by pointwise), part_ld q k _ o r n 3 3 rfl (fun s => by pointwise),
    part_ld q k _ o r n 4 4 rfl (fun s => by pointwise), part_ld q k _ o r n 5 5 rfl (fun s => by pointwise),
    part_ld q k _ o r n 6 6 rfl (fun s => by pointwise), part_ld q k _ o r n 7 7 rfl (fun s => by pointwise)]

theorem idx : ∀ t : Fin cfg0.N, win0_0.index t = ![t.val, 0] ∧ win0_1.index t = ![t.val, 0] ∧ win0_2.index t = ![t.val, 0]
    ∧ win0_3.index t = ![0, t.val, 0, 0] ∧ win0_4.index t = ![0, 0] ∧ win0_5.index t = ![0, 0] ∧ win0_6.index t = ![t.val, 0] :=
  (by decide +kernel : ∀ t : Fin grid0.N, _)

end Cert.CombineIdeal.Value

end
-- ==== Proof.CombineValue.lean ====
module

public import proofs.«01_k».proof.Proof.Gen.CombineIdeal.Frame
public import proofs.«01_k».proof.Proof.CombineBody
public import Idealize.ShloMosaic.Lib.Claim
public import Idealize.ShloMosaic.Lib.Pipeline.ReadBack
public import Idealize.ShloMosaic.Lib.KernelVsHost

@[expose] public section

set_option maxRecDepth 16384

noncomputable section

open Idealize.ShloMosaic Idealize.ShloMosaic.TcCoe Idealize.SL.Sem
open Idealize.ShloMosaic.Pipeline (Dat)

namespace Cert.CombineIdeal.Value

open Cert.CombineIdeal Cert.CombineIdeal.Gen

/-- The result as one function of the argument arrays. -/
def G (X : FVec Ideal S65536x1024 .f32) (Q K : FVec Ideal S65536x8 .f32) (O : FVec Ideal S8x64x320x1024 .bf16)
    (g b : FVec Ideal S1024 .f32) : S65536x1024.Idx → EReal := fun i =>
  Rows.ln (Rows.res (fun k => X (ix2 (i 0) k)) (Slots.mix (fun e => Q (ix2 (i 0) e)) (fun e => K (ix2 (i 0) e))
    (fun e s n => O (ix4 e ⟨(i 0).val / 1024, by have h : (i 0).val < 65536 := (i 0).isLt; omega⟩ s n)))) (fun k => g (ix1 k)) (fun k => b (ix1 k)) (i 1)

variable (m : (ℓ : Loc nD τ sig) → Buf (Elt Ideal) ℓ)

theorem read_x (c : Dev nD) (t : Fin cfg0.N) (r k : Fin 1024) (i : Fin 65536) (hi : i.val = t.val * 1024 + r.val) :
    iblk m c 0 t (ix2 r k) = m ((c : Thread nD τ).loc main_arg0) (ix2 i k) := by
  have e0 := (idx t).1
  blk_simp [iblk]
  entry_read
  blk_ext [e0]

theorem read_gate (c : Dev nD) (t : Fin cfg0.N) (r : Fin 1024) (e : Fin 8) (h : e.val < 128) (i : Fin 65536) (hi : i.val = t.val * 1024 + r.val) :
    iblk m c 1 t (ix2 r ⟨e.val, h⟩) = m ((c : Thread nD τ).loc main_arg1) (ix2 i e) := by
  have e1 := (idx t).2.1
  blk_simp [iblk]
  unfold V
  simp only [hostOps0, hostOps0_1, hostOps0_2, hostOps0_3, hostOps0_4, List.flatten_cons, List.flatten_nil, List.cons_append, List.nil_append]
  entry_read
  refine (pad_apply_of_inside ![0, 0] ![0, 120] ![0, 0] (m ((c : Thread nD τ).loc main_arg1)) _ pads_S65536x8_S65536x128_000_01200 h_S_ _ (ix2 i e) ?_)
  intro a
  fin_cases a
  · have h0 : (((win0_1.blk t).view.emb (ix2 r ⟨e.val, h⟩)) 0).val = i.val := by
      rw [hi]
      blk_simp [e1]
    exact h0.trans (by show i.val = 0 + i.val * 1; omega)
  · have h1 : (((win0_1.blk t).view.emb (ix2 r ⟨e.val, h⟩)) 1).val = e.val := by
      blk_simp [e1]
    exact h1.trans (by show e.val = 0 + e.val * 1; omega)

theorem read_rank (c : Dev nD) (t : Fin cfg0.N) (r : Fin 1024) (e : Fin 8) (h : e.val < 128) (i : Fin 65536) (hi : i.val = t.val * 1024 + r.val) :
    iblk m c 2 t (ix2 r ⟨e.val, h⟩) = m ((c : Thread nD τ).loc main_arg2) (ix2 i e) := by
  have e2 := (idx t).2.2.1
  blk_simp [iblk]
  unfold V
  simp only [hostOps0, hostOps0_1, hostOps0_2, hostOps0_3, hostOps0_4, List.flatten_cons, List.flatten_nil, List.cons_append, List.nil_append]
  entry_read
  refine (pad_apply_of_inside ![0, 0] ![0, 120] ![0, 0] (m ((c : Thread nD τ).loc main_arg2)) _ pads_S65536x8_S65536x128_000_01200 h_S_ _ (ix2 i e) ?_)
  intro a
  fin_cases a
  · have h0 : (((win0_2.blk t).view.emb (ix2 r ⟨e.val, h⟩)) 0).val = i.val := by
      rw [hi]
      blk_simp [e2]
    exact h0.trans (by show i.val = 0 + i.val * 1; omega)
  · have h1 : (((win0_2.blk t).view.emb (ix2 r ⟨e.val, h⟩)) 1).val = e.val := by
      blk_simp [e2]
    exact h1.trans (by show e.val = 0 + e.val * 1; omega)

theorem read_slot (c : Dev nD) (t : Fin cfg0.N) (e : Fin 8) (s : Fin 320) (k : Fin 1024) (i : Fin 64) (hi : i.val = t.val) :
    iblk m c 3 t (ix4 e 0 s k) = m ((c : Thread nD τ).loc main_arg3) (ix4 e i s k) := by
  have e3 := (idx t).2.2.2.1
  blk_simp [iblk]
  entry_read
  blk_ext [e3]

theorem read_g (c : Dev nD) (t : Fin cfg0.N) (k : Fin 1024) : iblk m c 4 t (ix2 0 k) = m ((c : Thread nD τ).loc main_arg4) (ix1 k) := by
  have e4 := (idx t).2.2.2.2.1
  blk_simp [iblk]
  unfold V
  simp only [hostOps0, hostOps0_1, hostOps0_2, hostOps0_3, hostOps0_4, List.flatten_cons, List.flatten_nil, List.cons_append, List.nil_append]
  entry_read
  pointwise
  blk_ext [e4]

theorem read_b (c : Dev nD) (t : Fin cfg0.N) (k : Fin 1024) : iblk m c 5 t (ix2 0 k) = m ((c : Thread nD τ).loc main_arg5) (ix1 k) := by
  have e5 := (idx t).2.2.2.2.2.1
  blk_simp [iblk]
  unfold V
  simp only [hostOps0, hostOps0_1, hostOps0_2, hostOps0_3, hostOps0_4, List.flatten_cons, List.flatten_nil, List.cons_append, List.nil_append]
  entry_read
  pointwise
  blk_ext [e5]

/-- The element the body leaves at `y` of the block of point `t`. -/
theorem point (c : Dev nD) (t : Fin cfg0.N) (y : S1024x1024.Idx) (i : S65536x1024.Idx) (h0 : (i 0).val = t.val * 1024 + (y 0).val) (h1 : (i 1).val = (y 1).val) :
    out0_6 (F := Ideal) (iblk m c 0 t) (iblk m c 1 t) (iblk m c 2 t) (iblk m c 3 t) (iblk m c 4 t) (iblk m c 5 t) y
      = G (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) i := by
  idx_vars y
  idx_vars i
  have hy1 : i1 = y1 := Fin.ext h1
  subst hy1
  have h0' : i0.val = t.val * 1024 + y0.val := h0
  have hy : y0.val < 1024 := y0.isLt
  have hq : i0.val / 1024 = t.val := by omega
  refine (out_apply _ _ _ _ _ _ y0 i1).trans ?_
  refine Rows.ln_congr (fun n => ?_) (read_g m c t) (read_b m c t) i1
  refine congrArg₂ (· + ·) (congrArg (_ * ·) (read_x m c t y0 n i0 h0)) ?_
  exact Slots.mix_congr (fun e => read_gate m c t y0 e _ i0 h0) (fun e => read_rank m c t y0 e _ i0 h0)
    (fun e s n => read_slot m c t e s n _ hq) n

/-- The result array. -/
theorem final (c : Dev nD) : (dats m 0 c).arrAt 6 cfg0.N
    = G (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) := by
  refine (dats m 0 c).arrAt_eq_of_covers 6 _ (by decide +kernel) fun t _ y => ?_
  have e6 := (idx t).2.2.2.2.2.2
  blk_simp
  rw [after0_6]
  refine point m c t y _ ?_ ?_
  all_goals (blk_simp [e6])

end Cert.CombineIdeal.Value

end
-- ==== Proof.CombineRef.lean ====
module

public import proofs.«01_k».proof.Proof.Gen.CombineReferenceIdeal.Run
public import proofs.«01_k».proof.Proof.Gen.CombineReferenceIdeal.Read
public import proofs.«01_k».proof.Proof.Rows
public import proofs.«01_k».proof.Proof.Slots

@[expose] public section

set_option maxRecDepth 16384

noncomputable section

open Idealize.ShloMosaic Idealize.ShloMosaic.TcCoe Idealize.SL.Sem

namespace Cert.CombineReferenceIdeal.Value

open Cert.CombineReferenceIdeal Cert.CombineReferenceIdeal.Gen

theorem word_of_bool (p : Prop) [Decidable p] : FloatOps.uitofp (F := Ideal) .f32 (BitVec.ofBool (decide p)) = if p then (1 : EReal) else 0 := by
  by_cases h : p
  · rw [if_pos h, decide_eq_true h]
    show (((BitVec.ofBool true).toNat : ℝ) : EReal) = 1
    simp
  · rw [if_neg h, decide_eq_false h]
    show (((BitVec.ofBool false).toNat : ℝ) : EReal) = 0
    simp

open scoped Classical in
/-- Row tile `i`, token `t` of it, expert `e`, slot `s`: one where the token lies in the slot, zero elsewhere. -/
theorem held_apply (Q K : FVec Ideal S65536x8 .f32) (i : Fin 64) (t : Fin 1024) (e : Fin 8) (s : Fin 320) (r : Fin 65536) (hr : r.val = i.val * 1024 + t.val) :
    Read.val_main_v10 (F := Ideal) Q K (ix4 i t e s)
      = if (if 0 < Q (ix2 r e) then K (ix2 r e) else Ideal.ofBits .f32 0xBF800000#32) = FloatOps.sitofp (F := Ideal) .f32 (BitVec.ofNat 32 s.val) then (1 : EReal) else 0 := by
  pointwise [Read.val_main_v10, Read.val_main_v9, Read.val_main_v8, Read.val_main_v7, Read.val_main_v6, Read.val_main_v5, Read.val_main_v4, Read.val_main_v3, Read.val_main_v2, Read.val_main_v1, Read.val_main_v0, Read.val_main_cst, Read.val_main_cst_0, Read.val_main_call0_v0, Read.val_main_call0_v1]
  rw [word_of_bool, show r = ⟨i.val * 1024 + t.val, by omega⟩ from Fin.ext hr]
  rfl

/-- The residual row before its normalisation. -/
theorem resid (X : FVec Ideal S65536x1024 .f32) (Q K : FVec Ideal S65536x8 .f32) (O : FVec Ideal S8x64x320x1024 .bf16) (r : Fin 65536) (n : Fin 1024) :
    Read.val_main_v21 (F := Ideal) X Q K O (ix2 r n) = Rows.res (fun k => X (ix2 r k)) (Slots.mix (fun e => Q (ix2 r e)) (fun e => K (ix2 r e))
      (fun e s n => O (ix4 e ⟨r.val / 1024, by omega⟩ s n))) n := by
  have hh : ∀ (e : Fin 8) (s : Fin 320), Read.val_main_v10 (F := Ideal) Q K (ix4 ⟨r.val / 1024, by omega⟩ ⟨r.val % 1024, by omega⟩ e s) = _ :=
    fun e s => held_apply Q K ⟨r.val / 1024, by omega⟩ ⟨r.val % 1024, by omega⟩ e s r (by show r.val = r.val / 1024 * 1024 + r.val % 1024; omega)
  generalize hv : Read.val_main_v10 (F := Ideal) Q K = v
  pointwise [Read.val_main_v21, Read.val_main_v20, Read.val_main_v19, Read.val_main_cst_2, Read.val_main_v18, Read.val_main_cst_1, Read.val_main_v17, Read.val_main_v16, Read.val_main_v15, Read.val_main_v14, Read.val_main_v13, Read.val_main_v12, Read.val_main_v11]
  simp only [hh]
  rfl

/-- The reference's result read at one index, over its residual row. -/
theorem norm_apply (X : FVec Ideal S65536x1024 .f32) (Q K : FVec Ideal S65536x8 .f32) (O : FVec Ideal S8x64x320x1024 .bf16)
    (g b : FVec Ideal S1024 .f32) (r : Fin 65536) (n : Fin 1024) :
    Read.val_main_v45 (F := Ideal) X Q K O g b (ix2 r n)
      = Rows.ln (fun k => Read.val_main_v21 (F := Ideal) X Q K O (ix2 r k)) (fun k => g (ix1 k)) (fun k => b (ix1 k)) n := by
  generalize hv : Read.val_main_v21 (F := Ideal) X Q K O = v
  pointwise [Read.val_main_v22, Read.val_main_v23, Read.val_main_v24, Read.val_main_v25, Read.val_main_v26, Read.val_main_v27, Read.val_main_v28, Read.val_main_v29, Read.val_main_v30, Read.val_main_v31, Read.val_main_v32, Read.val_main_v33, Read.val_main_v34, Read.val_main_v35, Read.val_main_v36, Read.val_main_v37, Read.val_main_v38, Read.val_main_v39, Read.val_main_v40, Read.val_main_v41, Read.val_main_v42, Read.val_main_v43, Read.val_main_v44, Read.val_main_v45, Read.val_main_cst_3, Read.val_main_cst_4, Read.val_main_cst_5, Read.val_main_cst_6, Read.val_main_cst_7]
  simp only [hv]
  rfl

/-- The reference's result read at one index. -/
theorem out_apply (X : FVec Ideal S65536x1024 .f32) (Q K : FVec Ideal S65536x8 .f32) (O : FVec Ideal S8x64x320x1024 .bf16)
    (g b : FVec Ideal S1024 .f32) (r : Fin 65536) (n : Fin 1024) :
    Read.val_main_v45 (F := Ideal) X Q K O g b (ix2 r n)
      = Rows.ln (Rows.res (fun k => X (ix2 r k)) (Slots.mix (fun e => Q (ix2 r e)) (fun e => K (ix2 r e))
          (fun e s n => O (ix4 e ⟨r.val / 1024, by omega⟩ s n)))) (fun k => g (ix1 k)) (fun k => b (ix1 k)) n :=
  (norm_apply X Q K O g b r n).trans (Rows.ln_congr (fun k => resid X Q K O r k) (fun _ => rfl) (fun _ => rfl) n)

end Cert.CombineReferenceIdeal.Value

end
-- ==== Proof.CombineClaim.lean ====
module

public import proofs.«01_k».proof.Defs
public import proofs.«01_k».proof.Proof.Gen.CombineIdeal.Value
public import proofs.«01_k».proof.Proof.CombineValue
public import proofs.«01_k».proof.Proof.CombineRef

@[expose] public section

set_option maxRecDepth 16384

noncomputable section

open Idealize.ShloMosaic Idealize.ShloMosaic.TcCoe Idealize.SL.Sem

namespace Cert.CombineClaim

instance : Cert.CombineIdeal.Facts := Cert.CombineIdeal.Gen.facts
instance : Cert.CombineReferenceIdeal.Facts := Cert.CombineReferenceIdeal.Gen.facts

/-- The idealized kernel that combines the slots and the idealized plain reference leave the same array. -/
theorem algebraic : Cert.algebraic_CombineIdeal_CombineReferenceIdeal := by
  intro m g m' g' _ hag
  refine ⟨_, (θ_run _ _ _).mono (fun r h c => ⟨(h c).1.trans (Cert.CombineIdeal.Value.final m c), (h c).2⟩) (Cert.CombineIdeal.Value.run_blocks m g),
    (θ_run _ _ _).mono (fun r h c => ⟨(h c).1.trans ?_, (h c).2⟩) (Cert.CombineReferenceIdeal.Value.run m' g')⟩
  refine (Cert.CombineReferenceIdeal.Read.val_main_v45_eq _ _).trans ?_
  funext i
  idx_vars i
  refine (Cert.CombineReferenceIdeal.Value.out_apply _ _ _ _ _ _ i0 i1).trans ?_
  show Cert.CombineIdeal.Value.G (m' ((c.tc : Thread Cert.CombineReferenceIdeal.nD Cert.CombineReferenceIdeal.τ).loc Cert.CombineReferenceIdeal.main_arg0))
    (m' (c.tc.loc Cert.CombineReferenceIdeal.main_arg1)) (m' (c.tc.loc Cert.CombineReferenceIdeal.main_arg2)) (m' (c.tc.loc Cert.CombineReferenceIdeal.main_arg3))
    (m' (c.tc.loc Cert.CombineReferenceIdeal.main_arg4)) (m' (c.tc.loc Cert.CombineReferenceIdeal.main_arg5)) (ix2 i0 i1) = _
  rw [(hag c).1, (hag c).2.1, (hag c).2.2.1, (hag c).2.2.2.1, (hag c).2.2.2.2.1, (hag c).2.2.2.2.2]

end Cert.CombineClaim

end
-- ==== Proof.ExpertsBody.lean ====
module

public import proofs.«01_k».proof.Proof.Gen.ExpertsIdeal.Skeleton
public import proofs.«01_k».proof.Proof.Gen.ExpertsIdeal.Launch
public import Idealize.ShloMosaic.Lib.Exec
public import Idealize.ShloMosaic.Lib.Tactic
public import Idealize.ShloMosaic.Lib.WholeRead
public import Idealize.ShloMosaic.Lib.Pipeline.Frame
public import Idealize.ShloMosaic.Lib.Pipeline.FrameBody

@[expose] public section

set_option maxRecDepth 16384

noncomputable section

namespace Cert.ExpertsIdeal.Hand

open Cert.ExpertsIdeal Cert.ExpertsIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-! ## The rectangles the body reads and writes -/

/-- The seven chunks of the hidden axis in the gate and up matrices. -/
abbrev ca0 : Rect S1x1024x3584 := Rect.unit (s := S1x1024x3584) ![0, 0, 0] S1x1024x512.size inb_S1x1024x3584_S1x1024x512_0_0_0
abbrev ca1 : Rect S1x1024x3584 := Rect.unit (s := S1x1024x3584) ![0, 0, 512] S1x1024x512.size inb_S1x1024x3584_S1x1024x512_0_0_512
abbrev ca2 : Rect S1x1024x3584 := Rect.unit (s := S1x1024x3584) ![0, 0, 1024] S1x1024x512.size inb_S1x1024x3584_S1x1024x512_0_0_1024
abbrev ca3 : Rect S1x1024x3584 := Rect.unit (s := S1x1024x3584) ![0, 0, 1536] S1x1024x512.size inb_S1x1024x3584_S1x1024x512_0_0_1536
abbrev ca4 : Rect S1x1024x3584 := Rect.unit (s := S1x1024x3584) ![0, 0, 2048] S1x1024x512.size inb_S1x1024x3584_S1x1024x512_0_0_2048
abbrev ca5 : Rect S1x1024x3584 := Rect.unit (s := S1x1024x3584) ![0, 0, 2560] S1x1024x512.size inb_S1x1024x3584_S1x1024x512_0_0_2560
abbrev ca6 : Rect S1x1024x3584 := Rect.unit (s := S1x1024x3584) ![0, 0, 3072] S1x1024x512.size inb_S1x1024x3584_S1x1024x512_0_0_3072
/-- The seven chunks of the hidden axis in the down matrix. -/
abbrev cd0 : Rect S1x3584x1024 := Rect.unit (s := S1x3584x1024) ![0, 0, 0] S1x512x1024.size inb_S1x3584x1024_S1x512x1024_0_0_0
abbrev cd1 : Rect S1x3584x1024 := Rect.unit (s := S1x3584x1024) ![0, 512, 0] S1x512x1024.size inb_S1x3584x1024_S1x512x1024_0_512_0
abbrev cd2 : Rect S1x3584x1024 := Rect.unit (s := S1x3584x1024) ![0, 1024, 0] S1x512x1024.size inb_S1x3584x1024_S1x512x1024_0_1024_0
abbrev cd3 : Rect S1x3584x1024 := Rect.unit (s := S1x3584x1024) ![0, 1536, 0] S1x512x1024.size inb_S1x3584x1024_S1x512x1024_0_1536_0
abbrev cd4 : Rect S1x3584x1024 := Rect.unit (s := S1x3584x1024) ![0, 2048, 0] S1x512x1024.size inb_S1x3584x1024_S1x512x1024_0_2048_0
abbrev cd5 : Rect S1x3584x1024 := Rect.unit (s := S1x3584x1024) ![0, 2560, 0] S1x512x1024.size inb_S1x3584x1024_S1x512x1024_0_2560_0
abbrev cd6 : Rect S1x3584x1024 := Rect.unit (s := S1x3584x1024) ![0, 3072, 0] S1x512x1024.size inb_S1x3584x1024_S1x512x1024_0_3072_0
/-- The tokens of the tile, whole. -/
abbrev ct : Rect S1024x1024 := Rect.unit (s := S1024x1024) ![0, 0] S1024x1024.size inb_S1024x1024_S1024x1024_0_0
/-- The expert's row of slot numbers. -/
abbrev cs (i : grid0.Coords) : Rect S1x8x1024 := Rect.unit (s := S1x8x1024) (k0_off1 i) S1x1x1024.size (k0_off1_inb i)
/-- The first 288 slots of the block written, and the last 32. -/
abbrev co0 : Rect S1x1x320x1024 := Rect.unit (s := S1x1x320x1024) ![0, 0, 0, 0] S1x1x288x1024.size inb_S1x1x320x1024_S1x1x288x1024_0_0_0_0
abbrev co1 : Rect S1x1x320x1024 := Rect.unit (s := S1x1x320x1024) ![0, 0, 288, 0] S1x1x32x1024.size inb_S1x1x320x1024_S1x1x32x1024_0_0_288_0

/-! ## What the body writes -/

/-- The first 288 slots. -/
def slots0 (i : grid0.Coords) (x0 x1 : Vec F S1x1024x3584 .bf16) (x2 : Vec F S1x3584x1024 .bf16) (x3 : Vec F S1024x1024 .bf16) (x4 : Vec F S1x8x1024 .f32) :
    FVec F S1x1x288x1024 .bf16 :=
  k0_pay17 (k0_pay9 (View.ld x4 (cs i)) (View.ld x3 ct))
    (k0_pay15 (k0_pay9 (View.ld x4 (cs i)) (View.ld x3 ct))
      (k0_pay12 (k0_pay9 (View.ld x4 (cs i)) (View.ld x3 ct))
        (k0_pay10 (View.ld x4 (cs i)) (View.ld x3 ct) (View.ld x0 ca0) (View.ld x1 ca0) (View.ld x2 cd0))
        (k0_pay11 (View.ld x0 ca1)) (View.ld x1 ca1) (View.ld x2 cd1) (View.ld x0 ca2) (View.ld x1 ca2) (View.ld x2 cd2))
      (k0_pay13 (k0_pay9 (View.ld x4 (cs i)) (View.ld x3 ct)) (View.ld x0 ca3)) (k0_pay14 (View.ld x1 ca3))
      (constant S288x512 .f32 0x00000000#32) (View.ld x2 cd3) (View.ld x0 ca4) (View.ld x1 ca4) (View.ld x2 cd4))
    (k0_pay16 (k0_pay9 (View.ld x4 (cs i)) (View.ld x3 ct)) (View.ld x0 ca5) (View.ld x1 ca5)) (View.ld x2 cd5)
    (View.ld x0 ca6) (View.ld x1 ca6) (View.ld x2 cd6)

/-- The last 32 slots, where more than 288 are taken. -/
def slots1 (i : grid0.Coords) (x0 x1 : Vec F S1x1024x3584 .bf16) (x2 : Vec F S1x3584x1024 .bf16) (x3 : Vec F S1024x1024 .bf16) (x4 : Vec F S1x8x1024 .f32) :
    FVec F S1x1x32x1024 .bf16 :=
  k0_pay18 (k0_pay1 (k0_pay8 (View.ld x4 (cs i))) (View.ld x3 ct))
    (k0_pay7 (k0_pay1 (k0_pay8 (View.ld x4 (cs i))) (View.ld x3 ct))
      (k0_pay5 (k0_pay1 (k0_pay8 (View.ld x4 (cs i))) (View.ld x3 ct))
        (k0_pay2 (k0_pay8 (View.ld x4 (cs i))) (View.ld x3 ct) (View.ld x0 ca0) (View.ld x1 ca0) (View.ld x2 cd0))
        (k0_pay3 (k0_pay8 (View.ld x4 (cs i))) (View.ld x3 ct) (View.ld x0 ca1)) (k0_pay4 (View.ld x1 ca1)) (View.ld x2 cd1)
        (View.ld x0 ca2) (View.ld x1 ca2) (View.ld x2 cd2))
      (k0_pay6 (k0_pay1 (k0_pay8 (View.ld x4 (cs i))) (View.ld x3 ct)) (View.ld x0 ca3) (View.ld x1 ca3)) (View.ld x2 cd3)
      (View.ld x0 ca4) (View.ld x1 ca4) (View.ld x2 cd4) (View.ld x0 ca5) (View.ld x1 ca5) (View.ld x2 cd5))
    (View.ld x0 ca6) (View.ld x1 ca6) (View.ld x2 cd6)

/-- Whether the count `w` calls for the last 32 slots, as the body asks it. -/
abbrev long (w : BitVec 32) : Prop := Scalar.cmpi .ne (Scalar.extui (Scalar.cmpi .sgt w 288#32)) 0#32 = 1#1
/-- Whether it does not, as the body asks it. -/
abbrev short (w : BitVec 32) : Prop := Scalar.cmpi .ne (Scalar.extui (Scalar.xori (Scalar.cmpi .sgt w 288#32) 1#1)) 0#32 = 1#1

theorem short_iff (w : BitVec 32) : short w ↔ ¬ long w := by
  unfold short long
  generalize Scalar.cmpi .sgt w 288#32 = b
  revert b
  decide

/-- The block one point writes: its first 288 slots, and its last 32 or zeros. -/
def out (i : grid0.Coords) (w : BitVec 32) (x0 x1 : Vec F S1x1024x3584 .bf16) (x2 : Vec F S1x3584x1024 .bf16) (x3 : Vec F S1024x1024 .bf16)
    (x4 : Vec F S1x8x1024 .f32) : Vec F S1x1x320x1024 .bf16 :=
  View.canon [⟨co1, if long w then slots1 i x0 x1 x2 x3 x4 else k0_pay19⟩, ⟨co0, slots0 i x0 x1 x2 x3 x4⟩]

/-- Every slot is in one of the two parts. -/
theorem cover (p1 : FVec F S1x1x32x1024 .bf16) (p0 : FVec F S1x1x288x1024 .bf16) (y : S1x1x320x1024.Idx) :
    ∃ p ∈ ([⟨co1, p1⟩, ⟨co0, p0⟩] : List (View.Piece (Elt F) S1x1x320x1024 .bf16)), y ∈ p.1.set := by
  have h0 : (y 0).val < 1 := (y 0).isLt
  have h1 : (y 1).val < 1 := (y 1).isLt
  have h2 : (y 2).val < 320 := (y 2).isLt
  have h3 : (y 3).val < 1024 := (y 3).isLt
  by_cases h : (y 2).val < 288
  · refine ⟨⟨co0, p0⟩, by simp, ?_⟩
    rw [Rect.mem_set_unit]
    intro a
    fin_cases a <;> constructor <;> simp <;> omega
  · refine ⟨⟨co1, p1⟩, by simp, ?_⟩
    rw [Rect.mem_set_unit]
    intro a
    fin_cases a <;> constructor <;> simp <;> omega

end Cert.ExpertsIdeal.Hand

end
-- ==== Proof.ExpertsRun.lean ====
module

public import proofs.«01_k».proof.Proof.ExpertsBody
public import Idealize.ShloMosaic.Lib.WordCmp

@[expose] public section

set_option maxRecDepth 16384

noncomputable section

namespace Cert.ExpertsIdeal.Hand

open Cert.ExpertsIdeal Cert.ExpertsIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The table of counts as the body is handed it. -/
abbrev tabM : Memref sig .tc .smem S512 .i32 := Memref.whole main_arg0
abbrev tabM_whole : tabM.IsWhole := Memref.isWhole_whole _
/-- The contents of a table, and the half of it the body holds. -/
abbrev TabBuf (c : Dev nD) {S : Shape} {e : EltTy} (M : Memref sig .tc .smem S e) : Type := Buf (Elt F) (M.view.loc (c : Thread nD τ))
abbrev tabPt (c : Dev nD) {S : Shape} {e : EltTy} (M : Memref sig .tc .smem S e) (f : TabBuf (F := F) c M) : sProp 𝕄 :=
  M.view.loc (c : Thread nD τ) ↦{fullShare.right} f
/-- The count the body reads. -/
abbrev word (c : Dev nD) (i : grid0.Coords) (xt : TabBuf (F := F) c tabM) : BitVec 32 :=
  tabM.view.readAt (Elt F) (Rect.unit (s := S512) (k0_off2 i) S1.size (k0_off2_inb i)).toLoadRect xt (Shape.Idx.first (numel1_S1.symm ▸ Nat.one_pos))

/-- A load of a memref that holds `X` is the part of `X` under the rectangle. -/
theorem readAt_ld {κ : Kind} {sp : Space} {s : Shape} {e : EltTy} {m : Memref sig κ sp s e} (h : m.IsWhole) (X : s.Idx → Elt F e) (r : Rect s) :
    m.view.readAt (Elt F) r.toLoadRect (h.unread X) = View.ld X r :=
  funext fun x => h.readAt_unread X r.toLoadRect x

set_option maxHeartbeats 2000000 in
/-- The body on whole memrefs: the inputs as they were, and the block `out`. -/
theorem run (c : Dev nD) (i : grid0.Coords) (arg3 : Memref sig .tc .vmem S1x1024x3584 .bf16) (harg3 : arg3.IsWhole)
    (arg4 : Memref sig .tc .vmem S1x1024x3584 .bf16) (harg4 : arg4.IsWhole) (arg5 : Memref sig .tc .vmem S1x3584x1024 .bf16) (harg5 : arg5.IsWhole)
    (arg6 : Memref sig .tc .vmem S1024x1024 .bf16) (harg6 : arg6.IsWhole) (arg7 : Memref sig .tc .vmem S1x8x1024 .f32) (harg7 : arg7.IsWhole)
    (arg8 : Memref sig .tc .vmem S1x1x320x1024 .bf16) (harg8 : arg8.IsWhole)
    (x0 x1 : Vec F S1x1024x3584 .bf16) (x2 : Vec F S1x3584x1024 .bf16) (x3 : Vec F S1024x1024 .bf16) (x4 : Vec F S1x8x1024 .f32)
    (xt : TabBuf (F := F) c tabM) (E : Set ℕ) (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare x3 ∗ owns (c : Thread nD τ) arg7 fullShare x4 ∗ (∃ d, owns (c : Thread nD τ) arg8 fullShare d)
        ∗ tabPt c tabM xt
        ∗ (iprop(owns (c : Thread nD τ) arg3 fullShare x0 ∗ owns (c : Thread nD τ) arg4 fullShare x1 ∗ owns (c : Thread nD τ) arg5 fullShare x2
          ∗ owns (c : Thread nD τ) arg6 fullShare x3 ∗ owns (c : Thread nD τ) arg7 fullShare x4
          ∗ owns (c : Thread nD τ) arg8 fullShare (out i (word c i xt) x0 x1 x2 x3 x4) ∗ tabPt c tabM xt) -∗ K ⟨⟩))
      ⊢ wp frame (wpE (defs₀ (F := F)) Variants.none c none) E
          (cc0_moe_experts i tabM tabM_whole arg3 harg3 arg4 harg4 arg5 harg5 arg6 harg6 arg7 harg7 arg8 harg8) K := by
  simp only [cc0_moe_experts_eq_skeleton]; unfold cc0_moe_experts_skel
  simp only [k0_part7_eq_skeleton]; unfold k0_part7_skel
  simp only [k0_part4_eq_skeleton, k0_part5_eq_skeleton, k0_part6_eq_skeleton, k0_part1_eq_skeleton, k0_part2_eq_skeleton, k0_part3_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, HT, Hk⟩
  obtain rfl := harg3.eq_unread hf0; obtain rfl := harg4.eq_unread hf1; obtain rfl := harg5.eq_unread hf2; obtain rfl := harg6.eq_unread hf3
  obtain rfl := harg7.eq_unread hf4
  by_cases hc : long (word c i xt)
  · have hs : ¬ short (word c i xt) := fun h => (short_iff _).mp h hc
    sl_exec (disch := first | sl_exact hc | sl_exact hs)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; swap; · iexact H5
      ipureintro
      refine (View.read_writes_eq_canon _ _ _ (cover _ _)).trans ?_
      unfold out slots0 slots1
      rw [if_pos hc]
      delta run.sl.r run.sl.r_1 run.sl.r_2 run.sl.r_3 run.sl.r_4 run.sl.r_5 run.sl.r_6 run.sl.r_7 run.sl.r_8 run.sl.r_9 run.sl.r_10 run.sl.r_11 run.sl.r_12 run.sl.r_13 run.sl.r_14 run.sl.r_15 run.sl.r_16
      simp only [readAt_ld]
      try rfl
    iexact HT
  · have hs : short (word c i xt) := (short_iff _).mpr hc
    sl_exec (disch := first | sl_exact hc | sl_exact hs)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; swap; · iexact H5
      ipureintro
      refine (View.read_writes_eq_canon _ _ _ (cover _ _)).trans ?_
      unfold out slots0
      rw [if_neg hc]
      delta run.sl.r_18 run.sl.r_19 run.sl.r_20 run.sl.r_21 run.sl.r_22 run.sl.r_23 run.sl.r_24 run.sl.r_25
      simp only [readAt_ld]
      try rfl
    iexact HT

end Cert.ExpertsIdeal.Hand

end
-- ==== Proof.ExpertsFrame.lean ====
module

public import proofs.«01_k».proof.Proof.ExpertsRun
public import Idealize.ShloMosaic.Lib.Claim

@[expose] public section

set_option maxRecDepth 16384

noncomputable section

namespace Cert.ExpertsIdeal.Hand

open Cert.ExpertsIdeal Cert.ExpertsIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host code before the launch -/

/-- The arrays as the launch finds them. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
theorem hmain (𝒱₀ : Variants) : Pipeline.HMainP (Ix := Unit) (Name := ℕ) (U := UR sig nD τ) (Lvl := ℕ) pcfgs 0 defs₀ 𝒱₀ m (main (F := F)) (V m) :=
  Pipeline.hmainP_prefix pcfgs 0 defs₀ 𝒱₀ m main hostOps0 hostOps0_sub hostOps0_fresh main_chain

/-- The host code leaves every array it does not write as it was. -/
theorem V_kept (c : Dev nD) (b : Ref sig .tc) (h0 : b ≠ main_v0) (h1 : b ≠ main_v1) (h2 : b ≠ main_v2) (h3 : b ≠ main_v3) :
    V m c b = m ((c : Thread nD τ).loc b) :=
  StableHlo.after_of_forall_not_mem (b := Proc.devRef .tc b) _ _ (List.forall_iff_forall_mem.mp (by
    simp only [hostOps0, List.Forall, StableHlo.unary_writes, Finset.mem_singleton]
    exact ⟨StableHlo.devRef_ne_of_ne h0, StableHlo.devRef_ne_of_ne h1, StableHlo.devRef_ne_of_ne h2, StableHlo.devRef_ne_of_ne h3⟩))

/-! ## The table of counts -/

def tbl : pre0.Contents (Elt F) := fun j => V m (0 : Dev nD) (pre0.ref j)
theorem V_pre (c : Dev nD) (j : Fin 1) : V m c (pre0.ref j) = tbl m j := by
  obtain rfl : c = 0 := Subsingleton.elim _ _; rfl
abbrev adm : (pcfg0 (F := F)).Adm := ⟨tbl m, trivial⟩
abbrev cfgM : Pipeline.Cfg sig Λ₀ := cfg0 (adm m)
theorem table_eq (c : Dev nD) : (Pipeline.ΦT pre0 (tbl m) c : sProp 𝕄) = iprop(tabPt c tabM (tbl m 0)) := by
  unfold Pipeline.ΦT Pipeline.prefHeld
  rw [show (Finset.univ : Finset (Fin 1)) = {(0 : Fin 1)} from by decide, bigSep_singleton]
  rfl

/-! ## The proof data -/

/-- The block of window `w` at point `t`. -/
def iblk (c : Dev nD) (w : Fin (cfgM m).W) (t : Fin (cfgM m).N) : (((cfgM m).win w).xblock ((cfgM m).grid.coords t)).Idx → Elt F ((cfgM m).win w).elt :=
  (((cfgM m).win w).blk t).view.read (Elt F) (V m c (Pipeline.arrRef spec0 w))

/-- What point `t` leaves in the output's block. -/
def left (c : Dev nD) (t : Fin (cfgM m).N) : Vec F S1x1x320x1024 .bf16 :=
  out (grid0.coords t) (word c (grid0.coords t) (tbl m 0)) (iblk m c 0 t) (iblk m c 1 t) (iblk m c 2 t) (iblk m c 3 t) (iblk m c 4 t)

def dats (_ : Fin 1) (c : Dev nD) : Dat τ (Elt F) Unit ℕ (UR sig nD τ) ℕ (cfgM m) c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => left m c t
  Φ _ := iprop(Pipeline.ΦA spec0 c ∗ Pipeline.ΦT pre0 (tbl m) c)
  q _ := fullShare
  owed _ := 0

theorem A_eq (c : Dev nD) (w : Fin (cfgM m).W) : (dats m 0 c).A w = V m c (Pipeline.arrRef spec0 w) := by
  dsimp only [dats]

theorem after0 (c : Dev nD) (t : Fin (cfgM m).N) : (dats m 0 c).after 0 t = iblk m c 0 t := by dsimp only [dats]; try rfl
theorem after1 (c : Dev nD) (t : Fin (cfgM m).N) : (dats m 0 c).after 1 t = iblk m c 1 t := by dsimp only [dats]; try rfl
theorem after2 (c : Dev nD) (t : Fin (cfgM m).N) : (dats m 0 c).after 2 t = iblk m c 2 t := by dsimp only [dats]; try rfl
theorem after3 (c : Dev nD) (t : Fin (cfgM m).N) : (dats m 0 c).after 3 t = iblk m c 3 t := by dsimp only [dats]; try rfl
theorem after4 (c : Dev nD) (t : Fin (cfgM m).N) : (dats m 0 c).after 4 t = iblk m c 4 t := by dsimp only [dats]; try rfl
theorem after5 (c : Dev nD) (t : Fin (cfgM m).N) : (dats m 0 c).after 5 t = left m c t := by dsimp only [dats]; try rfl

/-- An input's buffer holds its block at every point. -/
theorem before0 (c : Dev nD) (t : Fin (cfgM m).N) (d) : (dats m 0 c).before 0 t d = iblk m c 0 t :=
  ((dats m 0 c).before_in_eq_fetched 0 rfl (fun _ => rfl) (fun _ _ _ => rfl) (fun t => by rw [after0]; unfold Dat.blockOf iblk; rw [A_eq]; try rfl) t d).trans
    (by unfold Dat.fetched Dat.blockOf iblk; rw [A_eq]; try rfl)
theorem before1 (c : Dev nD) (t : Fin (cfgM m).N) (d) : (dats m 0 c).before 1 t d = iblk m c 1 t :=
  ((dats m 0 c).before_in_eq_fetched 1 rfl (fun _ => rfl) (fun _ _ _ => rfl) (fun t => by rw [after1]; unfold Dat.blockOf iblk; rw [A_eq]; try rfl) t d).trans
    (by unfold Dat.fetched Dat.blockOf iblk; rw [A_eq]; try rfl)
theorem before2 (c : Dev nD) (t : Fin (cfgM m).N) (d) : (dats m 0 c).before 2 t d = iblk m c 2 t :=
  ((dats m 0 c).before_in_eq_fetched 2 rfl (fun _ => rfl) (fun _ _ _ => rfl) (fun t => by rw [after2]; unfold Dat.blockOf iblk; rw [A_eq]; try rfl) t d).trans
    (by unfold Dat.fetched Dat.blockOf iblk; rw [A_eq]; try rfl)
theorem before3 (c : Dev nD) (t : Fin (cfgM m).N) (d) : (dats m 0 c).before 3 t d = iblk m c 3 t :=
  ((dats m 0 c).before_in_eq_fetched 3 rfl (fun _ => rfl) (fun _ _ _ => rfl) (fun t => by rw [after3]; unfold Dat.blockOf iblk; rw [A_eq]; try rfl) t d).trans
    (by unfold Dat.fetched Dat.blockOf iblk; rw [A_eq]; try rfl)
theorem before4 (c : Dev nD) (t : Fin (cfgM m).N) (d) : (dats m 0 c).before 4 t d = iblk m c 4 t :=
  ((dats m 0 c).before_in_eq_fetched 4 rfl (fun _ => rfl) (fun _ _ _ => rfl) (fun t => by rw [after4]; unfold Dat.blockOf iblk; rw [A_eq]; try rfl) t d).trans
    (by unfold Dat.fetched Dat.blockOf iblk; rw [A_eq]; try rfl)

/-! ## The body at a point -/

abbrev ms0 (t : Fin (cfgM m).N) : Memref sig .tc .vmem S1x1024x3584 .bf16 := spec0_0.stage ((cfgM m).slots t 0)
abbrev hs0 (t : Fin (cfgM m).N) : (ms0 m t).IsWhole := hstage0_0 (((cfgM m).slots t 0).cast nbuf0_0)
abbrev ms1 (t : Fin (cfgM m).N) : Memref sig .tc .vmem S1x1024x3584 .bf16 := spec0_1.stage ((cfgM m).slots t 1)
abbrev hs1 (t : Fin (cfgM m).N) : (ms1 m t).IsWhole := hstage0_1 (((cfgM m).slots t 1).cast nbuf0_1)
abbrev ms2 (t : Fin (cfgM m).N) : Memref sig .tc .vmem S1x3584x1024 .bf16 := spec0_2.stage ((cfgM m).slots t 2)
abbrev hs2 (t : Fin (cfgM m).N) : (ms2 m t).IsWhole := hstage0_2 (((cfgM m).slots t 2).cast nbuf0_2)
abbrev ms3 (t : Fin (cfgM m).N) : Memref sig .tc .vmem S1024x1024 .bf16 := spec0_3.stage ((cfgM m).slots t 3)
abbrev hs3 (t : Fin (cfgM m).N) : (ms3 m t).IsWhole := hstage0_3 (((cfgM m).slots t 3).cast nbuf0_3)
abbrev ms4 (t : Fin (cfgM m).N) : Memref sig .tc .vmem S1x8x1024 .f32 := spec0_4.stage ((cfgM m).slots t 4)
abbrev hs4 (t : Fin (cfgM m).N) : (ms4 m t).IsWhole := hstage0_4 (((cfgM m).slots t 4).cast nbuf0_4)
abbrev ms5 (t : Fin (cfgM m).N) : Memref sig .tc .vmem S1x1x320x1024 .bf16 := spec0_5.stage ((cfgM m).slots t 5)
abbrev hs5 (t : Fin (cfgM m).N) : (ms5 m t).IsWhole := hstage0_5 (((cfgM m).slots t 5).cast nbuf0_5)

/-- The body as the launch calls it at point `t`. -/
abbrev bodyAt (t : Fin (cfgM m).N) : Prog (TpuEff nD τ sig (Elt F) Λ₀ .tc) PUnit :=
  cc0_moe_experts (grid0.coords t) tabM tabM_whole (ms0 m t) (hs0 m t) (ms1 m t) (hs1 m t) (ms2 m t) (hs2 m t) (ms3 m t) (hs3 m t) (ms4 m t) (hs4 m t) (ms5 m t) (hs5 m t)

def bodyPre (c : Dev nD) (t : Fin (cfgM m).N) : sProp 𝕄 :=
  iprop((dats m 0 c).Φ t.castSucc ∗ (dats m 0 c).owesAt () t.castSucc
    ∗ (∃ d, owns (c : Thread nD τ) (ms0 m t) fullShare ((dats m 0 c).before 0 t d))
    ∗ (∃ d, owns (c : Thread nD τ) (ms1 m t) fullShare ((dats m 0 c).before 1 t d))
    ∗ (∃ d, owns (c : Thread nD τ) (ms2 m t) fullShare ((dats m 0 c).before 2 t d))
    ∗ (∃ d, owns (c : Thread nD τ) (ms3 m t) fullShare ((dats m 0 c).before 3 t d))
    ∗ (∃ d, owns (c : Thread nD τ) (ms4 m t) fullShare ((dats m 0 c).before 4 t d))
    ∗ (∃ d, owns (c : Thread nD τ) (ms5 m t) fullShare ((dats m 0 c).before 5 t d)))

def bodyPost (c : Dev nD) (t : Fin (cfgM m).N) : sProp 𝕄 :=
  iprop((dats m 0 c).Φ t.succ ∗ (dats m 0 c).owesAt () t.succ
    ∗ owns (c : Thread nD τ) (ms0 m t) fullShare ((dats m 0 c).after 0 t)
    ∗ owns (c : Thread nD τ) (ms1 m t) fullShare ((dats m 0 c).after 1 t)
    ∗ owns (c : Thread nD τ) (ms2 m t) fullShare ((dats m 0 c).after 2 t)
    ∗ owns (c : Thread nD τ) (ms3 m t) fullShare ((dats m 0 c).after 3 t)
    ∗ owns (c : Thread nD τ) (ms4 m t) fullShare ((dats m 0 c).after 4 t)
    ∗ owns (c : Thread nD τ) (ms5 m t) fullShare ((dats m 0 c).after 5 t))

set_option maxHeartbeats 1600000 in
theorem sound_body (c : Dev nD) (t : Fin (cfgM m).N) :
    bodyPre m c t ⊢ wp frame (wpE (defs₀ (F := F)) Variants.none c none) Set.univ (bodyAt m t) (fun _ => bodyPost m c t) := by
  unfold bodyPre bodyPost bodyAt
  simp only [before0, before1, before2, before3, before4]
  rw [show (dats m 0 c).Φ t.succ = (dats m 0 c).Φ t.castSucc from rfl,
    show (dats m 0 c).owesAt () t.succ = (dats m 0 c).owesAt () t.castSucc from rfl,
    after0, after1, after2, after3, after4, after5]
  rw [show (dats m 0 c).Φ t.castSucc = iprop(Pipeline.ΦA spec0 c ∗ Pipeline.ΦT pre0 (tbl m) c) from rfl, table_eq]
  iintro ⟨⟨HΦ, HT⟩, Ho, ⟨%d0, H0⟩, ⟨%d1, H1⟩, ⟨%d2, H2⟩, ⟨%d3, H3⟩, ⟨%d4, H4⟩, ⟨%d5, H5⟩⟩
  iapply (run c (grid0.coords t) _ _ _ _ _ _ _ _ _ _ _ _ (iblk m c 0 t) (iblk m c 1 t) (iblk m c 2 t) (iblk m c 3 t) (iblk m c 4 t) (tbl m 0) Set.univ _)
  isplitl [H0]; · iexact H0
  isplitl [H1]; · iexact H1
  isplitl [H2]; · iexact H2
  isplitl [H3]; · iexact H3
  isplitl [H4]; · iexact H4
  isplitl [H5]; · iexists _; iexact H5
  isplitl [HT]; · iexact HT
  iintro ⟨H0, H1, H2, H3, H4, H5, HT⟩
  isplitl [HΦ HT]
  · isplitl [HΦ]
    · iexact HΦ
    iexact HT
  isplitl [Ho]; · iexact Ho
  isplitl [H0]; · iexact H0
  isplitl [H1]; · iexact H1
  isplitl [H2]; · iexact H2
  isplitl [H3]; · iexact H3
  isplitl [H4]; · iexact H4
  iexact H5

theorem defs₀_row (t : Fin (cfgM m).N) :
    defs₀ (F := F) .tc (cfgM m).body ((cfgM m).bodyArgs t ((cfgM m).slots t)) = bodyAt m t := by
  unfold defs₀; rw [Defs.onTc_tc]

theorem body_obligation (c : Dev nD) : BodyObligation (dats (F := F) m 0 c) (defs₀ (F := F)) Variants.none () Set.univ := fun t => by
  rw [bigSep_W0, bigSep_W0, defs₀_row m]
  exact triple_restated (sound_body m c t) rfl .rfl fun _ => .rfl

/-! ## The run and the frame -/

set_option backward.isDefEq.respectTransparency.types false in
/-- Every run ends, with the pipeline's arrays as the proof data say and every counter at zero. -/
theorem run_main : θ_run defs (onTc (τ := τ) (main (F := F))) (s₀ m ρ) (fun r =>
    Pipeline.FramePost (Pipeline.pin pcfgs fun _ => adm m) (dats m) 0 (V m) r ∧ r.2.sem = fun _ => 0) :=
  Pipeline.θ_run_frameP (Q' := _) pcfgs (fun _ => adm m) (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hpf := V_pre m) (hΦ := fun _ _ => rfl)

/-- The run: the output array is what the points leave, the arguments are unchanged, and no counter is left up. -/
theorem value_run : θ_run defs (onTc (τ := τ) (main (F := F))) ⟨m, fun _ => 0, ρ⟩ (fun r => (∀ c : Dev nD,
      r.2.mem ((c.tc : Thread nD τ).loc main_v4) = (dats m 0 c).arrAt 5 (cfgM m).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun r h => ⟨fun c =>
    have rest (b : Ref sig .tc) (hb : b ∈ Pipeline.restRefs sig spec0) (h0 : b ≠ main_v0) (h1 : b ≠ main_v1) (h2 : b ≠ main_v2) (h3 : b ≠ main_v3) :
        r.2.mem ((c.tc : Thread nD τ).loc b) = m ((c.tc : Thread nD τ).loc b) := ((h.1 c).2 b hb).trans (V_kept m c b h0 h1 h2 h3)
    ⟨(h.1 c).1 5,
      rest main_arg0 (by decide) (by decide) (by decide) (by decide) (by decide),
      rest main_arg1 (by decide) (by decide) (by decide) (by decide) (by decide),
      ((h.1 c).1 4).trans (((dats m 0 c).arrAt_in 4 rfl _).trans ((A_eq m c 4).trans (V_kept m c main_arg2 (by decide) (by decide) (by decide) (by decide)))),
      rest main_arg3 (by decide) (by decide) (by decide) (by decide) (by decide),
      rest main_arg4 (by decide) (by decide) (by decide) (by decide) (by decide),
      rest main_arg5 (by decide) (by decide) (by decide) (by decide) (by decide)⟩, h.2⟩) (run_main m ρ)

end Cert.ExpertsIdeal.Hand

end
-- ==== Proof.Picked.lean ====
module

public import proofs.«01_k».proof.Proof.Rows

@[expose] public section

noncomputable section

namespace Cert.Rows

open Idealize.ShloMosaic

/-- Channel `k` of the row that carries the number `s`: the sum over the rows of those whose number it is. -/
def pick (a : Fin 1024 → EReal) (s : ℕ) (x : Fin 1024 → Fin 1024 → EReal) (k : Fin 1024) : EReal :=
  ∑ t, (if a t = (((s : ℕ) : ℝ) : EReal) then 1 else 0) * x t k

/-- No row carries the number: nothing is picked. -/
theorem pick_none {a : Fin 1024 → EReal} {s : ℕ} {x : Fin 1024 → Fin 1024 → EReal} (h : ∀ t, a t ≠ (((s : ℕ) : ℝ) : EReal)) (k : Fin 1024) :
    pick a s x k = 0 := by
  unfold pick
  simp only [h, if_false, zero_mul, Finset.sum_const_zero]

/-- The gated layer of a zero row is zero. -/
theorem ffn_zero {d h : ℕ} (wg wu : Fin d → Fin h → EReal) (wd : Fin h → Fin d → EReal) (n : Fin d) : ffn (fun _ => 0) wg wu wd n = 0 := by
  unfold ffn hid
  simp only [zero_mul, Finset.sum_const_zero]

/-- A small word read as a signed number. -/
theorem ofNat_real {n : ℕ} (h : n < 2147483648) : ((((BitVec.ofNat 32 n).toInt : ℤ) : ℝ) : EReal) = (((n : ℕ) : ℝ) : EReal) := by
  have e : (BitVec.ofNat 32 n).toInt = (n : ℤ) := by
    rw [BitVec.toInt_eq_toNat_of_lt (by rw [BitVec.toNat_ofNat]; omega), BitVec.toNat_ofNat]
    omega
  rw [e]
  simp

end Cert.Rows

end
-- ==== Proof.ExpertsValue.lean ====
module

public import proofs.«01_k».proof.Proof.ExpertsFrame
public import proofs.«01_k».proof.Proof.Picked

@[expose] public section

set_option maxRecDepth 16384

noncomputable section

open Idealize.ShloMosaic Idealize.ShloMosaic.TcCoe Idealize.SL.Sem

namespace Cert.ExpertsIdeal.Hand

open Cert.ExpertsIdeal Cert.ExpertsIdeal.Gen

/-- The expert and the tile of a point. -/
abbrev ex (i : grid0.Coords) : Fin 8 := ⟨(i 0).val, (i 0).isLt⟩
abbrev ti (i : grid0.Coords) : Fin 64 := ⟨(i 1).val, (i 1).isLt⟩

theorem pay9_apply (x4 : Vec Ideal S1x8x1024 .f32) (x3 : Vec Ideal S1024x1024 .bf16) (i : grid0.Coords) (s : Fin 288) (k : Fin 1024) :
    k0_pay9 (F := Ideal) (View.ld x4 (cs i)) (View.ld x3 ct) (ix2 s k)
      = Rows.pick (fun t => x4 (ix3 0 (ex i) t)) s.val (fun t k => x3 (ix2 t k)) k := by
  pointwise [k0_pay9, k0_pay8]
  unfold Rows.pick
  refine Finset.sum_congr rfl fun t _ => congrArg₂ (· * ·) (if_congr (Eq.congr ?_ ?_) rfl rfl) rfl
  · refine congrArg x4 ?_
    funext a
    apply Fin.ext
    fin_cases a <;> simp [k0_off1_eq]
  · exact Rows.ofNat_real (by omega)

theorem pay1_apply (x4 : Vec Ideal S1x8x1024 .f32) (x3 : Vec Ideal S1024x1024 .bf16) (i : grid0.Coords) (s : Fin 32) (k : Fin 1024) :
    k0_pay1 (F := Ideal) (k0_pay8 (View.ld x4 (cs i))) (View.ld x3 ct) (ix2 s k)
      = Rows.pick (fun t => x4 (ix3 0 (ex i) t)) (288 + s.val) (fun t k => x3 (ix2 t k)) k := by
  have h288 : Ideal.ofBits .f32 0x43900000#32 = ((288 : ℝ) : EReal) := by
    simp [Ideal.ofBits, Ideal.ieee, -EReal.coe_mul]; norm_num
  pointwise [k0_pay1, k0_pay8]
  unfold Rows.pick
  refine Finset.sum_congr rfl fun t _ => congrArg₂ (· * ·) (if_congr (Eq.congr ?_ ?_) rfl rfl) rfl
  · refine congrArg x4 ?_
    funext a
    apply Fin.ext
    fin_cases a <;> simp [k0_off1_eq]
  · show ((((BitVec.ofNat 32 s.val).toInt : ℤ) : ℝ) : EReal) + Ideal.ofBits .f32 0x43900000#32 = _
    rw [Rows.ofNat_real (by omega), h288, ← EReal.coe_add]
    push_cast
    rw [add_comm]

set_option maxHeartbeats 2000000 in
theorem slots0_apply (i : grid0.Coords) (x0 x1 : Vec Ideal S1x1024x3584 .bf16) (x2 : Vec Ideal S1x3584x1024 .bf16) (x3 : Vec Ideal S1024x1024 .bf16) (x4 : Vec Ideal S1x8x1024 .f32)
    (s : Fin 288) (n : Fin 1024) :
    slots0 (F := Ideal) i x0 x1 x2 x3 x4 (ix4 0 0 s n)
      = Rows.ffn (fun k => k0_pay9 (F := Ideal) (View.ld x4 (cs i)) (View.ld x3 ct) (ix2 s k)) (fun k j => x0 (ix3 0 k j)) (fun k j => x1 (ix3 0 k j)) (fun j n => x2 (ix3 0 j n)) n := by
  unfold slots0 Rows.ffn
  rw [Rows.sum_snoc 3072 512 (by rfl), Rows.sum_snoc 2560 512 (by rfl), Rows.sum_snoc 2048 512 (by rfl), Rows.sum_snoc 1536 512 (by rfl),
    Rows.sum_snoc 1024 512 (by rfl), Rows.sum_snoc 512 512 (by rfl)]
  pointwise [k0_pay17, k0_pay16, k0_pay15, k0_pay14, k0_pay13, k0_pay12, k0_pay11, k0_pay10, Rows.hid]

set_option maxHeartbeats 2000000 in
theorem slots1_apply (i : grid0.Coords) (x0 x1 : Vec Ideal S1x1024x3584 .bf16) (x2 : Vec Ideal S1x3584x1024 .bf16) (x3 : Vec Ideal S1024x1024 .bf16) (x4 : Vec Ideal S1x8x1024 .f32)
    (s : Fin 32) (n : Fin 1024) :
    slots1 (F := Ideal) i x0 x1 x2 x3 x4 (ix4 0 0 s n)
      = Rows.ffn (fun k => k0_pay1 (F := Ideal) (k0_pay8 (View.ld x4 (cs i))) (View.ld x3 ct) (ix2 s k)) (fun k j => x0 (ix3 0 k j)) (fun k j => x1 (ix3 0 k j)) (fun j n => x2 (ix3 0 j n)) n := by
  unfold slots1 Rows.ffn
  rw [Rows.sum_snoc 3072 512 (by rfl), Rows.sum_snoc 2560 512 (by rfl), Rows.sum_snoc 2048 512 (by rfl), Rows.sum_snoc 1536 512 (by rfl),
    Rows.sum_snoc 1024 512 (by rfl), Rows.sum_snoc 512 512 (by rfl)]
  pointwise [k0_pay18, k0_pay7, k0_pay6, k0_pay5, k0_pay4, k0_pay3, k0_pay2, Rows.hid]

theorem not_high (s : Fin 288) (n : Fin 1024) : (ix4 0 0 ⟨s.val, by omega⟩ n : S1x1x320x1024.Idx) ∉ co1.set := by
  intro h
  have h2 : 288 ≤ s.val := ((Rect.mem_set_unit (s := S1x1x320x1024) (off := ![0, 0, 288, 0]) (size := S1x1x32x1024.size) (inb := inb_S1x1x320x1024_S1x1x32x1024_0_0_288_0)).mp h 2).1
  omega

theorem low_emb (s : Fin 288) (n : Fin 1024) : (ix4 0 0 ⟨s.val, by omega⟩ n : S1x1x320x1024.Idx) = co0.emb (ix4 0 0 s n) := by
  funext a
  apply Fin.ext
  fin_cases a <;> simp

theorem canon_low (p1 : FVec Ideal S1x1x32x1024 .bf16) (p0 : FVec Ideal S1x1x288x1024 .bf16) (s : Fin 288) (n : Fin 1024) :
    View.canon (Val := Elt Ideal) (e := .bf16) [⟨co1, p1⟩, ⟨co0, p0⟩] (ix4 0 0 ⟨s.val, by omega⟩ n) = p0 (ix4 0 0 s n) := by
  refine (View.canon_cons_of_not_mem (Val := Elt Ideal) (e := .bf16) ⟨co1, p1⟩ [⟨co0, p0⟩] (y := ix4 0 0 ⟨s.val, by omega⟩ n) (not_high s n)).trans ?_
  exact (congrArg _ (low_emb s n)).trans (View.canon_cons_emb (Val := Elt Ideal) (e := .bf16) co0 p0 [] (ix4 0 0 s n))

/-- The first slots of the block a point leaves. -/
theorem out_low (i : grid0.Coords) (w : BitVec 32) (x0 x1 : Vec Ideal S1x1024x3584 .bf16) (x2 : Vec Ideal S1x3584x1024 .bf16) (x3 : Vec Ideal S1024x1024 .bf16)
    (x4 : Vec Ideal S1x8x1024 .f32) (s : Fin 288) (n : Fin 1024) :
    out (F := Ideal) i w x0 x1 x2 x3 x4 (ix4 0 0 ⟨s.val, by omega⟩ n) = slots0 (F := Ideal) i x0 x1 x2 x3 x4 (ix4 0 0 s n) :=
  canon_low _ _ s n

/-- The last slots of the block a point leaves. -/
theorem out_high (i : grid0.Coords) (w : BitVec 32) (x0 x1 : Vec Ideal S1x1024x3584 .bf16) (x2 : Vec Ideal S1x3584x1024 .bf16) (x3 : Vec Ideal S1024x1024 .bf16)
    (x4 : Vec Ideal S1x8x1024 .f32) (s : Fin 32) (n : Fin 1024) :
    out (F := Ideal) i w x0 x1 x2 x3 x4 (ix4 0 0 ⟨288 + s.val, by omega⟩ n)
      = if long w then slots1 (F := Ideal) i x0 x1 x2 x3 x4 (ix4 0 0 s n) else 0 := by
  unfold out
  have he : (ix4 0 0 ⟨288 + s.val, by omega⟩ n : S1x1x320x1024.Idx) = co1.emb (ix4 0 0 s n) := by
    funext a
    apply Fin.ext
    fin_cases a <;> simp
  rw [he]
  refine (View.canon_cons_emb _ _ _ _).trans ?_
  by_cases h : long w
  · rw [if_pos h, if_pos h]
  · rw [if_neg h, if_neg h]
    pointwise [k0_pay19]

end Cert.ExpertsIdeal.Hand

end
-- ==== Proof.ExpertsFinal.lean ====
module

public import proofs.«01_k».proof.Proof.ExpertsValue
public import Idealize.ShloMosaic.Lib.Pipeline.ValueKit

@[expose] public section

set_option maxRecDepth 16384

noncomputable section

open Idealize.ShloMosaic Idealize.ShloMosaic.TcCoe Idealize.SL.Sem

namespace Cert.ExpertsIdeal.Hand

open Cert.ExpertsIdeal Cert.ExpertsIdeal.Gen

/-- Where each block sits, as a function of the point's expert and tile. -/
theorem tr0 (i : grid0.Coords) : cc0_transform_0 i = ![(i 0).val, 0, 0] := by
  have h0 : (i 0).val < 8 := (i 0).isLt
  have e : (BitVec.ofNat 32 (i 0).val).toNat = (i 0).val := by rw [BitVec.toNat_ofNat]; omega
  unfold cc0_transform_0
  simp only [e]
  rfl
theorem tr1 (i : grid0.Coords) : cc0_transform_1 i = ![(i 0).val, 0, 0] := tr0 i
theorem tr2 (i : grid0.Coords) : cc0_transform_2 i = ![(i 0).val, 0, 0] := tr0 i
theorem toNat1 (i : grid0.Coords) : (BitVec.ofNat 32 (i 1).val).toNat = (i 1).val := by
  have h0 : (i 1).val < 64 := (i 1).isLt
  rw [BitVec.toNat_ofNat]; omega
theorem tr3 (i : grid0.Coords) : cc0_transform_3 i = ![(i 1).val, 0] := by
  unfold cc0_transform_3
  simp only [toNat1]
  rfl
theorem tr4 (i : grid0.Coords) : cc0_transform_4 i = ![(i 1).val, 0, 0] := by
  unfold cc0_transform_4
  simp only [toNat1]
  rfl
theorem tr5 (i : grid0.Coords) : cc0_transform_5 i = ![(i 0).val, (i 1).val, 0, 0] := by
  have h0 : (i 0).val < 8 := (i 0).isLt
  have e : (BitVec.ofNat 32 (i 0).val).toNat = (i 0).val := by rw [BitVec.toNat_ofNat]; omega
  unfold cc0_transform_5
  simp only [e, toNat1]
  rfl

theorem covers0 : ((cfg0 (F := Ideal) ⟨fun j => match j with
    | ⟨0, _⟩ => (fun _ => 0#32 : S512.Idx → BitVec 32), trivial⟩).win 5).Covers := by decide +kernel

variable (m : (ℓ : Loc nD τ sig) → Buf (Elt Ideal) ℓ)

theorem covers : ((cfgM m).win 5).Covers := covers0

theorem word_eq (c : Dev nD) (i : grid0.Coords) :
    word c i (tbl m 0) = m ((c : Thread nD τ).loc main_arg0) (ix1 ⟨8 * (i 1).val + (i 0).val, by
      have h0 : (i 0).val < 8 := (i 0).isLt
      have h1 : (i 1).val < 64 := (i 1).isLt
      omega⟩) := by
  obtain rfl : c = 0 := Subsingleton.elim _ _
  refine Eq.trans (b := V m 0 main_arg0 ((Rect.unit (s := S512) (k0_off2 i) S1.size (k0_off2_inb i)).idx
    (Shape.Idx.first (numel1_S1.symm ▸ Nat.one_pos)))) rfl ?_
  refine (congrFun (V_kept m 0 main_arg0 (by decide) (by decide) (by decide) (by decide)) _).trans ?_
  refine congrArg _ ?_
  funext a
  refine Fin.ext ?_
  match a with
  | ⟨0, _⟩ =>
    refine (congrArg (fun f : Fin 1 → ℕ => f 0 + 1 * 0) (k0_off2_eq i)).trans ?_
    rfl

theorem host0 (c : Dev nD) (y : S8x1024x3584.Idx) :
    V m c main_v1 y = m ((c : Thread nD τ).loc main_arg3) y := by
  entry_read
  rfl

theorem host1 (c : Dev nD) (y : S8x1024x3584.Idx) :
    V m c main_v2 y = m ((c : Thread nD τ).loc main_arg4) y := by
  entry_read
  rfl

theorem host2 (c : Dev nD) (y : S8x3584x1024.Idx) :
    V m c main_v3 y = m ((c : Thread nD τ).loc main_arg5) y := by
  entry_read
  rfl

theorem host3 (c : Dev nD) (y : S65536x1024.Idx) :
    V m c main_v0 y = m ((c : Thread nD τ).loc main_arg1) y := by
  entry_read
  rfl

theorem host4 (c : Dev nD) (y : S64x8x1024.Idx) :
    V m c main_arg2 y = m ((c : Thread nD τ).loc main_arg2) y :=
  congrFun (V_kept m c main_arg2 (by decide) (by decide) (by decide) (by decide)) y

def at0 (t : Fin (cfgM m).N) (y : S1x1024x3584.Idx) : S8x1024x3584.Idx := (((cfgM m).win 0).rect t).emb y
theorem at0_val (t : Fin (cfgM m).N) (y : S1x1024x3584.Idx) (a : Fin 3) :
    (at0 m t y a).val = cc0_transform_0 (grid0.coords t) a * S1x1024x3584.size a + (y a).val :=
  Pipeline.Window.rect_emb_val ((cfgM m).win 0) t y a rfl

def at1 (t : Fin (cfgM m).N) (y : S1x1024x3584.Idx) : S8x1024x3584.Idx := (((cfgM m).win 1).rect t).emb y
theorem at1_val (t : Fin (cfgM m).N) (y : S1x1024x3584.Idx) (a : Fin 3) :
    (at1 m t y a).val = cc0_transform_1 (grid0.coords t) a * S1x1024x3584.size a + (y a).val :=
  Pipeline.Window.rect_emb_val ((cfgM m).win 1) t y a rfl

def at2 (t : Fin (cfgM m).N) (y : S1x3584x1024.Idx) : S8x3584x1024.Idx := (((cfgM m).win 2).rect t).emb y
theorem at2_val (t : Fin (cfgM m).N) (y : S1x3584x1024.Idx) (a : Fin 3) :
    (at2 m t y a).val = cc0_transform_2 (grid0.coords t) a * S1x3584x1024.size a + (y a).val :=
  Pipeline.Window.rect_emb_val ((cfgM m).win 2) t y a rfl

def at3 (t : Fin (cfgM m).N) (y : S1024x1024.Idx) : S65536x1024.Idx := (((cfgM m).win 3).rect t).emb y
theorem at3_val (t : Fin (cfgM m).N) (y : S1024x1024.Idx) (a : Fin 2) :
    (at3 m t y a).val = cc0_transform_3 (grid0.coords t) a * S1024x1024.size a + (y a).val :=
  Pipeline.Window.rect_emb_val ((cfgM m).win 3) t y a rfl

def at4 (t : Fin (cfgM m).N) (y : S1x8x1024.Idx) : S64x8x1024.Idx := (((cfgM m).win 4).rect t).emb y
theorem at4_val (t : Fin (cfgM m).N) (y : S1x8x1024.Idx) (a : Fin 3) :
    (at4 m t y a).val = cc0_transform_4 (grid0.coords t) a * S1x8x1024.size a + (y a).val :=
  Pipeline.Window.rect_emb_val ((cfgM m).win 4) t y a rfl

def at5 (t : Fin (cfgM m).N) (y : S1x1x320x1024.Idx) : S8x64x320x1024.Idx := (((cfgM m).win 5).rect t).emb y
theorem at5_val (t : Fin (cfgM m).N) (y : S1x1x320x1024.Idx) (a : Fin 4) :
    (at5 m t y a).val = cc0_transform_5 (grid0.coords t) a * S1x1x320x1024.size a + (y a).val :=
  Pipeline.Window.rect_emb_val ((cfgM m).win 5) t y a rfl

theorem at0_ix (t : Fin (cfgM m).N) (k : Fin 1024) (j : Fin 3584) : at0 m t (ix3 0 k j) = ix3 (ex (grid0.coords t)) k j := by
  funext a
  refine Fin.ext ?_
  match a with
    | ⟨0, _⟩ =>
      refine (at0_val m t _ 0).trans ?_
      rw [tr0]
      show (ex (grid0.coords t)).val * 1 + 0 = (ex (grid0.coords t)).val; omega
    | ⟨1, _⟩ =>
      refine (at0_val m t _ 1).trans ?_
      rw [tr0]
      show 0 * 1024 + k.val = k.val; omega
    | ⟨2, _⟩ =>
      refine (at0_val m t _ 2).trans ?_
      rw [tr0]
      show 0 * 3584 + j.val = j.val; omega
theorem read0 (c : Dev nD) (t : Fin (cfgM m).N) (k : Fin 1024) (j : Fin 3584) : iblk m c 0 t (ix3 0 k j)
    = m ((c : Thread nD τ).loc main_arg3) (ix3 (ex (grid0.coords t)) k j) :=
  (show iblk m c 0 t (ix3 0 k j) = V m c main_v1 (at0 m t (ix3 0 k j)) from rfl).trans ((host0 m c _).trans (congrArg _ (at0_ix m t _ _)))

theorem at1_ix (t : Fin (cfgM m).N) (k : Fin 1024) (j : Fin 3584) : at1 m t (ix3 0 k j) = ix3 (ex (grid0.coords t)) k j := by
  funext a
  refine Fin.ext ?_
  match a with
    | ⟨0, _⟩ =>
      refine (at1_val m t _ 0).trans ?_
      rw [tr1]
      show (ex (grid0.coords t)).val * 1 + 0 = (ex (grid0.coords t)).val; omega
    | ⟨1, _⟩ =>
      refine (at1_val m t _ 1).trans ?_
      rw [tr1]
      show 0 * 1024 + k.val = k.val; omega
    | ⟨2, _⟩ =>
      refine (at1_val m t _ 2).trans ?_
      rw [tr1]
      show 0 * 3584 + j.val = j.val; omega
theorem read1 (c : Dev nD) (t : Fin (cfgM m).N) (k : Fin 1024) (j : Fin 3584) : iblk m c 1 t (ix3 0 k j)
    = m ((c : Thread nD τ).loc main_arg4) (ix3 (ex (grid0.coords t)) k j) :=
  (show iblk m c 1 t (ix3 0 k j) = V m c main_v2 (at1 m t (ix3 0 k j)) from rfl).trans ((host1 m c _).trans (congrArg _ (at1_ix m t _ _)))

theorem at2_ix (t : Fin (cfgM m).N) (j : Fin 3584) (k : Fin 1024) : at2 m t (ix3 0 j k) = ix3 (ex (grid0.coords t)) j k := by
  funext a
  refine Fin.ext ?_
  match a with
    | ⟨0, _⟩ =>
      refine (at2_val m t _ 0).trans ?_
      rw [tr2]
      show (ex (grid0.coords t)).val * 1 + 0 = (ex (grid0.coords t)).val; omega
    | ⟨1, _⟩ =>
      refine (at2_val m t _ 1).trans ?_
      rw [tr2]
      show 0 * 3584 + j.val = j.val; omega
    | ⟨2, _⟩ =>
      refine (at2_val m t _ 2).trans ?_
      rw [tr2]
      show 0 * 1024 + k.val = k.val; omega
theorem read2 (c : Dev nD) (t : Fin (cfgM m).N) (j : Fin 3584) (k : Fin 1024) : iblk m c 2 t (ix3 0 j k)
    = m ((c : Thread nD τ).loc main_arg5) (ix3 (ex (grid0.coords t)) j k) :=
  (show iblk m c 2 t (ix3 0 j k) = V m c main_v3 (at2 m t (ix3 0 j k)) from rfl).trans ((host2 m c _).trans (congrArg _ (at2_ix m t _ _)))

theorem at3_ix (t : Fin (cfgM m).N) (s k : Fin 1024) : at3 m t (ix2 s k) = ix2 ⟨(ti (grid0.coords t)).val * 1024 + s.val, by omega⟩ k := by
  funext a
  refine Fin.ext ?_
  match a with
    | ⟨0, _⟩ =>
      refine (at3_val m t _ 0).trans ?_
      rw [tr3]
      rfl
    | ⟨1, _⟩ =>
      refine (at3_val m t _ 1).trans ?_
      rw [tr3]
      show 0 * 1024 + k.val = k.val; omega
theorem read3 (c : Dev nD) (t : Fin (cfgM m).N) (s k : Fin 1024) : iblk m c 3 t (ix2 s k)
    = m ((c : Thread nD τ).loc main_arg1) (ix2 ⟨(ti (grid0.coords t)).val * 1024 + s.val, by omega⟩ k) :=
  (show iblk m c 3 t (ix2 s k) = V m c main_v0 (at3 m t (ix2 s k)) from rfl).trans ((host3 m c _).trans (congrArg _ (at3_ix m t _ _)))

theorem at4_ix (t : Fin (cfgM m).N) (e : Fin 8) (k : Fin 1024) : at4 m t (ix3 0 e k) = ix3 (ti (grid0.coords t)) e k := by
  funext a
  refine Fin.ext ?_
  match a with
    | ⟨0, _⟩ =>
      refine (at4_val m t _ 0).trans ?_
      rw [tr4]
      show (ti (grid0.coords t)).val * 1 + 0 = (ti (grid0.coords t)).val; omega
    | ⟨1, _⟩ =>
      refine (at4_val m t _ 1).trans ?_
      rw [tr4]
      show 0 * 8 + e.val = e.val; omega
    | ⟨2, _⟩ =>
      refine (at4_val m t _ 2).trans ?_
      rw [tr4]
      show 0 * 1024 + k.val = k.val; omega
theorem read4 (c : Dev nD) (t : Fin (cfgM m).N) (e : Fin 8) (k : Fin 1024) : iblk m c 4 t (ix3 0 e k)
    = m ((c : Thread nD τ).loc main_arg2) (ix3 (ti (grid0.coords t)) e k) :=
  (show iblk m c 4 t (ix3 0 e k) = V m c main_arg2 (at4 m t (ix3 0 e k)) from rfl).trans ((host4 m c _).trans (congrArg _ (at4_ix m t _ _)))

theorem at5_ix (t : Fin (cfgM m).N) (s : Fin 320) (n : Fin 1024) : at5 m t (ix4 0 0 s n) = ix4 (ex (grid0.coords t)) (ti (grid0.coords t)) s n := by
  funext a
  refine Fin.ext ?_
  match a with
    | ⟨0, _⟩ =>
      refine (at5_val m t _ 0).trans ?_
      rw [tr5]
      show (ex (grid0.coords t)).val * 1 + 0 = (ex (grid0.coords t)).val; omega
    | ⟨1, _⟩ =>
      refine (at5_val m t _ 1).trans ?_
      rw [tr5]
      show (ti (grid0.coords t)).val * 1 + 0 = (ti (grid0.coords t)).val; omega
    | ⟨2, _⟩ =>
      refine (at5_val m t _ 2).trans ?_
      rw [tr5]
      show 0 * 320 + s.val = s.val; omega
    | ⟨3, _⟩ =>
      refine (at5_val m t _ 3).trans ?_
      rw [tr5]
      show 0 * 1024 + n.val = n.val; omega

/-- A word that is not over 288 is at most 288. -/
theorem le_of_not_long {w : BitVec 32} (h : ¬ long w) : w.toInt ≤ 288 := by
  by_contra hc
  apply h
  have : BitVec.slt 288#32 w = true := by
    rw [BitVec.slt_iff_toInt_lt]
    have : (288#32 : BitVec 32).toInt = 288 := by decide
    omega
  show Scalar.cmpi .ne (Scalar.extui (BitVec.ofBool (BitVec.slt 288#32 w))) 0#32 = 1#1
  rw [this]
  decide

theorem ffn_congr {d h : ℕ} {x x' : Fin d → EReal} {p p' q q' : Fin d → Fin h → EReal} {r r' : Fin h → Fin d → EReal} (n : Fin d)
    (hx : ∀ k, x k = x' k) (hp : ∀ k j, p k j = p' k j) (hq : ∀ k j, q k j = q' k j) (hr : ∀ j k, r j k = r' j k) :
    Rows.ffn x p q r n = Rows.ffn x' p' q' r' n := by
  rw [funext hx, funext fun k => funext (hp k), funext fun k => funext (hq k), funext fun j => funext (hr j)]

theorem pick_congr {a a' : Fin 1024 → EReal} {x x' : Fin 1024 → Fin 1024 → EReal} (s : ℕ) (k : Fin 1024)
    (ha : ∀ t, a t = a' t) (hx : ∀ t k, x t k = x' t k) : Rows.pick a s x k = Rows.pick a' s x' k := by
  rw [funext ha, funext fun t => funext (hx t)]

/-- The result at one index: the expert's gated layer on the row of the tile that holds the slot. -/
def G (X : S65536x1024.Idx → EReal) (S : S64x8x1024.Idx → EReal) (A B : S8x1024x3584.Idx → EReal) (D : S8x3584x1024.Idx → EReal)
    (e : Fin 8) (i : Fin 64) (s : Fin 320) (n : Fin 1024) : EReal :=
  Rows.ffn (Rows.pick (fun t => S (ix3 i e t)) s.val (fun t k => X (ix2 ⟨i.val * 1024 + t.val, by omega⟩ k))) (fun k j => A (ix3 e k j))
    (fun k j => B (ix3 e k j)) (fun j n => D (ix3 e j n)) n

/-- Every slot is below the count of its expert and tile. -/
def Counted (CNT : S512.Idx → BitVec 32) (S : S64x8x1024.Idx → EReal) : Prop :=
  ∀ (i : Fin 64) (e : Fin 8) (t : Fin 1024), S (ix3 i e t) < ((((CNT (ix1 ⟨8 * i.val + e.val, by omega⟩)).toInt : ℤ) : ℝ) : EReal)

abbrev CountedAt (c : Dev nD) : Prop := Counted (m ((c : Thread nD τ).loc main_arg0)) (m ((c : Thread nD τ).loc main_arg2))

abbrev Gm (c : Dev nD) : Fin 8 → Fin 64 → Fin 320 → Fin 1024 → EReal :=
  G (m ((c : Thread nD τ).loc main_arg1)) (m ((c : Thread nD τ).loc main_arg2)) (m ((c : Thread nD τ).loc main_arg3))
    (m ((c : Thread nD τ).loc main_arg4)) (m ((c : Thread nD τ).loc main_arg5))

theorem left_low (c : Dev nD) (t : Fin (cfgM m).N) (s : Fin 288) (n : Fin 1024) :
    left m c t (ix4 0 0 ⟨s.val, by omega⟩ n) = Gm m c (ex (grid0.coords t)) (ti (grid0.coords t)) ⟨s.val, by omega⟩ n := by
  refine (out_low (grid0.coords t) _ _ _ _ _ _ s n).trans ((slots0_apply (grid0.coords t) _ _ _ _ _ s n).trans ?_)
  exact ffn_congr n (fun k => (pay9_apply _ _ _ s k).trans (pick_congr _ k (fun r => read4 m c t _ r) (fun r k => read3 m c t r k)))
    (fun k j => read0 m c t k j) (fun k j => read1 m c t k j) (fun j k => read2 m c t j k)

theorem left_high (c : Dev nD) (hc : CountedAt m c) (t : Fin (cfgM m).N) (s : Fin 32) (n : Fin 1024) :
    left m c t (ix4 0 0 ⟨288 + s.val, by omega⟩ n) = Gm m c (ex (grid0.coords t)) (ti (grid0.coords t)) ⟨288 + s.val, by omega⟩ n := by
  refine (out_high (grid0.coords t) _ _ _ _ _ _ s n).trans ?_
  by_cases hl : long (word c (grid0.coords t) (tbl m 0))
  · rw [if_pos hl]
    refine (slots1_apply (grid0.coords t) _ _ _ _ _ s n).trans ?_
    exact ffn_congr n (fun k => (pay1_apply _ _ _ s k).trans (pick_congr _ k (fun r => read4 m c t _ r) (fun r k => read3 m c t r k)))
      (fun k j => read0 m c t k j) (fun k j => read1 m c t k j) (fun j k => read2 m c t j k)
  · rw [if_neg hl]
    have hw := le_of_not_long hl
    rw [word_eq] at hw
    refine ((ffn_congr n (fun k => Rows.pick_none (fun r => ne_of_lt ((hc (ti (grid0.coords t)) (ex (grid0.coords t)) r).trans_le ?_)) k)
      (fun _ _ => rfl) (fun _ _ => rfl) (fun _ _ => rfl)).trans (Rows.ffn_zero _ _ _ n)).symm
    refine EReal.coe_le_coe_iff.mpr ?_
    have h1 : ((((m ((c : Thread nD τ).loc main_arg0) : S512.Idx → BitVec 32) (ix1 ⟨8 * (ti (grid0.coords t)).val + (ex (grid0.coords t)).val, by omega⟩)).toInt : ℤ) : ℝ) ≤ ((288 : ℤ) : ℝ) :=
      Int.cast_le.mpr hw
    refine h1.trans ?_
    push_cast
    linarith [Nat.cast_nonneg (α := ℝ) s.val]

theorem left_apply (c : Dev nD) (hc : CountedAt m c) (t : Fin (cfgM m).N) (s : Fin 320) (n : Fin 1024) :
    left m c t (ix4 0 0 s n) = Gm m c (ex (grid0.coords t)) (ti (grid0.coords t)) s n := by
  by_cases h : s.val < 288
  · exact left_low m c t ⟨s.val, h⟩ n
  · have hs : (⟨288 + (⟨s.val - 288, by omega⟩ : Fin 32).val, by show 288 + (s.val - 288) < 320; omega⟩ : Fin 320) = s :=
      Fin.ext (by show 288 + (s.val - 288) = s.val; omega)
    have h2 := left_high m c hc t ⟨s.val - 288, by omega⟩ n
    rw [hs] at h2
    exact h2

theorem left_at (c : Dev nD) (hc : CountedAt m c) (t : Fin (cfgM m).N) (y : S1x1x320x1024.Idx) :
    left m c t y = (fun i : S8x64x320x1024.Idx => Gm m c (i 0) (i 1) (i 2) (i 3)) (at5 m t y) := by
  obtain ⟨s, n, rfl⟩ : ∃ (s : Fin 320) (n : Fin 1024), y = ix4 0 0 s n := ⟨y 2, y 3, by
    funext a
    match a with
    | ⟨0, _⟩ => exact Subsingleton.elim (α := Fin 1) _ _
    | ⟨1, _⟩ => exact Subsingleton.elim (α := Fin 1) _ _
    | ⟨2, _⟩ => rfl
    | ⟨3, _⟩ => rfl⟩
  rw [at5_ix m t s n]
  exact left_apply m c hc t s n

/-- The array the run leaves. -/
def W (c : Dev nD) : S8x64x320x1024.Idx → EReal := fun i => Gm m c (i 0) (i 1) (i 2) (i 3)

theorem final (c : Dev nD) (hc : CountedAt m c) : (dats m 0 c).arrAt 5 (cfgM m).N = W m c := by
  refine (dats m 0 c).arrAt_eq_of_covers 5 (W m c) (covers m) fun t _ y => ?_
  refine Eq.trans (b := left m c t (y : S1x1x320x1024.Idx)) ?_ (left_at m c hc t y)
  refine (cast_eq _ _).trans ?_
  refine (congrFun (after5 m c t) _).trans ?_
  refine congrArg (left m c t) ?_
  funext a
  exact Fin.ext rfl

end Cert.ExpertsIdeal.Hand

end
-- ==== Proof.ExpertsRef.lean ====
module

public import proofs.«01_k».proof.Proof.Gen.ExpertsReferenceIdeal.Run
public import proofs.«01_k».proof.Proof.Gen.ExpertsReferenceIdeal.Read
public import proofs.«01_k».proof.Proof.Picked

@[expose] public section

set_option maxRecDepth 16384

noncomputable section

open Idealize.ShloMosaic Idealize.ShloMosaic.TcCoe Idealize.SL.Sem

namespace Cert.ExpertsReferenceIdeal.Value

open Cert.ExpertsReferenceIdeal Cert.ExpertsReferenceIdeal.Gen

/-- The row in slot `s` of expert `e` and tile `i`. -/
theorem picked (X : FVec Ideal S65536x1024 .f32) (S : FVec Ideal S64x8x1024 .f32) (e : Fin 8) (i : Fin 64) (s : Fin 320) (k : Fin 1024) :
    Read.val_main_v10 (F := Ideal) X S (ix4 e i s k)
      = Rows.pick (fun t => S (ix3 i e t)) s.val (fun t k => X (ix2 ⟨i.val * 1024 + t.val, by omega⟩ k)) k := by
  unfold Rows.pick
  simp only [← Rows.ofNat_real (show s.val < 2147483648 by omega)]
  pointwise [Read.val_main_v0, Read.val_main_v1, Read.val_main_v2, Read.val_main_v3, Read.val_main_v4, Read.val_main_v5, Read.val_main_v6, Read.val_main_v7, Read.val_main_v8, Read.val_main_v9, Read.val_main_v10]
  refine Finset.sum_congr rfl fun t _ => ?_
  rw [mul_comm]
  congr 1
  show ((((BitVec.ofBool (decide (S (ix3 i e t) = ((((BitVec.ofNat 32 s.val).toInt : ℤ) : ℝ) : EReal)))).toNat : ℕ) : ℝ) : EReal) = _
  by_cases h : S (ix3 i e t) = ((((BitVec.ofNat 32 s.val).toInt : ℤ) : ℝ) : EReal)
  · simp [h]
  · simp [h]

/-- Expert 0's slots. -/
theorem layer0 (X : FVec Ideal S65536x1024 .f32) (S : FVec Ideal S64x8x1024 .f32) (A B : FVec Ideal S8x1024x3584 .f32)
    (D : FVec Ideal S8x3584x1024 .f32) (i : Fin 64) (s : Fin 320) (n : Fin 1024) :
    Read.val_main_v23 (F := Ideal) X S A B D (ix3 i s n) = Rows.ffn (fun k => Read.val_main_v10 (F := Ideal) X S (ix4 0 i s k)) (fun k j => A (ix3 0 k j))
      (fun k j => B (ix3 0 k j)) (fun j n => D (ix3 0 j n)) n := by
  pointwise [Read.val_main_v11, Read.val_main_v12, Read.val_main_v13, Read.val_main_v14, Read.val_main_v15, Read.val_main_v16, Read.val_main_v17, Read.val_main_v18, Read.val_main_v19, Read.val_main_v20, Read.val_main_v21, Read.val_main_v22, Read.val_main_v23, Read.val_main_call0_v0, Read.val_main_call0_v1, Read.val_main_call0_cst, Read.val_main_call0_v2, Read.val_main_call0_v3, Read.val_main_call0_cst_0, Read.val_main_call0_v4, Read.val_main_call0_v5]
  rfl

/-- Expert 1's slots. -/
theorem layer1 (X : FVec Ideal S65536x1024 .f32) (S : FVec Ideal S64x8x1024 .f32) (A B : FVec Ideal S8x1024x3584 .f32)
    (D : FVec Ideal S8x3584x1024 .f32) (i : Fin 64) (s : Fin 320) (n : Fin 1024) :
    Read.val_main_v36 (F := Ideal) X S A B D (ix3 i s n) = Rows.ffn (fun k => Read.val_main_v10 (F := Ideal) X S (ix4 1 i s k)) (fun k j => A (ix3 1 k j))
      (fun k j => B (ix3 1 k j)) (fun j n => D (ix3 1 j n)) n := by
  pointwise [Read.val_main_v24, Read.val_main_v25, Read.val_main_v26, Read.val_main_v27, Read.val_main_v28, Read.val_main_v29, Read.val_main_v30, Read.val_main_v31, Read.val_main_v32, Read.val_main_v33, Read.val_main_v34, Read.val_main_v35, Read.val_main_v36, Read.val_main_call1_v0, Read.val_main_call1_v1, Read.val_main_call1_cst, Read.val_main_call1_v2, Read.val_main_call1_v3, Read.val_main_call1_cst_0, Read.val_main_call1_v4, Read.val_main_call1_v5]
  rfl

/-- Expert 2's slots. -/
theorem layer2 (X : FVec Ideal S65536x1024 .f32) (S : FVec Ideal S64x8x1024 .f32) (A B : FVec Ideal S8x1024x3584 .f32)
    (D : FVec Ideal S8x3584x1024 .f32) (i : Fin 64) (s : Fin 320) (n : Fin 1024) :
    Read.val_main_v49 (F := Ideal) X S A B D (ix3 i s n) = Rows.ffn (fun k => Read.val_main_v10 (F := Ideal) X S (ix4 2 i s k)) (fun k j => A (ix3 2 k j))
      (fun k j => B (ix3 2 k j)) (fun j n => D (ix3 2 j n)) n := by
  pointwise [Read.val_main_v37, Read.val_main_v38, Read.val_main_v39, Read.val_main_v40, Read.val_main_v41, Read.val_main_v42, Read.val_main_v43, Read.val_main_v44, Read.val_main_v45, Read.val_main_v46, Read.val_main_v47, Read.val_main_v48, Read.val_main_v49, Read.val_main_call2_v0, Read.val_main_call2_v1, Read.val_main_call2_cst, Read.val_main_call2_v2, Read.val_main_call2_v3, Read.val_main_call2_cst_0, Read.val_main_call2_v4, Read.val_main_call2_v5]
  rfl

/-- Expert 3's slots. -/
theorem layer3 (X : FVec Ideal S65536x1024 .f32) (S : FVec Ideal S64x8x1024 .f32) (A B : FVec Ideal S8x1024x3584 .f32)
    (D : FVec Ideal S8x3584x1024 .f32) (i : Fin 64) (s : Fin 320) (n : Fin 1024) :
    Read.val_main_v62 (F := Ideal) X S A B D (ix3 i s n) = Rows.ffn (fun k => Read.val_main_v10 (F := Ideal) X S (ix4 3 i s k)) (fun k j => A (ix3 3 k j))
      (fun k j => B (ix3 3 k j)) (fun j n => D (ix3 3 j n)) n := by
  pointwise [Read.val_main_v50, Read.val_main_v51, Read.val_main_v52, Read.val_main_v53, Read.val_main_v54, Read.val_main_v55, Read.val_main_v56, Read.val_main_v57, Read.val_main_v58, Read.val_main_v59, Read.val_main_v60, Read.val_main_v61, Read.val_main_v62, Read.val_main_call3_v0, Read.val_main_call3_v1, Read.val_main_call3_cst, Read.val_main_call3_v2, Read.val_main_call3_v3, Read.val_main_call3_cst_0, Read.val_main_call3_v4, Read.val_main_call3_v5]
  rfl

/-- Expert 4's slots. -/
theorem layer4 (X : FVec Ideal S65536x1024 .f32) (S : FVec Ideal S64x8x1024 .f32) (A B : FVec Ideal S8x1024x3584 .f32)
    (D : FVec Ideal S8x3584x1024 .f32) (i : Fin 64) (s : Fin 320) (n : Fin 1024) :
    Read.val_main_v75 (F := Ideal) X S A B D (ix3 i s n) = Rows.ffn (fun k => Read.val_main_v10 (F := Ideal) X S (ix4 4 i s k)) (fun k j => A (ix3 4 k j))
      (fun k j => B (ix3 4 k j)) (fun j n => D (ix3 4 j n)) n := by
  pointwise [Read.val_main_v63, Read.val_main_v64, Read.val_main_v65, Read.val_main_v66, Read.val_main_v67, Read.val_main_v68, Read.val_main_v69, Read.val_main_v70, Read.val_main_v71, Read.val_main_v72, Read.val_main_v73, Read.val_main_v74, Read.val_main_v75, Read.val_main_call4_v0, Read.val_main_call4_v1, Read.val_main_call4_cst, Read.val_main_call4_v2, Read.val_main_call4_v3, Read.val_main_call4_cst_0, Read.val_main_call4_v4, Read.val_main_call4_v5]
  rfl

/-- Expert 5's slots. -/
theorem layer5 (X : FVec Ideal S65536x1024 .f32) (S : FVec Ideal S64x8x1024 .f32) (A B : FVec Ideal S8x1024x3584 .f32)
    (D : FVec Ideal S8x3584x1024 .f32) (i : Fin 64) (s : Fin 320) (n : Fin 1024) :
    Read.val_main_v88 (F := Ideal) X S A B D (ix3 i s n) = Rows.ffn (fun k => Read.val_main_v10 (F := Ideal) X S (ix4 5 i s k)) (fun k j => A (ix3 5 k j))
      (fun k j => B (ix3 5 k j)) (fun j n => D (ix3 5 j n)) n := by
  pointwise [Read.val_main_v76, Read.val_main_v77, Read.val_main_v78, Read.val_main_v79, Read.val_main_v80, Read.val_main_v81, Read.val_main_v82, Read.val_main_v83, Read.val_main_v84, Read.val_main_v85, Read.val_main_v86, Read.val_main_v87, Read.val_main_v88, Read.val_main_call5_v0, Read.val_main_call5_v1, Read.val_main_call5_cst, Read.val_main_call5_v2, Read.val_main_call5_v3, Read.val_main_call5_cst_0, Read.val_main_call5_v4, Read.val_main_call5_v5]
  rfl

/-- Expert 6's slots. -/
theorem layer6 (X : FVec Ideal S65536x1024 .f32) (S : FVec Ideal S64x8x1024 .f32) (A B : FVec Ideal S8x1024x3584 .f32)
    (D : FVec Ideal S8x3584x1024 .f32) (i : Fin 64) (s : Fin 320) (n : Fin 1024) :
    Read.val_main_v101 (F := Ideal) X S A B D (ix3 i s n) = Rows.ffn (fun k => Read.val_main_v10 (F := Ideal) X S (ix4 6 i s k)) (fun k j => A (ix3 6 k j))
      (fun k j => B (ix3 6 k j)) (fun j n => D (ix3 6 j n)) n := by
  pointwise [Read.val_main_v89, Read.val_main_v90, Read.val_main_v91, Read.val_main_v92, Read.val_main_v93, Read.val_main_v94, Read.val_main_v95, Read.val_main_v96, Read.val_main_v97, Read.val_main_v98, Read.val_main_v99, Read.val_main_v100, Read.val_main_v101, Read.val_main_call6_v0, Read.val_main_call6_v1, Read.val_main_call6_cst, Read.val_main_call6_v2, Read.val_main_call6_v3, Read.val_main_call6_cst_0, Read.val_main_call6_v4, Read.val_main_call6_v5]
  rfl

/-- Expert 7's slots. -/
theorem layer7 (X : FVec Ideal S65536x1024 .f32) (S : FVec Ideal S64x8x1024 .f32) (A B : FVec Ideal S8x1024x3584 .f32)
    (D : FVec Ideal S8x3584x1024 .f32) (i : Fin 64) (s : Fin 320) (n : Fin 1024) :
    Read.val_main_v114 (F := Ideal) X S A B D (ix3 i s n) = Rows.ffn (fun k => Read.val_main_v10 (F := Ideal) X S (ix4 7 i s k)) (fun k j => A (ix3 7 k j))
      (fun k j => B (ix3 7 k j)) (fun j n => D (ix3 7 j n)) n := by
  pointwise [Read.val_main_v102, Read.val_main_v103, Read.val_main_v104, Read.val_main_v105, Read.val_main_v106, Read.val_main_v107, Read.val_main_v108, Read.val_main_v109, Read.val_main_v110, Read.val_main_v111, Read.val_main_v112, Read.val_main_v113, Read.val_main_v114, Read.val_main_call7_v0, Read.val_main_call7_v1, Read.val_main_call7_cst, Read.val_main_call7_v2, Read.val_main_call7_v3, Read.val_main_call7_cst_0, Read.val_main_call7_v4, Read.val_main_call7_v5]
  rfl

/-- The reference's result read at one index. -/
theorem out_apply (X : FVec Ideal S65536x1024 .f32) (S : FVec Ideal S64x8x1024 .f32) (A B : FVec Ideal S8x1024x3584 .f32)
    (D : FVec Ideal S8x3584x1024 .f32) (e : Fin 8) (i : Fin 64) (s : Fin 320) (n : Fin 1024) :
    Read.val_main_v124 (F := Ideal) X S A B D (ix4 e i s n)
      = Rows.ffn (Rows.pick (fun t => S (ix3 i e t)) s.val (fun t k => X (ix2 ⟨i.val * 1024 + t.val, by omega⟩ k))) (fun k j => A (ix3 e k j))
          (fun k j => B (ix3 e k j)) (fun j n => D (ix3 e j n)) n := by
  rw [← show (fun k => Read.val_main_v10 (F := Ideal) X S (ix4 e i s k)) = Rows.pick (fun t => S (ix3 i e t)) s.val (fun t k => X (ix2 ⟨i.val * 1024 + t.val, by omega⟩ k))
    from funext fun k => picked X S e i s k]
  fin_cases e
  · refine Eq.trans ?_ (layer0 X S A B D i s n)
    pointwise [Read.val_main_v124, Read.val_main_v123, Read.val_main_v115, Read.val_main_v116, Read.val_main_v117, Read.val_main_v118, Read.val_main_v119, Read.val_main_v120, Read.val_main_v121, Read.val_main_v122]
  · refine Eq.trans ?_ (layer1 X S A B D i s n)
    pointwise [Read.val_main_v124, Read.val_main_v123, Read.val_main_v115, Read.val_main_v116, Read.val_main_v117, Read.val_main_v118, Read.val_main_v119, Read.val_main_v120, Read.val_main_v121, Read.val_main_v122]
  · refine Eq.trans ?_ (layer2 X S A B D i s n)
    pointwise [Read.val_main_v124, Read.val_main_v123, Read.val_main_v115, Read.val_main_v116, Read.val_main_v117, Read.val_main_v118, Read.val_main_v119, Read.val_main_v120, Read.val_main_v121, Read.val_main_v122]
  · refine Eq.trans ?_ (layer3 X S A B D i s n)
    pointwise [Read.val_main_v124, Read.val_main_v123, Read.val_main_v115, Read.val_main_v116, Read.val_main_v117, Read.val_main_v118, Read.val_main_v119, Read.val_main_v120, Read.val_main_v121, Read.val_main_v122]
  · refine Eq.trans ?_ (layer4 X S A B D i s n)
    pointwise [Read.val_main_v124, Read.val_main_v123, Read.val_main_v115, Read.val_main_v116, Read.val_main_v117, Read.val_main_v118, Read.val_main_v119, Read.val_main_v120, Read.val_main_v121, Read.val_main_v122]
  · refine Eq.trans ?_ (layer5 X S A B D i s n)
    pointwise [Read.val_main_v124, Read.val_main_v123, Read.val_main_v115, Read.val_main_v116, Read.val_main_v117, Read.val_main_v118, Read.val_main_v119, Read.val_main_v120, Read.val_main_v121, Read.val_main_v122]
  · refine Eq.trans ?_ (layer6 X S A B D i s n)
    pointwise [Read.val_main_v124, Read.val_main_v123, Read.val_main_v115, Read.val_main_v116, Read.val_main_v117, Read.val_main_v118, Read.val_main_v119, Read.val_main_v120, Read.val_main_v121, Read.val_main_v122]
  · refine Eq.trans ?_ (layer7 X S A B D i s n)
    pointwise [Read.val_main_v124, Read.val_main_v123, Read.val_main_v115, Read.val_main_v116, Read.val_main_v117, Read.val_main_v118, Read.val_main_v119, Read.val_main_v120, Read.val_main_v121, Read.val_main_v122]

end Cert.ExpertsReferenceIdeal.Value

end
-- ==== Proof.ExpertsClaim.lean ====
module

public import proofs.«01_k».proof.Defs
public import proofs.«01_k».proof.Proof.Gen.Experts
public import proofs.«01_k».proof.Proof.Gen.ExpertsReferenceIdeal.Run
public import proofs.«01_k».proof.Proof.ExpertsFinal
public import proofs.«01_k».proof.Proof.ExpertsRef

@[expose] public section

set_option maxRecDepth 16384

noncomputable section

open Idealize.ShloMosaic Idealize.ShloMosaic.TcCoe Idealize.SL.Sem

namespace Cert.ExpertsClaim

instance : Cert.Experts.Facts := Cert.Experts.Gen.facts
instance : Cert.ExpertsIdeal.Facts := Cert.ExpertsIdeal.Gen.facts
instance : Cert.ExpertsReferenceIdeal.Facts := Cert.ExpertsReferenceIdeal.Gen.facts

/-- The shape relations the precondition's function states. -/
theorem preFacts : Cert.Pre_slots_counted.Facts where
  shapeCasts_S512_S64x8x1 := by decide
  bcast_S64x8x1_S64x8x1024_0_1_2 := by decide

/-- What the precondition says of the slots: each is below the count of its expert and tile. -/
theorem counted_of_pre [Cert.Pre_slots_counted.Facts] (N : IVec Cert.Pre_slots_counted.S512 32)
    (X : FVec Ideal Cert.Pre_slots_counted.S65536x1024 .f32) (S : FVec Ideal Cert.Pre_slots_counted.S64x8x1024 .f32)
    (A B : FVec Ideal Cert.Pre_slots_counted.S8x1024x3584 .f32) (D : FVec Ideal Cert.Pre_slots_counted.S8x3584x1024 .f32)
    (h : Cert.Pre_slots_counted.fn (F := Ideal) N X S A B D = fun _ => 1#1) : Cert.ExpertsIdeal.Hand.Counted N S := by
  intro i e t
  have h1 := congrFun h (ix3 i e t)
  pointwise [Cert.Pre_slots_counted.fn] at h1
  have hn : (ix1 ⟨8 * i.val + e.val, by omega⟩ : Cert.Pre_slots_counted.S512.Idx) = ix1 ⟨i.val * 8 + e.val, by omega⟩ :=
    congrArg ix1 (Fin.ext (by show 8 * i.val + e.val = i.val * 8 + e.val; omega))
  by_contra hc
  rw [hn] at hc
  rw [show decide (S (ix3 i e t) < FloatOps.sitofp FTy.f32 (N (ix1 ⟨i.val * 8 + e.val, by omega⟩))) = false from decide_eq_false hc] at h1
  exact absurd h1 (by decide)

/-- The frame, of any table of bodies and any host program equal to the idealized module's. -/
theorem frame_of (D : Defs Cert.ExpertsIdeal.nD Cert.ExpertsIdeal.τ Cert.ExpertsIdeal.sig (Elt Bits)
      (Pipeline.Sig Cert.ExpertsIdeal.Λ₀ (Fin 1) fun p => (Cert.ExpertsIdeal.pcfgs (F := Bits) p).Adm))
    (hD : D = Cert.ExpertsIdeal.defs (F := Bits))
    (M : Dev Cert.ExpertsIdeal.nD → Prog (TpuEff Cert.ExpertsIdeal.nD Cert.ExpertsIdeal.τ Cert.ExpertsIdeal.sig (Elt Bits)
      (Pipeline.Sig Cert.ExpertsIdeal.Λ₀ (Fin 1) fun p => (Cert.ExpertsIdeal.pcfgs (F := Bits) p).Adm) .tc) PUnit)
    (hM : M = Cert.ExpertsIdeal.main (F := Bits))
    (m : (ℓ : Loc Cert.ExpertsIdeal.nD Cert.ExpertsIdeal.τ Cert.ExpertsIdeal.sig) → Buf (Elt Bits) ℓ) (g : Dev Cert.ExpertsIdeal.nD → PrngReg) :
    θ_run D (onTc (τ := Cert.ExpertsIdeal.τ) M) ⟨m, fun _ => 0, g⟩ (fun r => (∀ c : Dev Cert.ExpertsIdeal.nD,
      r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
      ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
      ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
      ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
      ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4)
      ∧ r.2.mem ((c.tc : Thread Cert.ExpertsIdeal.nD Cert.ExpertsIdeal.τ).loc Cert.ExpertsIdeal.main_arg5) = m ((c.tc : Thread Cert.ExpertsIdeal.nD Cert.ExpertsIdeal.τ).loc Cert.ExpertsIdeal.main_arg5))
      ∧ r.2.sem = fun _ => 0) := by
  subst hD
  subst hM
  exact (θ_run (Cert.ExpertsIdeal.defs (F := Bits)) _ _).mono (fun r h => ⟨fun c => (h.1 c).2, h.2⟩) (Cert.ExpertsIdeal.Hand.value_run (F := Bits) m g)

theorem main_eq : Cert.Experts.main (F := Bits) = Cert.ExpertsIdeal.main (F := Bits) := rfl

theorem defs₀_eq : Cert.Experts.defs₀ (F := Bits) = Cert.ExpertsIdeal.defs₀ (F := Bits) := by
  unfold Cert.Experts.defs₀ Cert.ExpertsIdeal.defs₀
  refine congrArg _ ?_
  funext l x
  match l, x with
  | 0, x => rfl

theorem defs_eq : Cert.Experts.defs (F := Bits) = Cert.ExpertsIdeal.defs (F := Bits) :=
  congrArg (Pipeline.defs Cert.ExpertsIdeal.pcfgs) defs₀_eq

/-- The frame of the printed kernel. -/
theorem frame : Cert.quiescent_Experts := fun m ρ _ =>
  frame_of (Cert.Experts.defs (F := Bits)) defs_eq (Cert.Experts.main (F := Bits)) main_eq m ρ

/-- The frame of the idealized kernel. -/
theorem frameI : Cert.quiescent_ExpertsIdeal := fun m ρ _ =>
  (θ_run (Cert.ExpertsIdeal.defs (F := Ideal)) _ _).mono (fun r h => ⟨fun c => (h.1 c).2, h.2⟩) (Cert.ExpertsIdeal.Hand.value_run (F := Ideal) m ρ)

/-- The idealized expert kernel and its idealized plain reference leave the same array. -/
theorem algebraic [Cert.Pre_slots_counted.Facts] : Cert.algebraic_ExpertsIdeal_ExpertsReferenceIdeal_pre_slots_counted := by
  intro m g m' g' hpre hag
  have hq := fun c : Dev Cert.ExpertsIdeal.nD => counted_of_pre _ _ _ _ _ _ (hpre c)
  refine ⟨_, (θ_run _ _ _).mono (fun r h c => ⟨((h.1 c).1).trans (Cert.ExpertsIdeal.Hand.final m c (hq c)), (h.1 c).2⟩) (Cert.ExpertsIdeal.Hand.value_run m g),
    (θ_run _ _ _).mono (fun r h c => ⟨(h c).1.trans ?_, (h c).2⟩) (Cert.ExpertsReferenceIdeal.Value.run m' g')⟩
  refine (Cert.ExpertsReferenceIdeal.Read.val_main_v124_eq _).trans ?_
  funext i
  idx_vars i
  refine (Cert.ExpertsReferenceIdeal.Value.out_apply _ _ _ _ _ i0 i1 i2 i3).trans ?_
  show Cert.ExpertsIdeal.Hand.G (m' ((c.tc : Thread Cert.ExpertsReferenceIdeal.nD Cert.ExpertsReferenceIdeal.τ).loc Cert.ExpertsReferenceIdeal.main_arg1))
    (m' (c.tc.loc Cert.ExpertsReferenceIdeal.main_arg2)) (m' (c.tc.loc Cert.ExpertsReferenceIdeal.main_arg3))
    (m' (c.tc.loc Cert.ExpertsReferenceIdeal.main_arg4)) (m' (c.tc.loc Cert.ExpertsReferenceIdeal.main_arg5)) i0 i1 i2 i3 = _
  rw [(hag c).2.1, (hag c).2.2.1, (hag c).2.2.2.1, (hag c).2.2.2.2.1, (hag c).2.2.2.2.2]
  rfl

end Cert.ExpertsClaim

end
-- ==== Proof.FfnValue.lean ====
module

public import proofs.«01_k».proof.Proof.Gen.FfnIdeal.Frame
public import proofs.«01_k».proof.Proof.Rows
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.FfnIdeal.Value

open Cert.FfnIdeal Cert.FfnIdeal.Gen

/-- Chunk `c` of the hidden axis: what 256 hidden units starting at `lo` add to output channel `n`. -/
abbrev part (x : FVec Ideal S512x1024 .bf16) (a b : FVec Ideal S1024x2816 .bf16) (d : FVec Ideal S2816x1024 .bf16)
    (r : Fin 512) (n : Fin 1024) (lo : ℕ) (h : lo + 256 ≤ 2816) : EReal :=
  ∑ j : Fin 256, Rows.hid (fun k => x (ix2 r k)) (fun k j => a (ix2 k j)) (fun k j => b (ix2 k j)) ⟨lo + j.val, by omega⟩
    * d (ix2 ⟨lo + j.val, by omega⟩ n)

theorem pay3_apply (x : FVec Ideal S512x1024 .bf16) (a b : FVec Ideal S1024x2816 .bf16) (d : FVec Ideal S2816x1024 .bf16)
    (r : Fin 512) (n : Fin 1024) :
    k0_pay3 (F := Ideal) (View.ld x r0_0) (View.ld a r0_1) (View.ld b r0_1) (View.ld d r0_2) (View.ld a r0_3) (View.ld b r0_3)
      (View.ld d r0_4) (ix2 r n) = part x a b d r n 0 (by omega) + part x a b d r n 256 (by omega) := by
  pointwise [k0_pay3, k0_pay2, Rows.hid, part]

theorem pay12_apply (v1 : FVec Ideal S512x1024 .bf16) (acc x1 : FVec Ideal S512x1024 .f32) (a b : FVec Ideal S1024x256 .bf16)
    (d : FVec Ideal S256x1024 .bf16) (g bb : FVec Ideal S1x1024 .f32) (r : Fin 512) (n : Fin 1024) :
    k0_pay12 (F := Ideal) v1 acc a b d x1 g bb (ix2 r n)
      = Rows.ln (Rows.res (fun k => x1 (ix2 r k)) (fun n => acc (ix2 r n)
          + ∑ j : Fin 256, Rows.hid (fun k => v1 (ix2 r k)) (fun k j => a (ix2 k j)) (fun k j => b (ix2 k j)) j * d (ix2 j n)))
        (fun k => g (ix2 0 k)) (fun k => bb (ix2 0 k)) n := by
  pointwise [k0_pay12]
  rfl

/-- The accumulator before the last chunk. -/
theorem acc_apply (x : FVec Ideal S512x1024 .bf16) (x1 : FVec Ideal S512x1024 .f32) (a b : FVec Ideal S1024x2816 .bf16) (d : FVec Ideal S2816x1024 .bf16)
    (g bb : FVec Ideal S1x1024 .f32) (r : Fin 512) (n : Fin 1024) :
    k0_pay14 (F := Ideal) x x1 a b d g bb (ix2 r n)
      = Rows.ln (Rows.res (fun k => x1 (ix2 r k)) (Rows.ffn (fun k => x (ix2 r k)) (fun k j => a (ix2 k j)) (fun k j => b (ix2 k j)) (fun j n => d (ix2 j n))))
        (fun k => g (ix2 0 k)) (fun k => bb (ix2 0 k)) n := by
  unfold k0_pay14
  rw [pay12_apply]
  refine Rows.ln_congr (fun k => ?_) (fun k => by pointwise) (fun k => by pointwise) n
  unfold Rows.res
  unfold Rows.ffn
  rw [Rows.sum_snoc 2560 256 (by rfl), Rows.sum_snoc 2304 256 (by rfl), Rows.sum_snoc 2048 256 (by rfl), Rows.sum_snoc 1792 256 (by rfl),
    Rows.sum_snoc 1536 256 (by rfl), Rows.sum_snoc 1280 256 (by rfl), Rows.sum_snoc 1024 256 (by rfl), Rows.sum_snoc 768 256 (by rfl),
    Rows.sum_snoc 512 256 (by rfl), Rows.sum_snoc 256 256 (by rfl)]
  pointwise [k0_pay13, k0_pay11, k0_pay10, k0_pay9, k0_pay8, k0_pay7, k0_pay6, k0_pay5, k0_pay4, pay3_apply, part, k0_pay2, Rows.hid]

theorem idx : ∀ t : Fin cfg0.N, win0_0.index t = ![t.val, 0] ∧ win0_1.index t = ![t.val, 0] ∧ win0_2.index t = ![0, 0]
    ∧ win0_3.index t = ![0, 0] ∧ win0_4.index t = ![0, 0] ∧ win0_5.index t = ![0, 0] ∧ win0_6.index t = ![0, 0]
    ∧ win0_7.index t = ![t.val, 0] ∧ win0_8.index t = ![t.val, 0] :=
  (by decide +kernel : ∀ t : Fin grid0.N, _)

/-- The result as one function of the argument arrays. -/
def G (X : FVec Ideal S65536x1024 .f32) (A B : FVec Ideal S1024x2816 .f32) (D : FVec Ideal S2816x1024 .f32)
    (g b : FVec Ideal S1024 .f32) : S65536x1024.Idx → EReal := fun i =>
  Rows.ln (Rows.res (fun k => X (ix2 (i 0) k)) (Rows.ffn (fun k => X (ix2 (i 0) k)) (fun k j => A (ix2 k j)) (fun k j => B (ix2 k j))
    (fun j n => D (ix2 j n)))) (fun k => g (ix1 k)) (fun k => b (ix1 k)) (i 1)

variable (m : (ℓ : Loc nD τ sig) → Buf (Elt Ideal) ℓ)

theorem point (c : Dev nD) (t : Fin cfg0.N) (y : S512x1024.Idx) (i : S65536x1024.Idx) (h0 : (i 0).val = t.val * 512 + (y 0).val) (h1 : (i 1).val = (y 1).val) :
    k0_pay14 (F := Ideal) (iblk m c 0 t) (iblk m c 1 t) (iblk m c 2 t) (iblk m c 3 t) (iblk m c 4 t) (iblk m c 5 t) (iblk m c 6 t) y
      = G (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) i := by
  idx_vars y
  idx_vars i
  rw [acc_apply]
  obtain ⟨e0, e1, e2, e3, e4, e5, e6, -⟩ := idx t
  have hy1 : i1 = y1 := Fin.ext h1
  subst hy1
  have rx : ∀ k : Fin 1024, iblk m c 1 t (ix2 y0 k) = m ((c : Thread nD τ).loc main_arg0) (ix2 i0 k) := fun k => by
    blk_simp [iblk]
    entry_read
    blk_ext [e1]
  have rb : ∀ k : Fin 1024, iblk m c 0 t (ix2 y0 k) = m ((c : Thread nD τ).loc main_arg0) (ix2 i0 k) := fun k => by
    blk_simp [iblk]
    entry_read
    pointwise
    blk_ext [e0]
  have rg : ∀ (k : Fin 1024) (j : Fin 2816), iblk m c 2 t (ix2 k j) = m ((c : Thread nD τ).loc main_arg1) (ix2 k j) := fun k j => by
    blk_simp [iblk]
    entry_read
    pointwise
    blk_ext [e2]
  have ru : ∀ (k : Fin 1024) (j : Fin 2816), iblk m c 3 t (ix2 k j) = m ((c : Thread nD τ).loc main_arg2) (ix2 k j) := fun k j => by
    blk_simp [iblk]
    entry_read
    pointwise
    blk_ext [e3]
  have rd : ∀ (j : Fin 2816) (k : Fin 1024), iblk m c 4 t (ix2 j k) = m ((c : Thread nD τ).loc main_arg3) (ix2 j k) := fun k j => by
    blk_simp [iblk]
    entry_read
    pointwise
    blk_ext [e4]
  have rlg : ∀ k : Fin 1024, iblk m c 5 t (ix2 0 k) = m ((c : Thread nD τ).loc main_arg4) (ix1 k) := fun k => by
    blk_simp [iblk]
    entry_read
    pointwise
    blk_ext [e5]
  have rlb : ∀ k : Fin 1024, iblk m c 6 t (ix2 0 k) = m ((c : Thread nD τ).loc main_arg5) (ix1 k) := fun k => by
    blk_simp [iblk]
    entry_read
    pointwise
    blk_ext [e6]
  simp only [rx, rb, rg, ru, rd, rlg, rlb]
  rfl

theorem final7 (c : Dev nD) : (dats m 0 c).arrAt 7 cfg0.N
    = G (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) := by
  refine (dats m 0 c).arrAt_eq_of_covers 7 _ (by decide +kernel) fun t _ y => ?_
  obtain ⟨-, -, -, -, -, -, -, e7, -⟩ := idx t
  blk_simp
  rw [after0_7]
  frame_out
  refine point m c t y _ ?_ ?_
  all_goals (blk_simp [e7])

theorem final8 (c : Dev nD) : (dats m 0 c).arrAt 8 cfg0.N
    = G (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) := by
  refine (dats m 0 c).arrAt_eq_of_covers 8 _ (by decide +kernel) fun t _ y => ?_
  obtain ⟨-, -, -, -, -, -, -, -, e8⟩ := idx t
  blk_simp
  rw [after0_8]
  frame_out
  pointwise [k0_pay1]
  refine point m c t y _ ?_ ?_
  all_goals (blk_simp [e8])

end Cert.FfnIdeal.Value

end
-- ==== Proof.FfnRef.lean ====
module

public import proofs.«01_k».proof.Proof.Gen.FfnReferenceIdeal.Run
public import proofs.«01_k».proof.Proof.Rows

@[expose] public section

set_option maxRecDepth 16384

noncomputable section

open Idealize.ShloMosaic Idealize.ShloMosaic.TcCoe Idealize.SL.Sem

namespace Cert.FfnReferenceIdeal.Value

open Cert.FfnReferenceIdeal Cert.FfnReferenceIdeal.Gen

variable (m : (ℓ : Loc nD τ sig) → Buf (Elt Ideal) ℓ)

/-- The reference's first result read at one index: the normalised residual row of the feed-forward layer. -/
theorem out0_apply (c : Dev nD) (r : Fin 65536) (n : Fin 1024) :
    (show S65536x1024.Idx → EReal from res_main_v31 m c) (ix2 r n)
      = Rows.ln (Rows.res (fun k => m ((c : Thread nD τ).loc main_arg0) (ix2 r k))
          (Rows.ffn (fun k => m ((c : Thread nD τ).loc main_arg0) (ix2 r k)) (fun k j => m ((c : Thread nD τ).loc main_arg1) (ix2 k j))
            (fun k j => m ((c : Thread nD τ).loc main_arg2) (ix2 k j)) (fun j n => m ((c : Thread nD τ).loc main_arg3) (ix2 j n))))
          (fun k => m ((c : Thread nD τ).loc main_arg4) (ix1 k)) (fun k => m ((c : Thread nD τ).loc main_arg5) (ix1 k)) n := by
  unfold res_main_v31
  dsimp only
  pointwise
  rfl

theorem out1_apply (c : Dev nD) (r : Fin 65536) (n : Fin 1024) :
    (show S65536x1024.Idx → EReal from res_main_v32 m c) (ix2 r n)
      = Rows.ln (Rows.res (fun k => m ((c : Thread nD τ).loc main_arg0) (ix2 r k))
          (Rows.ffn (fun k => m ((c : Thread nD τ).loc main_arg0) (ix2 r k)) (fun k j => m ((c : Thread nD τ).loc main_arg1) (ix2 k j))
            (fun k j => m ((c : Thread nD τ).loc main_arg2) (ix2 k j)) (fun j n => m ((c : Thread nD τ).loc main_arg3) (ix2 j n))))
          (fun k => m ((c : Thread nD τ).loc main_arg4) (ix1 k)) (fun k => m ((c : Thread nD τ).loc main_arg5) (ix1 k)) n := by
  unfold res_main_v32
  dsimp only
  pointwise
  rfl

end Cert.FfnReferenceIdeal.Value

end
-- ==== Proof.FfnClaim.lean ====
module

public import proofs.«01_k».proof.Defs
public import proofs.«01_k».proof.Proof.Gen.FfnIdeal.Value
public import proofs.«01_k».proof.Proof.FfnValue
public import proofs.«01_k».proof.Proof.FfnRef

@[expose] public section

set_option maxRecDepth 16384

noncomputable section

open Idealize.ShloMosaic Idealize.ShloMosaic.TcCoe Idealize.SL.Sem

namespace Cert.FfnClaim

instance : Cert.FfnIdeal.Facts := Cert.FfnIdeal.Gen.facts
instance : Cert.FfnReferenceIdeal.Facts := Cert.FfnReferenceIdeal.Gen.facts

/-- The idealized dense feed-forward kernel and the idealized plain reference leave the same two arrays. -/
theorem algebraic : Cert.algebraic_FfnIdeal_FfnReferenceIdeal := by
  intro m g m' g' _ hag
  refine ⟨_, _, (θ_run _ _ _).mono (fun r h c => ⟨(h c).1.trans (Cert.FfnIdeal.Value.final7 m c),
    (h c).2.1.trans (Cert.FfnIdeal.Value.final8 m c), (h c).2.2⟩) (Cert.FfnIdeal.Value.run_blocks m g),
    (θ_run _ _ _).mono (fun r h c => ⟨(h c).1.trans ?_, (h c).2.1.trans ?_, (h c).2.2⟩) (Cert.FfnReferenceIdeal.Value.run m' g')⟩
  · funext i
    idx_vars i
    refine (Cert.FfnReferenceIdeal.Value.out0_apply m' c i0 i1).trans ?_
    rw [(hag c).1, (hag c).2.1, (hag c).2.2.1, (hag c).2.2.2.1, (hag c).2.2.2.2.1, (hag c).2.2.2.2.2]
    rfl
  · funext i
    idx_vars i
    refine (Cert.FfnReferenceIdeal.Value.out1_apply m' c i0 i1).trans ?_
    rw [(hag c).1, (hag c).2.1, (hag c).2.2.1, (hag c).2.2.2.1, (hag c).2.2.2.2.1, (hag c).2.2.2.2.2]
    rfl

end Cert.FfnClaim

end
-- ==== Proof.MixValue.lean ====
module

public import proofs.«01_k».proof.Proof.Gen.MixIdeal.Frame
public import proofs.«01_k».proof.Proof.Rows
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.MixIdeal.Value

open Cert.MixIdeal Cert.MixIdeal.Gen

abbrev sum0 (ya : FVec Ideal S512x512 .bf16) (yb ga gb : FVec Ideal S512x1024 .bf16) (x : FVec Ideal S512x1024 .f32) (wa : FVec Ideal S512x1024 .bf16)
    (wb wo : FVec Ideal S1024x1024 .bf16) (r : Fin 512) : Fin 1024 → EReal :=
  Rows.res (fun k => x (ix2 r k)) (Rows.merged (fun k => ya (ix2 r k)) (fun k => yb (ix2 r k)) (fun k => ga (ix2 r k)) (fun k => gb (ix2 r k))
    (fun k j => wa (ix2 k j)) (fun k j => wb (ix2 k j)) (fun k j => wo (ix2 k j)))

/-- The block the body stores, read at one index: the normalised residual row of the merged branches. -/
theorem pay_apply (ya : FVec Ideal S512x512 .bf16) (yb ga gb : FVec Ideal S512x1024 .bf16) (x : FVec Ideal S512x1024 .f32) (wa : FVec Ideal S512x1024 .bf16)
    (wb wo : FVec Ideal S1024x1024 .bf16) (g b : FVec Ideal S1x1024 .f32) (r : Fin 512) (n : Fin 1024) :
    k0_pay1 (F := Ideal) (k0_pay7 ya yb ga gb x wa wb wo g b) (k0_pay8 ya yb ga gb x wa wb wo g b) (k0_pay9 ya yb ga gb x wa wb wo g b)
        (k0_pay10 ya yb ga gb x wa wb wo g b) (ix2 r n)
      = Rows.ln (sum0 ya yb ga gb x wa wb wo r) (fun k => g (ix2 0 k)) (fun k => b (ix2 0 k)) n := by
  pointwise [k0_pay1, k0_pay7, k0_pay8, k0_pay9, k0_pay10, k0_pay3, k0_pay4, k0_pay5, k0_pay6]
  rfl

theorem idx : ∀ t : Fin cfg0.N, win0_0.index t = ![t.val, 0] ∧ win0_1.index t = ![t.val, 0] ∧ win0_2.index t = ![t.val, 1]
    ∧ win0_3.index t = ![t.val, 2] ∧ win0_4.index t = ![t.val, 0] ∧ win0_5.index t = ![0, 0] ∧ win0_6.index t = ![0, 0]
    ∧ win0_7.index t = ![0, 0] ∧ win0_8.index t = ![0, 0] ∧ win0_9.index t = ![0, 0] ∧ win0_10.index t = ![t.val, 0] ∧ win0_11.index t = ![t.val, 0] :=
  (by decide +kernel : ∀ t : Fin grid0.N, _)

/-- The result as one function of the argument arrays. -/
def G (ya : FVec Ideal S65536x512 .f32) (yb : FVec Ideal S65536x1024 .f32) (zg : FVec Ideal S65536x3072 .f32) (x : FVec Ideal S65536x1024 .f32) (wa : FVec Ideal S512x1024 .f32)
    (wb wo : FVec Ideal S1024x1024 .f32) (g b : FVec Ideal S1024 .f32) : S65536x1024.Idx → EReal := fun i =>
  Rows.ln (Rows.res (fun k => x (ix2 (i 0) k)) (Rows.merged (fun k => ya (ix2 (i 0) k)) (fun k => yb (ix2 (i 0) k)) (fun k => zg (ix2 (i 0) ⟨1024 + k.val, by omega⟩))
    (fun k => zg (ix2 (i 0) ⟨2048 + k.val, by omega⟩)) (fun k j => wa (ix2 k j)) (fun k j => wb (ix2 k j)) (fun k j => wo (ix2 k j)))) (fun k => g (ix1 k)) (fun k => b (ix1 k)) (i 1)

variable (m : (ℓ : Loc nD τ sig) → Buf (Elt Ideal) ℓ)

theorem read_ya (c : Dev nD) (t : Fin cfg0.N) (y0 : Fin 512) (i0 : Fin 65536) (h0 : i0.val = t.val * 512 + y0.val) (k : Fin 512) :
    iblk m c 0 t (ix2 y0 k) = m ((c : Thread nD τ).loc main_arg0) (ix2 i0 k) := by
  have e0 := (idx t).1
  blk_simp [iblk]
  entry_read
  pointwise
  blk_ext [e0]

theorem read_yb (c : Dev nD) (t : Fin cfg0.N) (y0 : Fin 512) (i0 : Fin 65536) (h0 : i0.val = t.val * 512 + y0.val) (k : Fin 1024) :
    iblk m c 1 t (ix2 y0 k) = m ((c : Thread nD τ).loc main_arg1) (ix2 i0 k) := by
  have e1 := (idx t).2.1
  blk_simp [iblk]
  entry_read
  pointwise
  blk_ext [e1]

theorem read_ga (c : Dev nD) (t : Fin cfg0.N) (y0 : Fin 512) (i0 : Fin 65536) (h0 : i0.val = t.val * 512 + y0.val) (k : Fin 1024) :
    iblk m c 2 t (ix2 y0 k) = m ((c : Thread nD τ).loc main_arg2) (ix2 i0 ⟨1024 + k.val, by omega⟩) := by
  have e2 := (idx t).2.2.1
  blk_simp [iblk]
  entry_read
  pointwise
  blk_ext [e2]

theorem read_gb (c : Dev nD) (t : Fin cfg0.N) (y0 : Fin 512) (i0 : Fin 65536) (h0 : i0.val = t.val * 512 + y0.val) (k : Fin 1024) :
    iblk m c 3 t (ix2 y0 k) = m ((c : Thread nD τ).loc main_arg2) (ix2 i0 ⟨2048 + k.val, by omega⟩) := by
  have e3 := (idx t).2.2.2.1
  blk_simp [iblk]
  entry_read
  pointwise
  blk_ext [e3]

theorem read_x (c : Dev nD) (t : Fin cfg0.N) (y0 : Fin 512) (i0 : Fin 65536) (h0 : i0.val = t.val * 512 + y0.val) (k : Fin 1024) :
    iblk m c 4 t (ix2 y0 k) = m ((c : Thread nD τ).loc main_arg3) (ix2 i0 k) := by
  have e4 := (idx t).2.2.2.2.1
  blk_simp [iblk]
  entry_read
  blk_ext [e4]

theorem read_wa (c : Dev nD) (t : Fin cfg0.N) (k : Fin 512) (j : Fin 1024) :
    iblk m c 5 t (ix2 k j) = m ((c : Thread nD τ).loc main_arg4) (ix2 k j) := by
  have e5 := (idx t).2.2.2.2.2.1
  blk_simp [iblk]
  entry_read
  pointwise
  blk_ext [e5]

theorem read_wb (c : Dev nD) (t : Fin cfg0.N) (k : Fin 1024) (j : Fin 1024) :
    iblk m c 6 t (ix2 k j) = m ((c : Thread nD τ).loc main_arg5) (ix2 k j) := by
  have e6 := (idx t).2.2.2.2.2.2.1
  blk_simp [iblk]
  entry_read
  pointwise
  blk_ext [e6]

theorem read_wo (c : Dev nD) (t : Fin cfg0.N) (k : Fin 1024) (j : Fin 1024) :
    iblk m c 7 t (ix2 k j) = m ((c : Thread nD τ).loc main_arg6) (ix2 k j) := by
  have e7 := (idx t).2.2.2.2.2.2.2.1
  blk_simp [iblk]
  entry_read
  pointwise
  blk_ext [e7]

theorem read_g (c : Dev nD) (t : Fin cfg0.N) (k : Fin 1024) :
    iblk m c 8 t (ix2 0 k) = m ((c : Thread nD τ).loc main_arg7) (ix1 k) := by
  have e8 := (idx t).2.2.2.2.2.2.2.2.1
  blk_simp [iblk]
  entry_read
  pointwise
  blk_ext [e8]

theorem read_b (c : Dev nD) (t : Fin cfg0.N) (k : Fin 1024) :
    iblk m c 9 t (ix2 0 k) = m ((c : Thread nD τ).loc main_arg8) (ix1 k) := by
  have e9 := (idx t).2.2.2.2.2.2.2.2.2.1
  blk_simp [iblk]
  entry_read
  pointwise
  blk_ext [e9]

theorem point (c : Dev nD) (t : Fin cfg0.N) (y : S512x1024.Idx) (i : S65536x1024.Idx) (h0 : (i 0).val = t.val * 512 + (y 0).val) (h1 : (i 1).val = (y 1).val) :
    k0_pay1 (F := Ideal) (k0_pay7 (iblk m c 0 t) (iblk m c 1 t) (iblk m c 2 t) (iblk m c 3 t) (iblk m c 4 t) (iblk m c 5 t) (iblk m c 6 t) (iblk m c 7 t) (iblk m c 8 t) (iblk m c 9 t)) (k0_pay8 (iblk m c 0 t) (iblk m c 1 t) (iblk m c 2 t) (iblk m c 3 t) (iblk m c 4 t) (iblk m c 5 t) (iblk m c 6 t) (iblk m c 7 t) (iblk m c 8 t) (iblk m c 9 t)) (k0_pay9 (iblk m c 0 t) (iblk m c 1 t) (iblk m c 2 t) (iblk m c 3 t) (iblk m c 4 t) (iblk m c 5 t) (iblk m c 6 t) (iblk m c 7 t) (iblk m c 8 t) (iblk m c 9 t)) (k0_pay10 (iblk m c 0 t) (iblk m c 1 t) (iblk m c 2 t) (iblk m c 3 t) (iblk m c 4 t) (iblk m c 5 t) (iblk m c 6 t) (iblk m c 7 t) (iblk m c 8 t) (iblk m c 9 t)) y
      = G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) i := by
  idx_vars y
  idx_vars i
  rw [pay_apply]
  have hy1 : i1 = y1 := Fin.ext h1
  subst hy1
  refine Rows.ln_congr (fun k => ?_) (fun k => read_g m c t k) (fun k => read_b m c t k) i1
  refine congrArg₂ (fun a b => Ideal.ofBits .f32 0x3FB504F3#32 * a + b) (read_x m c t y0 i0 h0 k) ?_
  refine Rows.merged_congr (fun k => read_ya m c t y0 i0 h0 k) (fun k => read_yb m c t y0 i0 h0 k) (fun k => read_ga m c t y0 i0 h0 k)
    (fun k => read_gb m c t y0 i0 h0 k) (fun k j => read_wa m c t k j) (fun k j => read_wb m c t k j) (fun k j => read_wo m c t k j) k

theorem final10 (c : Dev nD) : (dats m 0 c).arrAt 10 cfg0.N
    = G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine (dats m 0 c).arrAt_eq_of_covers 10 _ (by decide +kernel) fun t _ y => ?_
  have e10 := (idx t).2.2.2.2.2.2.2.2.2.2.1
  blk_simp
  rw [after0_10]
  frame_out
  refine point m c t y _ ?_ ?_
  all_goals (blk_simp [e10])

theorem final11 (c : Dev nD) : (dats m 0 c).arrAt 11 cfg0.N
    = G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine (dats m 0 c).arrAt_eq_of_covers 11 _ (by decide +kernel) fun t _ y => ?_
  have e11 := (idx t).2.2.2.2.2.2.2.2.2.2.2
  blk_simp
  rw [after0_11]
  frame_out
  pointwise [k0_pay2]
  refine point m c t y _ ?_ ?_
  all_goals (blk_simp [e11])

end Cert.MixIdeal.Value

end
-- ==== Proof.MixRef.lean ====
module

public import proofs.«01_k».proof.Proof.Gen.MixReferenceIdeal.Run
public import proofs.«01_k».proof.Proof.Rows

@[expose] public section

set_option maxRecDepth 16384

noncomputable section

open Idealize.ShloMosaic Idealize.ShloMosaic.TcCoe Idealize.SL.Sem

namespace Cert.MixReferenceIdeal.Value

open Cert.MixReferenceIdeal Cert.MixReferenceIdeal.Gen

variable (m : (ℓ : Loc nD τ sig) → Buf (Elt Ideal) ℓ)

/-- The row both results read: the normalised residual row of the merged branches. -/
abbrev row (c : Dev nD) (r : Fin 65536) : Fin 1024 → EReal :=
  Rows.ln (Rows.res (fun k => m ((c : Thread nD τ).loc main_arg3) (ix2 r k)) (Rows.merged (fun k => m ((c : Thread nD τ).loc main_arg0) (ix2 r k))
    (fun k => m ((c : Thread nD τ).loc main_arg1) (ix2 r k)) (fun k => m ((c : Thread nD τ).loc main_arg2) (ix2 r ⟨1024 + k.val, by omega⟩))
    (fun k => m ((c : Thread nD τ).loc main_arg2) (ix2 r ⟨2048 + k.val, by omega⟩)) (fun k j => m ((c : Thread nD τ).loc main_arg4) (ix2 k j))
    (fun k j => m ((c : Thread nD τ).loc main_arg5) (ix2 k j)) (fun k j => m ((c : Thread nD τ).loc main_arg6) (ix2 k j))))
    (fun k => m ((c : Thread nD τ).loc main_arg7) (ix1 k)) (fun k => m ((c : Thread nD τ).loc main_arg8) (ix1 k))

theorem out0_apply (c : Dev nD) (r : Fin 65536) (n : Fin 1024) :
    (show S65536x1024.Idx → EReal from res_main_v47 m c) (ix2 r n) = row m c r n := by
  unfold res_main_v47
  dsimp only
  pointwise
  rfl

theorem out1_apply (c : Dev nD) (r : Fin 65536) (n : Fin 1024) :
    (show S65536x1024.Idx → EReal from res_main_v48 m c) (ix2 r n) = row m c r n := by
  unfold res_main_v48
  dsimp only
  pointwise
  rfl

end Cert.MixReferenceIdeal.Value

end
-- ==== Proof.MixClaim.lean ====
module

public import proofs.«01_k».proof.Defs
public import proofs.«01_k».proof.Proof.Gen.MixIdeal.Value
public import proofs.«01_k».proof.Proof.MixValue
public import proofs.«01_k».proof.Proof.MixRef

@[expose] public section

set_option maxRecDepth 16384

noncomputable section

open Idealize.ShloMosaic Idealize.ShloMosaic.TcCoe Idealize.SL.Sem

namespace Cert.MixClaim

instance : Cert.MixIdeal.Facts := Cert.MixIdeal.Gen.facts
instance : Cert.MixReferenceIdeal.Facts := Cert.MixReferenceIdeal.Gen.facts

/-- The idealized mixing-output kernel and the idealized plain reference leave the same two arrays. -/
theorem algebraic : Cert.algebraic_MixIdeal_MixReferenceIdeal := by
  intro m g m' g' _ hag
  refine ⟨_, _, (θ_run _ _ _).mono (fun r h c => ⟨(h c).1.trans (Cert.MixIdeal.Value.final10 m c),
    (h c).2.1.trans (Cert.MixIdeal.Value.final11 m c), (h c).2.2⟩) (Cert.MixIdeal.Value.run_blocks m g),
    (θ_run _ _ _).mono (fun r h c => ⟨(h c).1.trans ?_, (h c).2.1.trans ?_, (h c).2.2⟩) (Cert.MixReferenceIdeal.Value.run m' g')⟩
  · funext i
    idx_vars i
    refine (Cert.MixReferenceIdeal.Value.out0_apply m' c i0 i1).trans ?_
    unfold Cert.MixReferenceIdeal.Value.row
    rw [(hag c).1, (hag c).2.1, (hag c).2.2.1, (hag c).2.2.2.1, (hag c).2.2.2.2.1, (hag c).2.2.2.2.2.1, (hag c).2.2.2.2.2.2.1, (hag c).2.2.2.2.2.2.2.1, (hag c).2.2.2.2.2.2.2.2]
    rfl
  · funext i
    idx_vars i
    refine (Cert.MixReferenceIdeal.Value.out1_apply m' c i0 i1).trans ?_
    unfold Cert.MixReferenceIdeal.Value.row
    rw [(hag c).1, (hag c).2.1, (hag c).2.2.1, (hag c).2.2.2.1, (hag c).2.2.2.2.1, (hag c).2.2.2.2.2.1, (hag c).2.2.2.2.2.2.1, (hag c).2.2.2.2.2.2.2.1, (hag c).2.2.2.2.2.2.2.2]
    rfl

end Cert.MixClaim

end
-- ==== Proof.MoeBody.lean ====
module

public import proofs.«01_k».proof.Proof.Gen.MoeIdeal.Frame
public import proofs.«01_k».proof.Proof.Rows
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.MoeIdeal.Value

open Cert.MoeIdeal Cert.MoeIdeal.Gen

theorem zero_apply (r n : Fin 1024) : k0_pay3 (F := Ideal) (ix2 r n) = 0 := by
  pointwise [k0_pay3]

theorem pay4_apply (i : grid0.Coords) (x : FVec Ideal S1024x1024 .bf16) (g : FVec Ideal S1024x128 .f32) (a b : FVec Ideal S1x1024x512 .bf16)
    (acc : FVec Ideal S1024x1024 .f32) (d : FVec Ideal S1x512x1024 .bf16) (r n : Fin 1024) (e : Fin 8) (he : (i 1).val = e.val) :
    k0_pay4 (F := Ideal) i x g a b acc d (ix2 r n) = acc (ix2 r n)
      + ∑ j : Fin 512, Rows.hid (fun k => x (ix2 r k)) (fun k j => a (ix3 0 k j)) (fun k j => b (ix3 0 k j)) j
          * g (ix2 r ⟨e.val, by omega⟩) * d (ix3 0 j n) := by
  pointwise [k0_pay4, Rows.hid]
  rw [he, Rows.lane (by omega) (fun l : Fin 128 => g (ix2 r l)) e.val (by omega)]

theorem pay2_apply (x acc : FVec Ideal S1024x1024 .f32) (g b : FVec Ideal S1x1024 .f32) (r n : Fin 1024) :
    k0_pay2 (F := Ideal) x acc g b (ix2 r n)
      = Rows.ln (Rows.res (fun k => x (ix2 r k)) (fun n => acc (ix2 r n))) (fun k => g (ix2 0 k)) (fun k => b (ix2 0 k)) n := by
  pointwise [k0_pay2]
  rfl

set_option maxHeartbeats 1000000 in
theorem idx : ∀ t : Fin cfg0.N, win0_0.index t = ![t.val / 56, 0] ∧ win0_1.index t = ![t.val / 56, 0] ∧ win0_2.index t = ![t.val / 56, 0]
    ∧ win0_3.index t = ![t.val % 56 / 7, 0, t.val % 7] ∧ win0_4.index t = ![t.val % 56 / 7, 0, t.val % 7]
    ∧ win0_5.index t = ![t.val % 56 / 7, t.val % 7, 0] ∧ win0_6.index t = ![0, 0] ∧ win0_7.index t = ![0, 0]
    ∧ win0_8.index t = ![t.val / 56, 0] ∧ (grid0.coords t 1).val = t.val % 56 / 7 :=
  (by decide +kernel : ∀ t : Fin grid0.N, _)

end Cert.MoeIdeal.Value

end
-- ==== Proof.MoeValue.lean ====
module

public import proofs.«01_k».proof.Proof.Gen.MoeIdeal.Frame
public import proofs.«01_k».proof.Proof.MoeBody
public import Idealize.ShloMosaic.Lib.Claim
public import Idealize.ShloMosaic.Lib.Pipeline.ReadBack
public import Idealize.ShloMosaic.Lib.KernelVsHost

@[expose] public section

set_option maxRecDepth 16384

noncomputable section

open Idealize.ShloMosaic Idealize.ShloMosaic.TcCoe Idealize.SL.Sem
open Idealize.ShloMosaic.Pipeline (Dat)

namespace Cert.MoeIdeal.Value

open Cert.MoeIdeal Cert.MoeIdeal.Gen

/-- The result as one function of the argument arrays. -/
def G (X : FVec Ideal S65536x1024 .f32) (Q : FVec Ideal S65536x8 .f32) (A B : FVec Ideal S8x1024x3584 .f32) (D : FVec Ideal S8x3584x1024 .f32)
    (g b : FVec Ideal S1024 .f32) : S65536x1024.Idx → EReal := fun i =>
  Rows.ln (Rows.res (fun k => X (ix2 (i 0) k)) (Rows.mix (fun k => X (ix2 (i 0) k)) (fun e => Q (ix2 (i 0) e)) (fun e k j => A (ix3 e k j))
    (fun e k j => B (ix3 e k j)) (fun e j n => D (ix3 e j n)))) (fun k => g (ix1 k)) (fun k => b (ix1 k)) (i 1)

variable (m : (ℓ : Loc nD τ sig) → Buf (Elt Ideal) ℓ)

/-- What point `t` adds to the accumulator. -/
def term (c : Dev nD) (t : Fin cfg0.N) (y : S1024x1024.Idx) : EReal :=
  ∑ j : Fin 512, Rows.hid (fun k => (show FVec Ideal S1024x1024 .bf16 from iblk m c 0 t) (ix2 (y 0) k))
      (fun k j => (show FVec Ideal S1x1024x512 .bf16 from iblk m c 3 t) (ix3 0 k j))
      (fun k j => (show FVec Ideal S1x1024x512 .bf16 from iblk m c 4 t) (ix3 0 k j)) j
    * (show FVec Ideal S1024x128 .f32 from iblk m c 2 t) (ix2 (y 0) ⟨t.val % 56 / 7, by omega⟩)
    * (show FVec Ideal S1x512x1024 .bf16 from iblk m c 5 t) (ix3 0 j (y 1))

theorem step0 (c : Dev nD) (t : Fin cfg0.N) (y : S1024x1024.Idx) :
    k0_pay4 (F := Ideal) (grid0.coords t) (iblk m c 0 t) (iblk m c 2 t) (iblk m c 3 t) (iblk m c 4 t) (k0_pay3 (F := Ideal)) (iblk m c 5 t) y
      = 0 + term m c t y := by
  idx_vars y
  refine (pay4_apply _ _ _ _ _ _ _ y0 y1 ⟨t.val % 56 / 7, by omega⟩ (idx t).2.2.2.2.2.2.2.2.2).trans ?_
  rw [zero_apply]
  rfl

theorem step (c : Dev nD) (t : Fin cfg0.N) (acc : FVec Ideal S1024x1024 .f32) (y : S1024x1024.Idx) :
    k0_pay4 (F := Ideal) (grid0.coords t) (iblk m c 0 t) (iblk m c 2 t) (iblk m c 3 t) (iblk m c 4 t) acc (iblk m c 5 t) y
      = acc y + term m c t y := by
  idx_vars y
  exact pay4_apply _ _ _ _ _ _ _ y0 y1 ⟨t.val % 56 / 7, by omega⟩ (idx t).2.2.2.2.2.2.2.2.2

/-- The accumulator at the point that writes back: the 56 terms of its row tile. -/
theorem acc_sum (c : Dev nD) (t : Fin cfg0.N) (ht : t.val % 56 = 55) (y : S1024x1024.Idx) :
    (outsAt0 m c t.val t.isLt).2 y
      = ∑ s : Fin 56, term m c ⟨56 * (t.val / 56) + s.val, Pipeline.run_point_lt_of_flush t ht s⟩ y := by
  rw [Pipeline.eq_sum_fin_of_reset_step_apply_of_flush (fun n h => (outsAt0 m c n h).2) 56 (fun _ => 0) (term m c)
    (fun t h j => by
      rw [outsAt0_A m c t h (by omega)]
      frame_out
      pointwise [k0_pay1]
      exact (step0 m c t j).trans (zero_add _))
    (fun t h j => by
      by_cases h1 : t.val % 56 = 55
      · rw [outsAt0_C m c t h h1]
        frame_out
        pointwise [k0_pay1]
        rw [read_unread_whole]
        exact step m c t _ j
      · rw [outsAt0_B m c t h h1]
        frame_out
        pointwise [k0_pay1]
        rw [read_unread_whole]
        exact step m c t _ j)
    t ht y, zero_add]

/-- The block written back at the last point of a row tile: the normalised residual of the accumulator. -/
theorem out_last (c : Dev nD) (t : Fin cfg0.N) (ht : t.val % 56 = 55) (r n : Fin 1024) :
    (outsAt0 m c t.val t.isLt).1 (ix2 r n)
      = Rows.ln (Rows.res (fun k => (show FVec Ideal S1024x1024 .f32 from iblk m c 1 t) (ix2 r k)) (fun n => (outsAt0 m c t.val t.isLt).2 (ix2 r n)))
        (fun k => (show FVec Ideal S1x1024 .f32 from iblk m c 6 t) (ix2 0 k)) (fun k => (show FVec Ideal S1x1024 .f32 from iblk m c 7 t) (ix2 0 k)) n := by
  rw [outsAt0_C m c t (by omega) ht]
  frame_out
  exact pay2_apply _ _ _ _ r n

theorem read_x (c : Dev nD) (t : Fin cfg0.N) (r k : Fin 1024) (i : Fin 65536) (hi : i.val = t.val / 56 * 1024 + r.val) :
    iblk m c 1 t (ix2 r k) = m ((c : Thread nD τ).loc main_arg0) (ix2 i k) := by
  have e1 := (idx t).2.1
  blk_simp [iblk]
  entry_read
  blk_ext [e1]

theorem read_xb (c : Dev nD) (t : Fin cfg0.N) (r k : Fin 1024) (i : Fin 65536) (hi : i.val = t.val / 56 * 1024 + r.val) :
    iblk m c 0 t (ix2 r k) = m ((c : Thread nD τ).loc main_arg0) (ix2 i k) := by
  have e0 := (idx t).1
  blk_simp [iblk]
  entry_read
  pointwise
  blk_ext [e0]

theorem read_g (c : Dev nD) (t : Fin cfg0.N) (k : Fin 1024) : iblk m c 6 t (ix2 0 k) = m ((c : Thread nD τ).loc main_arg5) (ix1 k) := by
  have e6 := (idx t).2.2.2.2.2.2.1
  blk_simp [iblk]
  unfold V
  simp only [hostOps0, hostOps0_1, hostOps0_2, List.flatten_cons, List.flatten_nil, List.cons_append, List.nil_append]
  entry_read
  pointwise
  blk_ext [e6]

theorem read_b (c : Dev nD) (t : Fin cfg0.N) (k : Fin 1024) : iblk m c 7 t (ix2 0 k) = m ((c : Thread nD τ).loc main_arg6) (ix1 k) := by
  have e7 := (idx t).2.2.2.2.2.2.2.1
  blk_simp [iblk]
  unfold V
  simp only [hostOps0, hostOps0_1, hostOps0_2, List.flatten_cons, List.flatten_nil, List.cons_append, List.nil_append]
  entry_read
  pointwise
  blk_ext [e7]

theorem read_gate (c : Dev nD) (t : Fin cfg0.N) (r : Fin 1024) (h : t.val % 56 / 7 < 128) (i : Fin 65536) (e : Fin 8)
    (hi : i.val = t.val / 56 * 1024 + r.val) (he : t.val % 56 / 7 = e.val) :
    iblk m c 2 t (ix2 r ⟨t.val % 56 / 7, h⟩) = m ((c : Thread nD τ).loc main_arg1) (ix2 i e) := by
  have e2 := (idx t).2.2.1
  blk_simp [iblk]
  unfold V
  simp only [hostOps0, hostOps0_1, hostOps0_2, List.flatten_cons, List.flatten_nil, List.cons_append, List.nil_append]
  entry_read
  refine (pad_apply_of_inside ![0, 0] ![0, 120] ![0, 0] (m ((c : Thread nD τ).loc main_arg1)) _ pads_S65536x8_S65536x128_000_01200 h_S_ _ (ix2 i e) ?_)
  intro a
  fin_cases a
  · have h0 : (((win0_2.blk t).view.emb (ix2 r ⟨t.val % 56 / 7, h⟩)) 0).val = i.val := by
      rw [hi]
      blk_simp [e2]
    exact h0.trans (by show i.val = 0 + i.val * 1; omega)
  · have h1 : (((win0_2.blk t).view.emb (ix2 r ⟨t.val % 56 / 7, h⟩)) 1).val = e.val := by
      rw [← he]
      blk_simp [e2]
    exact h1.trans (by show e.val = 0 + e.val * 1; omega)

theorem read_wg (c : Dev nD) (t : Fin cfg0.N) (k : Fin 1024) (j : Fin 512) (e : Fin 8) (l : Fin 3584) (he : t.val % 56 / 7 = e.val)
    (hl : l.val = t.val % 7 * 512 + j.val) : iblk m c 3 t (ix3 0 k j) = m ((c : Thread nD τ).loc main_arg2) (ix3 e k l) := by
  have e3 := (idx t).2.2.2.1
  blk_simp [iblk]
  entry_read
  pointwise
  blk_ext [e3]

theorem read_wu (c : Dev nD) (t : Fin cfg0.N) (k : Fin 1024) (j : Fin 512) (e : Fin 8) (l : Fin 3584) (he : t.val % 56 / 7 = e.val)
    (hl : l.val = t.val % 7 * 512 + j.val) : iblk m c 4 t (ix3 0 k j) = m ((c : Thread nD τ).loc main_arg3) (ix3 e k l) := by
  have e4 := (idx t).2.2.2.2.1
  blk_simp [iblk]
  entry_read
  pointwise
  blk_ext [e4]

theorem read_wd (c : Dev nD) (t : Fin cfg0.N) (j : Fin 512) (k : Fin 1024) (e : Fin 8) (l : Fin 3584) (he : t.val % 56 / 7 = e.val)
    (hl : l.val = t.val % 7 * 512 + j.val) : iblk m c 5 t (ix3 0 j k) = m ((c : Thread nD τ).loc main_arg4) (ix3 e l k) := by
  have e5 := (idx t).2.2.2.2.2.1
  blk_simp [iblk]
  entry_read
  pointwise
  blk_ext [e5]

/-- The element written at `y` of the block that point `t` writes back. -/
theorem point (c : Dev nD) (hq : ∀ (r : Fin 65536) (e : Fin 8), 0 ≤ (show FVec Ideal S65536x8 .f32 from m ((c : Thread nD τ).loc main_arg1)) (ix2 r e)
      ∧ (show FVec Ideal S65536x8 .f32 from m ((c : Thread nD τ).loc main_arg1)) (ix2 r e) ≠ ⊤) (t : Fin cfg0.N) (ht : t.val % 56 = 55)
    (y : S1024x1024.Idx) (i : S65536x1024.Idx) (h0 : (i 0).val = t.val / 56 * 1024 + (y 0).val) (h1 : (i 1).val = (y 1).val) :
    (outsAt0 m c t.val t.isLt).1 y
      = G (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) i := by
  idx_vars y
  idx_vars i
  have hy1 : i1 = y1 := Fin.ext h1
  subst hy1
  rw [out_last m c t ht]
  have hN : cfg0.N = 3584 := N_0
  have htl : t.val < 3584 := lt_of_lt_of_eq t.isLt hN
  refine Rows.ln_congr (fun n => ?_) (read_g m c t) (read_b m c t) i1
  refine congrArg₂ (· + ·) (congrArg (_ * ·) (read_x m c t y0 n i0 h0)) ?_
  refine (acc_sum m c t ht _).trans ?_
  refine Eq.trans ?_ (Rows.mix_chunks _ _ (fun e => (hq i0 e).1) (fun e => (hq i0 e).2) _ _ _ n)
  refine Finset.sum_congr rfl fun s _ => ?_
  have hs := s.isLt
  generalize hp : (⟨56 * (t.val / 56) + s.val, Pipeline.run_point_lt_of_flush t ht s⟩ : Fin cfg0.N) = p
  have hpv : p.val = 56 * (t.val / 56) + s.val := by rw [← hp]
  have hp1 : p.val % 56 / 7 = s.val / 7 := by omega
  have hp2 : p.val % 7 = s.val % 7 := by omega
  have hp3 : p.val / 56 = t.val / 56 := by omega
  have hi : i0.val = p.val / 56 * 1024 + y0.val := by rw [hp3]; exact h0
  unfold term
  refine Finset.sum_congr rfl fun j _ => ?_
  have hj := j.isLt
  have hl : s.val % 7 * 512 + j.val = p.val % 7 * 512 + j.val := by rw [hp2]
  refine congrArg₂ (· * ·) (congrArg₂ (· * ·) ?_ (read_gate m c p y0 _ i0 ⟨s.val / 7, by omega⟩ hi hp1))
    (read_wd m c p j n ⟨s.val / 7, by omega⟩ ⟨s.val % 7 * 512 + j.val, by omega⟩ hp1 hl)
  exact Rows.hid_congr (fun k => read_xb m c p y0 k i0 hi)
    (fun k => read_wg m c p k j ⟨s.val / 7, by omega⟩ ⟨s.val % 7 * 512 + j.val, by omega⟩ hp1 hl)
    (fun k => read_wu m c p k j ⟨s.val / 7, by omega⟩ ⟨s.val % 7 * 512 + j.val, by omega⟩ hp1 hl)

/-- The result array, for gates that are finite and not negative. -/
theorem final (c : Dev nD) (hq : ∀ (r : Fin 65536) (e : Fin 8), 0 ≤ (show FVec Ideal S65536x8 .f32 from m ((c : Thread nD τ).loc main_arg1)) (ix2 r e)
      ∧ (show FVec Ideal S65536x8 .f32 from m ((c : Thread nD τ).loc main_arg1)) (ix2 r e) ≠ ⊤) : (dats m 0 c).arrAt 8 cfg0.N
    = G (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) := by
  refine (dats m 0 c).arrAt_eq_of_covers 8 _ (by decide +kernel) fun t hf y => ?_
  have ht : t.val % 56 = 55 := (flush0_8 t).mp hf
  have e8 := (idx t).2.2.2.2.2.2.2.2.1
  blk_simp
  rw [after0_8]
  refine point m c hq t ht y _ ?_ ?_
  all_goals (blk_simp [e8])

end Cert.MoeIdeal.Value

end
-- ==== Proof.MoeRef.lean ====
module

public import proofs.«01_k».proof.Proof.Gen.MoeReferenceIdeal.Run
public import proofs.«01_k».proof.Proof.Gen.MoeReferenceIdeal.Read
public import proofs.«01_k».proof.Proof.Rows

@[expose] public section

set_option maxRecDepth 16384

noncomputable section

open Idealize.ShloMosaic Idealize.ShloMosaic.TcCoe Idealize.SL.Sem

namespace Cert.MoeReferenceIdeal.Value

open Cert.MoeReferenceIdeal Cert.MoeReferenceIdeal.Gen

/-- Expert 0's share of the weighted sum. -/
theorem layer0 (X : FVec Ideal S65536x1024 .f32) (Q : FVec Ideal S65536x8 .f32) (A B : FVec Ideal S8x1024x3584 .f32)
    (D : FVec Ideal S8x3584x1024 .f32) (r : Fin 65536) (n : Fin 1024) :
    Read.val_main_v14 (F := Ideal) X Q A B D (ix2 r n) = Q (ix2 r 0) * Rows.ffn (fun k => X (ix2 r k)) (fun k j => A (ix3 0 k j))
      (fun k j => B (ix3 0 k j)) (fun j n => D (ix3 0 j n)) n := by
  pointwise [Read.val_main_v1, Read.val_main_v2, Read.val_main_v3, Read.val_main_v4, Read.val_main_v5, Read.val_main_v6, Read.val_main_v7, Read.val_main_v8, Read.val_main_v9, Read.val_main_v10, Read.val_main_v11, Read.val_main_v12, Read.val_main_v13, Read.val_main_v14, Read.val_main_call0_v0, Read.val_main_call0_v1, Read.val_main_call0_cst, Read.val_main_call0_v2, Read.val_main_call0_v3, Read.val_main_call0_cst_0, Read.val_main_call0_v4, Read.val_main_call0_v5]
  rfl

/-- Expert 1's share of the weighted sum. -/
theorem layer1 (X : FVec Ideal S65536x1024 .f32) (Q : FVec Ideal S65536x8 .f32) (A B : FVec Ideal S8x1024x3584 .f32)
    (D : FVec Ideal S8x3584x1024 .f32) (r : Fin 65536) (n : Fin 1024) :
    Read.val_main_v29 (F := Ideal) X Q A B D (ix2 r n) = Q (ix2 r 1) * Rows.ffn (fun k => X (ix2 r k)) (fun k j => A (ix3 1 k j))
      (fun k j => B (ix3 1 k j)) (fun j n => D (ix3 1 j n)) n := by
  pointwise [Read.val_main_v16, Read.val_main_v17, Read.val_main_v18, Read.val_main_v19, Read.val_main_v20, Read.val_main_v21, Read.val_main_v22, Read.val_main_v23, Read.val_main_v24, Read.val_main_v25, Read.val_main_v26, Read.val_main_v27, Read.val_main_v28, Read.val_main_v29, Read.val_main_call1_v0, Read.val_main_call1_v1, Read.val_main_call1_cst, Read.val_main_call1_v2, Read.val_main_call1_v3, Read.val_main_call1_cst_0, Read.val_main_call1_v4, Read.val_main_call1_v5]
  rfl

/-- Expert 2's share of the weighted sum. -/
theorem layer2 (X : FVec Ideal S65536x1024 .f32) (Q : FVec Ideal S65536x8 .f32) (A B : FVec Ideal S8x1024x3584 .f32)
    (D : FVec Ideal S8x3584x1024 .f32) (r : Fin 65536) (n : Fin 1024) :
    Read.val_main_v44 (F := Ideal) X Q A B D (ix2 r n) = Q (ix2 r 2) * Rows.ffn (fun k => X (ix2 r k)) (fun k j => A (ix3 2 k j))
      (fun k j => B (ix3 2 k j)) (fun j n => D (ix3 2 j n)) n := by
  pointwise [Read.val_main_v31, Read.val_main_v32, Read.val_main_v33, Read.val_main_v34, Read.val_main_v35, Read.val_main_v36, Read.val_main_v37, Read.val_main_v38, Read.val_main_v39, Read.val_main_v40, Read.val_main_v41, Read.val_main_v42, Read.val_main_v43, Read.val_main_v44, Read.val_main_call2_v0, Read.val_main_call2_v1, Read.val_main_call2_cst, Read.val_main_call2_v2, Read.val_main_call2_v3, Read.val_main_call2_cst_0, Read.val_main_call2_v4, Read.val_main_call2_v5]
  rfl

/-- Expert 3's share of the weighted sum. -/
theorem layer3 (X : FVec Ideal S65536x1024 .f32) (Q : FVec Ideal S65536x8 .f32) (A B : FVec Ideal S8x1024x3584 .f32)
    (D : FVec Ideal S8x3584x1024 .f32) (r : Fin 65536) (n : Fin 1024) :
    Read.val_main_v59 (F := Ideal) X Q A B D (ix2 r n) = Q (ix2 r 3) * Rows.ffn (fun k => X (ix2 r k)) (fun k j => A (ix3 3 k j))
      (fun k j => B (ix3 3 k j)) (fun j n => D (ix3 3 j n)) n := by
  pointwise [Read.val_main_v46, Read.val_main_v47, Read.val_main_v48, Read.val_main_v49, Read.val_main_v50, Read.val_main_v51, Read.val_main_v52, Read.val_main_v53, Read.val_main_v54, Read.val_main_v55, Read.val_main_v56, Read.val_main_v57, Read.val_main_v58, Read.val_main_v59, Read.val_main_call3_v0, Read.val_main_call3_v1, Read.val_main_call3_cst, Read.val_main_call3_v2, Read.val_main_call3_v3, Read.val_main_call3_cst_0, Read.val_main_call3_v4, Read.val_main_call3_v5]
  rfl

/-- Expert 4's share of the weighted sum. -/
theorem layer4 (X : FVec Ideal S65536x1024 .f32) (Q : FVec Ideal S65536x8 .f32) (A B : FVec Ideal S8x1024x3584 .f32)
    (D : FVec Ideal S8x3584x1024 .f32) (r : Fin 65536) (n : Fin 1024) :
    Read.val_main_v74 (F := Ideal) X Q A B D (ix2 r n) = Q (ix2 r 4) * Rows.ffn (fun k => X (ix2 r k)) (fun k j => A (ix3 4 k j))
      (fun k j => B (ix3 4 k j)) (fun j n => D (ix3 4 j n)) n := by
  pointwise [Read.val_main_v61, Read.val_main_v62, Read.val_main_v63, Read.val_main_v64, Read.val_main_v65, Read.val_main_v66, Read.val_main_v67, Read.val_main_v68, Read.val_main_v69, Read.val_main_v70, Read.val_main_v71, Read.val_main_v72, Read.val_main_v73, Read.val_main_v74, Read.val_main_call4_v0, Read.val_main_call4_v1, Read.val_main_call4_cst, Read.val_main_call4_v2, Read.val_main_call4_v3, Read.val_main_call4_cst_0, Read.val_main_call4_v4, Read.val_main_call4_v5]
  rfl

/-- Expert 5's share of the weighted sum. -/
theorem layer5 (X : FVec Ideal S65536x1024 .f32) (Q : FVec Ideal S65536x8 .f32) (A B : FVec Ideal S8x1024x3584 .f32)
    (D : FVec Ideal S8x3584x1024 .f32) (r : Fin 65536) (n : Fin 1024) :
    Read.val_main_v89 (F := Ideal) X Q A B D (ix2 r n) = Q (ix2 r 5) * Rows.ffn (fun k => X (ix2 r k)) (fun k j => A (ix3 5 k j))
      (fun k j => B (ix3 5 k j)) (fun j n => D (ix3 5 j n)) n := by
  pointwise [Read.val_main_v76, Read.val_main_v77, Read.val_main_v78, Read.val_main_v79, Read.val_main_v80, Read.val_main_v81, Read.val_main_v82, Read.val_main_v83, Read.val_main_v84, Read.val_main_v85, Read.val_main_v86, Read.val_main_v87, Read.val_main_v88, Read.val_main_v89, Read.val_main_call5_v0, Read.val_main_call5_v1, Read.val_main_call5_cst, Read.val_main_call5_v2, Read.val_main_call5_v3, Read.val_main_call5_cst_0, Read.val_main_call5_v4, Read.val_main_call5_v5]
  rfl

/-- Expert 6's share of the weighted sum. -/
theorem layer6 (X : FVec Ideal S65536x1024 .f32) (Q : FVec Ideal S65536x8 .f32) (A B : FVec Ideal S8x1024x3584 .f32)
    (D : FVec Ideal S8x3584x1024 .f32) (r : Fin 65536) (n : Fin 1024) :
    Read.val_main_v104 (F := Ideal) X Q A B D (ix2 r n) = Q (ix2 r 6) * Rows.ffn (fun k => X (ix2 r k)) (fun k j => A (ix3 6 k j))
      (fun k j => B (ix3 6 k j)) (fun j n => D (ix3 6 j n)) n := by
  pointwise [Read.val_main_v91, Read.val_main_v92, Read.val_main_v93, Read.val_main_v94, Read.val_main_v95, Read.val_main_v96, Read.val_main_v97, Read.val_main_v98, Read.val_main_v99, Read.val_main_v100, Read.val_main_v101, Read.val_main_v102, Read.val_main_v103, Read.val_main_v104, Read.val_main_call6_v0, Read.val_main_call6_v1, Read.val_main_call6_cst, Read.val_main_call6_v2, Read.val_main_call6_v3, Read.val_main_call6_cst_0, Read.val_main_call6_v4, Read.val_main_call6_v5]
  rfl

/-- Expert 7's share of the weighted sum. -/
theorem layer7 (X : FVec Ideal S65536x1024 .f32) (Q : FVec Ideal S65536x8 .f32) (A B : FVec Ideal S8x1024x3584 .f32)
    (D : FVec Ideal S8x3584x1024 .f32) (r : Fin 65536) (n : Fin 1024) :
    Read.val_main_v119 (F := Ideal) X Q A B D (ix2 r n) = Q (ix2 r 7) * Rows.ffn (fun k => X (ix2 r k)) (fun k j => A (ix3 7 k j))
      (fun k j => B (ix3 7 k j)) (fun j n => D (ix3 7 j n)) n := by
  pointwise [Read.val_main_v106, Read.val_main_v107, Read.val_main_v108, Read.val_main_v109, Read.val_main_v110, Read.val_main_v111, Read.val_main_v112, Read.val_main_v113, Read.val_main_v114, Read.val_main_v115, Read.val_main_v116, Read.val_main_v117, Read.val_main_v118, Read.val_main_v119, Read.val_main_call7_v0, Read.val_main_call7_v1, Read.val_main_call7_cst, Read.val_main_call7_v2, Read.val_main_call7_v3, Read.val_main_call7_cst_0, Read.val_main_call7_v4, Read.val_main_call7_v5]
  rfl

/-- The residual row before its normalisation. -/
theorem resid (X : FVec Ideal S65536x1024 .f32) (Q : FVec Ideal S65536x8 .f32) (A B : FVec Ideal S8x1024x3584 .f32)
    (D : FVec Ideal S8x3584x1024 .f32) (r : Fin 65536) (n : Fin 1024) :
    Read.val_main_v123 (F := Ideal) X Q A B D (ix2 r n) = Rows.res (fun k => X (ix2 r k)) (Rows.mix (fun k => X (ix2 r k)) (fun e => Q (ix2 r e))
      (fun e k j => A (ix3 e k j)) (fun e k j => B (ix3 e k j)) (fun e j n => D (ix3 e j n))) n := by
  unfold Rows.res Rows.mix
  rw [Fin.sum_univ_eight, ← layer0, ← layer1, ← layer2, ← layer3, ← layer4, ← layer5, ← layer6, ← layer7]
  pointwise [Read.val_main_v123, Read.val_main_v122, Read.val_main_v121, Read.val_main_cst_0, Read.val_main_v0, Read.val_main_cst, Read.val_main_v15, Read.val_main_v30, Read.val_main_v45, Read.val_main_v60, Read.val_main_v75, Read.val_main_v90, Read.val_main_v105, Read.val_main_v120]

/-- The reference's result read at one index. -/
theorem out_apply (X : FVec Ideal S65536x1024 .f32) (Q : FVec Ideal S65536x8 .f32) (A B : FVec Ideal S8x1024x3584 .f32)
    (D : FVec Ideal S8x3584x1024 .f32) (g b : FVec Ideal S1024 .f32) (r : Fin 65536) (n : Fin 1024) :
    Read.val_main_v147 (F := Ideal) X Q A B D g b (ix2 r n) = Rows.ln (Rows.res (fun k => X (ix2 r k)) (Rows.mix (fun k => X (ix2 r k))
      (fun e => Q (ix2 r e)) (fun e k j => A (ix3 e k j)) (fun e k j => B (ix3 e k j)) (fun e j n => D (ix3 e j n))))
      (fun k => g (ix1 k)) (fun k => b (ix1 k)) n := by
  rw [Rows.ln_congr (fun k => (resid X Q A B D r k).symm) (fun k => rfl) (fun k => rfl)]
  generalize hv : Read.val_main_v123 (F := Ideal) X Q A B D = v
  pointwise [Read.val_main_v124, Read.val_main_v125, Read.val_main_v126, Read.val_main_v127, Read.val_main_v128, Read.val_main_v129, Read.val_main_v130, Read.val_main_v131, Read.val_main_v132, Read.val_main_v133, Read.val_main_v134, Read.val_main_v135, Read.val_main_v136, Read.val_main_v137, Read.val_main_v138, Read.val_main_v139, Read.val_main_v140, Read.val_main_v141, Read.val_main_v142, Read.val_main_v143, Read.val_main_v144, Read.val_main_v145, Read.val_main_v146, Read.val_main_v147, Read.val_main_cst_1, Read.val_main_cst_2, Read.val_main_cst_3, Read.val_main_cst_4, Read.val_main_cst_5]
  simp only [hv]
  rfl

end Cert.MoeReferenceIdeal.Value

end
-- ==== Proof.MoeClaim.lean ====
module

public import proofs.«01_k».proof.Defs
public import proofs.«01_k».proof.Proof.Gen.MoeIdeal.Value
public import proofs.«01_k».proof.Proof.Gen.MoeReferenceIdeal.Run
public import proofs.«01_k».proof.Proof.MoeValue
public import proofs.«01_k».proof.Proof.MoeRef

@[expose] public section

set_option maxRecDepth 16384

noncomputable section

open Idealize.ShloMosaic Idealize.ShloMosaic.TcCoe Idealize.SL.Sem

namespace Cert.MoeClaim

instance : Cert.MoeIdeal.Facts := Cert.MoeIdeal.Gen.facts
instance : Cert.MoeReferenceIdeal.Facts := Cert.MoeReferenceIdeal.Gen.facts

/-- The shape relations the precondition's function states. -/
theorem preFacts : Cert.Pre_gates_weights.Facts where
  bcast_S_S65536x8 := by decide

/-- What the precondition says of the gates: none is negative and none is infinite. -/
theorem gates_of_pre [Cert.Pre_gates_weights.Facts] (X : FVec Ideal Cert.Pre_gates_weights.S65536x1024 .f32)
    (Q : FVec Ideal Cert.Pre_gates_weights.S65536x8 .f32)
    (A B : FVec Ideal Cert.Pre_gates_weights.S8x1024x3584 .f32) (D : FVec Ideal Cert.Pre_gates_weights.S8x3584x1024 .f32)
    (g b : FVec Ideal Cert.Pre_gates_weights.S1024 .f32)
    (h : (Cert.Pre_gates_weights.fn (F := Ideal) X Q A B D g b).1 = (fun _ => 1#1) ∧ (Cert.Pre_gates_weights.fn (F := Ideal) X Q A B D g b).2 = (fun _ => 1#1))
    (r : Fin 65536) (e : Fin 8) : 0 ≤ Q (ix2 r e) ∧ Q (ix2 r e) ≠ ⊤ := by
  have h1 := congrFun h.1 (ix2 r e)
  have h2 := congrFun h.2 (ix2 r e)
  pointwise [Cert.Pre_gates_weights.fn] at h1 h2
  have ht : Ideal.ofBits FTy.f32 2139095040#32 = ⊤ := by
    simp [Ideal.ofBits, Ideal.ieee]
  rw [ht] at h2
  have d1 : decide (0 ≤ Q (ix2 r e)) = true := by
    by_contra hc
    rw [Bool.not_eq_true] at hc
    rw [hc] at h1
    exact absurd h1 (by decide)
  have d2 : decide (Q (ix2 r e) < ⊤) = true := by
    by_contra hc
    rw [Bool.not_eq_true] at hc
    rw [hc] at h2
    exact absurd h2 (by decide)
  exact ⟨of_decide_eq_true d1, ne_of_lt (of_decide_eq_true d2)⟩

/-- The idealized expert kernel and the idealized plain reference leave the same array. -/
theorem algebraic [Cert.Pre_gates_weights.Facts] : Cert.algebraic_MoeIdeal_MoeReferenceIdeal_pre_gates_weights := by
  intro m g m' g' hpre hag
  have hq := fun c : Dev Cert.MoeIdeal.nD => gates_of_pre _ _ _ _ _ _ _ (hpre c)
  refine ⟨_, (θ_run _ _ _).mono (fun r h c => ⟨(h c).1.trans (Cert.MoeIdeal.Value.final m c (hq c)), (h c).2⟩) (Cert.MoeIdeal.Value.run_blocks m g),
    (θ_run _ _ _).mono (fun r h c => ⟨(h c).1.trans ?_, (h c).2⟩) (Cert.MoeReferenceIdeal.Value.run m' g')⟩
  refine (Cert.MoeReferenceIdeal.Read.val_main_v147_eq _).trans ?_
  funext i
  idx_vars i
  refine (Cert.MoeReferenceIdeal.Value.out_apply _ _ _ _ _ _ _ i0 i1).trans ?_
  show Cert.MoeIdeal.Value.G (m' ((c.tc : Thread Cert.MoeReferenceIdeal.nD Cert.MoeReferenceIdeal.τ).loc Cert.MoeReferenceIdeal.main_arg0))
    (m' (c.tc.loc Cert.MoeReferenceIdeal.main_arg1)) (m' (c.tc.loc Cert.MoeReferenceIdeal.main_arg2)) (m' (c.tc.loc Cert.MoeReferenceIdeal.main_arg3))
    (m' (c.tc.loc Cert.MoeReferenceIdeal.main_arg4)) (m' (c.tc.loc Cert.MoeReferenceIdeal.main_arg5))
    (m' (c.tc.loc Cert.MoeReferenceIdeal.main_arg6)) (ix2 i0 i1) = _
  rw [(hag c).1, (hag c).2.1, (hag c).2.2.1, (hag c).2.2.2.1, (hag c).2.2.2.2.1, (hag c).2.2.2.2.2.1, (hag c).2.2.2.2.2.2]

end Cert.MoeClaim

end
-- ==== Proof.lean ====
module

public import proofs.«01_k».proof.Defs
public import proofs.«01_k».proof.Proof.Gen.Combine
public import proofs.«01_k».proof.Proof.Gen.Combine.Frame
public import proofs.«01_k».proof.Proof.Gen.CombineIdeal
public import proofs.«01_k».proof.Proof.Gen.CombineIdeal.Frame
public import proofs.«01_k».proof.Proof.Gen.CombineIdeal.Value
public import proofs.«01_k».proof.Proof.Gen.CombineReferenceIdeal
public import proofs.«01_k».proof.Proof.Gen.CombineReferenceIdeal.Run
public import proofs.«01_k».proof.Proof.Gen.CombineReferenceIdeal.Read
public import proofs.«01_k».proof.Proof.Gen.Experts
public import proofs.«01_k».proof.Proof.Gen.Experts.Skeleton
public import proofs.«01_k».proof.Proof.Gen.Experts.Launch
public import proofs.«01_k».proof.Proof.Gen.ExpertsIdeal
public import proofs.«01_k».proof.Proof.Gen.ExpertsIdeal.Skeleton
public import proofs.«01_k».proof.Proof.Gen.ExpertsIdeal.Launch
public import proofs.«01_k».proof.Proof.Gen.ExpertsReferenceIdeal
public import proofs.«01_k».proof.Proof.Gen.ExpertsReferenceIdeal.Run
public import proofs.«01_k».proof.Proof.Gen.ExpertsReferenceIdeal.Read
public import proofs.«01_k».proof.Proof.Gen.Ffn
public import proofs.«01_k».proof.Proof.Gen.Ffn.Skeleton
public import proofs.«01_k».proof.Proof.Gen.Ffn.Launch
public import proofs.«01_k».proof.Proof.Gen.Ffn.Points
public import proofs.«01_k».proof.Proof.Gen.Ffn.Frame
public import proofs.«01_k».proof.Proof.Gen.FfnIdeal
public import proofs.«01_k».proof.Proof.Gen.FfnIdeal.Skeleton
public import proofs.«01_k».proof.Proof.Gen.FfnIdeal.Launch
public import proofs.«01_k».proof.Proof.Gen.FfnIdeal.Points
public import proofs.«01_k».proof.Proof.Gen.FfnIdeal.Frame
public import proofs.«01_k».proof.Proof.Gen.FfnReferenceIdeal
public import proofs.«01_k».proof.Proof.Gen.FfnIdeal.Value
public import proofs.«01_k».proof.Proof.Gen.FfnReferenceIdeal.Run
public import proofs.«01_k».proof.Proof.Gen.FfnReferenceIdeal.Read
public import proofs.«01_k».proof.Proof.Gen.Moe
public import proofs.«01_k».proof.Proof.Gen.Moe.Skeleton
public import proofs.«01_k».proof.Proof.Gen.Moe.Launch
public import proofs.«01_k».proof.Proof.Gen.Moe.Points
public import proofs.«01_k».proof.Proof.Gen.Moe.Frame
public import proofs.«01_k».proof.Proof.Gen.MoeIdeal
public import proofs.«01_k».proof.Proof.Gen.MoeIdeal.Skeleton
public import proofs.«01_k».proof.Proof.Gen.MoeIdeal.Launch
public import proofs.«01_k».proof.Proof.Gen.MoeIdeal.Points
public import proofs.«01_k».proof.Proof.Gen.MoeIdeal.Frame
public import proofs.«01_k».proof.Proof.Gen.MoeIdeal.Value
public import proofs.«01_k».proof.Proof.Gen.MoeReferenceIdeal
public import proofs.«01_k».proof.Proof.Gen.MoeReferenceIdeal.Run
public import proofs.«01_k».proof.Proof.Gen.MoeReferenceIdeal.Read
public import proofs.«01_k».proof.Proof.Gen.Mix
public import proofs.«01_k».proof.Proof.Gen.Mix.Skeleton
public import proofs.«01_k».proof.Proof.Gen.Mix.Launch
public import proofs.«01_k».proof.Proof.Gen.Mix.Points
public import proofs.«01_k».proof.Proof.Gen.Mix.Frame
public import proofs.«01_k».proof.Proof.Gen.MixIdeal
public import proofs.«01_k».proof.Proof.Gen.MixIdeal.Skeleton
public import proofs.«01_k».proof.Proof.Gen.MixIdeal.Launch
public import proofs.«01_k».proof.Proof.Gen.MixIdeal.Points
public import proofs.«01_k».proof.Proof.Gen.MixIdeal.Frame
public import proofs.«01_k».proof.Proof.Gen.MixIdeal.Value
public import proofs.«01_k».proof.Proof.Gen.MixReferenceIdeal
public import proofs.«01_k».proof.Proof.Gen.MixReferenceIdeal.Run
public import proofs.«01_k».proof.Proof.Gen.MixReferenceIdeal.Read
public import proofs.«01_k».proof.Proof.CombineClaim
public import proofs.«01_k».proof.Proof.ExpertsClaim
public import proofs.«01_k».proof.Proof.FfnClaim
public import proofs.«01_k».proof.Proof.MixClaim
public import proofs.«01_k».proof.Proof.MoeClaim
public import Idealize.ShloMosaic.Adequacy
public import Idealize.ShloMosaic.Init

@[expose] public section

noncomputable section

namespace Cert.Proof

open Idealize.ShloMosaic Idealize.SL.Sem Cert.Ffn

theorem claim : Cert.Claim := ⟨Cert.Moe.Gen.facts, Cert.MoeIdeal.Gen.facts, Cert.MoeReferenceIdeal.Gen.facts, Cert.Ffn.Gen.facts, Cert.FfnIdeal.Gen.facts,
  Cert.FfnReferenceIdeal.Gen.facts, Cert.Mix.Gen.facts, Cert.MixIdeal.Gen.facts, Cert.MixReferenceIdeal.Gen.facts,
  Cert.Experts.Gen.facts, Cert.ExpertsIdeal.Gen.facts, Cert.ExpertsReferenceIdeal.Gen.facts,
  Cert.Combine.Gen.facts, Cert.CombineIdeal.Gen.facts, Cert.CombineReferenceIdeal.Gen.facts, Cert.MoeClaim.preFacts, Cert.ExpertsClaim.preFacts,
  fun m ρ _ => Cert.Moe.Gen.frame m ρ, fun m ρ _ => Cert.MoeIdeal.Gen.frame m ρ, fun m ρ _ => Cert.MoeIdeal.Gen.frame m ρ,
  fun m ρ _ => (θ_run _ _ _).mono (fun r h => ⟨fun c => (h c).2, Idealize.ShloMosaic.sem_eq_zero_of_no_sems (by decide) r.2⟩) (Cert.MoeReferenceIdeal.Value.run m ρ),
  fun m ρ _ => (θ_run _ _ _).mono (fun r h => ⟨fun c => (h c).2, Idealize.ShloMosaic.sem_eq_zero_of_no_sems (by decide) r.2⟩) (Cert.MoeReferenceIdeal.Value.run m ρ),
  fun m ρ _ => Cert.Ffn.Gen.frame m ρ, fun m ρ _ => Cert.FfnIdeal.Gen.frame m ρ,
  fun m ρ _ => (θ_run _ _ _).mono (fun r h => ⟨fun c => (h c).2.2, Idealize.ShloMosaic.sem_eq_zero_of_no_sems (by decide) r.2⟩) (Cert.FfnReferenceIdeal.Value.run m ρ),
  fun m ρ _ => Cert.Mix.Gen.frame m ρ, fun m ρ _ => Cert.MixIdeal.Gen.frame m ρ,
  fun m ρ _ => (θ_run _ _ _).mono (fun r h => ⟨fun c => (h c).2.2, Idealize.ShloMosaic.sem_eq_zero_of_no_sems (by decide) r.2⟩) (Cert.MixReferenceIdeal.Value.run m ρ),
  Cert.ExpertsClaim.frame, Cert.ExpertsClaim.frameI, fun m ρ _ => Cert.ExpertsClaim.frameI m ρ trivial,
  fun m ρ _ => (θ_run _ _ _).mono (fun r h => ⟨fun c => (h c).2, Idealize.ShloMosaic.sem_eq_zero_of_no_sems (by decide) r.2⟩) (Cert.ExpertsReferenceIdeal.Value.run m ρ),
  fun m ρ _ => (θ_run _ _ _).mono (fun r h => ⟨fun c => (h c).2, Idealize.ShloMosaic.sem_eq_zero_of_no_sems (by decide) r.2⟩) (Cert.ExpertsReferenceIdeal.Value.run m ρ),
  fun m ρ _ => Cert.Combine.Gen.frame m ρ, fun m ρ _ => Cert.CombineIdeal.Gen.frame m ρ,
  fun m ρ _ => (θ_run _ _ _).mono (fun r h => ⟨fun c => (h c).2, Idealize.ShloMosaic.sem_eq_zero_of_no_sems (by decide) r.2⟩) (Cert.CombineReferenceIdeal.Value.run m ρ),
  trivial, @Cert.MoeClaim.algebraic Cert.MoeClaim.preFacts, trivial, Cert.FfnClaim.algebraic, trivial, Cert.MixClaim.algebraic,
  trivial, @Cert.ExpertsClaim.algebraic Cert.ExpertsClaim.preFacts, trivial, Cert.CombineClaim.algebraic⟩

end Cert.Proof

end
